-- ==== Defs.lean ====
def Pre_Lat (m : (ℓ : Loc Cert.Lat.nD Cert.Lat.τ Cert.Lat.sig) → Buf (Elt Bits) ℓ) : Prop :=
  True

def Pre_LatIdeal (m : (ℓ : Loc Cert.LatIdeal.nD Cert.LatIdeal.τ Cert.LatIdeal.sig) → Buf (Elt Ideal) ℓ) : Prop :=
  True

def Pre_LatRefIdeal (m : (ℓ : Loc Cert.LatRefIdeal.nD Cert.LatRefIdeal.τ Cert.LatRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Moe [hPre_tables_in_range : Cert.Pre_tables_in_range.Facts] (m : (ℓ : Loc Cert.Moe.nD Cert.Moe.τ Cert.Moe.sig) → Buf (Elt Bits) ℓ) : Prop :=
  ∀ c : Dev Cert.Moe.nD,
    (Cert.Pre_tables_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6)) (m ((c.tc : Thread Cert.Moe.nD Cert.Moe.τ).loc Cert.Moe.main_arg7)) (m ((c.tc : Thread Cert.Moe.nD Cert.Moe.τ).loc Cert.Moe.main_arg8)) (m ((c.tc : Thread Cert.Moe.nD Cert.Moe.τ).loc Cert.Moe.main_arg9))).1 = (fun _ => 1#1)
    ∧ (Cert.Pre_tables_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6)) (m ((c.tc : Thread Cert.Moe.nD Cert.Moe.τ).loc Cert.Moe.main_arg7)) (m ((c.tc : Thread Cert.Moe.nD Cert.Moe.τ).loc Cert.Moe.main_arg8)) (m ((c.tc : Thread Cert.Moe.nD Cert.Moe.τ).loc Cert.Moe.main_arg9))).2.1 = (fun _ => 1#1)
    ∧ (Cert.Pre_tables_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6)) (m ((c.tc : Thread Cert.Moe.nD Cert.Moe.τ).loc Cert.Moe.main_arg7)) (m ((c.tc : Thread Cert.Moe.nD Cert.Moe.τ).loc Cert.Moe.main_arg8)) (m ((c.tc : Thread Cert.Moe.nD Cert.Moe.τ).loc Cert.Moe.main_arg9))).2.2.1 = (fun _ => 1#1)
    ∧ (Cert.Pre_tables_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6)) (m ((c.tc : Thread Cert.Moe.nD Cert.Moe.τ).loc Cert.Moe.main_arg7)) (m ((c.tc : Thread Cert.Moe.nD Cert.Moe.τ).loc Cert.Moe.main_arg8)) (m ((c.tc : Thread Cert.Moe.nD Cert.Moe.τ).loc Cert.Moe.main_arg9))).2.2.2 = (fun _ => 1#1)

def Pre_MoeIdeal [hPre_tables_in_range : Cert.Pre_tables_in_range.Facts] (m : (ℓ : Loc Cert.MoeIdeal.nD Cert.MoeIdeal.τ Cert.MoeIdeal.sig) → Buf (Elt Ideal) ℓ) : Prop :=
  ∀ c : Dev Cert.MoeIdeal.nD,
    (Cert.Pre_tables_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8)) (m ((c.tc : Thread Cert.MoeIdeal.nD Cert.MoeIdeal.τ).loc Cert.MoeIdeal.main_arg9))).1 = (fun _ => 1#1)
    ∧ (Cert.Pre_tables_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8)) (m ((c.tc : Thread Cert.MoeIdeal.nD Cert.MoeIdeal.τ).loc Cert.MoeIdeal.main_arg9))).2.1 = (fun _ => 1#1)
    ∧ (Cert.Pre_tables_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8)) (m ((c.tc : Thread Cert.MoeIdeal.nD Cert.MoeIdeal.τ).loc Cert.MoeIdeal.main_arg9))).2.2.1 = (fun _ => 1#1)
    ∧ (Cert.Pre_tables_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8)) (m ((c.tc : Thread Cert.MoeIdeal.nD Cert.MoeIdeal.τ).loc Cert.MoeIdeal.main_arg9))).2.2.2 = (fun _ => 1#1)

def Pre_MoeIdeal_router_finite [hPre_router_finite : Cert.Pre_router_finite.Facts] (m : (ℓ : Loc Cert.MoeIdeal.nD Cert.MoeIdeal.τ Cert.MoeIdeal.sig) → Buf (Elt Ideal) ℓ) : Prop :=
  ∀ c : Dev Cert.MoeIdeal.nD,
    (Cert.Pre_router_finite.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8)) (m ((c.tc : Thread Cert.MoeIdeal.nD Cert.MoeIdeal.τ).loc Cert.MoeIdeal.main_arg9))).1 = (fun _ => 1#1)
    ∧ (Cert.Pre_router_finite.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8)) (m ((c.tc : Thread Cert.MoeIdeal.nD Cert.MoeIdeal.τ).loc Cert.MoeIdeal.main_arg9))).2.1 = (fun _ => 1#1)
    ∧ (Cert.Pre_router_finite.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8)) (m ((c.tc : Thread Cert.MoeIdeal.nD Cert.MoeIdeal.τ).loc Cert.MoeIdeal.main_arg9))).2.2.1 = (fun _ => 1#1)
    ∧ (Cert.Pre_router_finite.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8)) (m ((c.tc : Thread Cert.MoeIdeal.nD Cert.MoeIdeal.τ).loc Cert.MoeIdeal.main_arg9))).2.2.2.1 = (fun _ => 1#1)
    ∧ (Cert.Pre_router_finite.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8)) (m ((c.tc : Thread Cert.MoeIdeal.nD Cert.MoeIdeal.τ).loc Cert.MoeIdeal.main_arg9))).2.2.2.2.1 = (fun _ => 1#1)
    ∧ (Cert.Pre_router_finite.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8)) (m ((c.tc : Thread Cert.MoeIdeal.nD Cert.MoeIdeal.τ).loc Cert.MoeIdeal.main_arg9))).2.2.2.2.2.1 = (fun _ => 1#1)
    ∧ (Cert.Pre_router_finite.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8)) (m ((c.tc : Thread Cert.MoeIdeal.nD Cert.MoeIdeal.τ).loc Cert.MoeIdeal.main_arg9))).2.2.2.2.2.2 = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_router_finite [hPre_router_finite : Cert.Pre_router_finite.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_router_finite.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7)) (m ((c.tc : Thread Cert.MoeRefIdeal.nD Cert.MoeRefIdeal.τ).loc Cert.MoeRefIdeal.main_arg8)) (m ((c.tc : Thread Cert.MoeRefIdeal.nD Cert.MoeRefIdeal.τ).loc Cert.MoeRefIdeal.main_arg9))).1 = (fun _ => 1#1)
    ∧ (Cert.Pre_router_finite.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7)) (m ((c.tc : Thread Cert.MoeRefIdeal.nD Cert.MoeRefIdeal.τ).loc Cert.MoeRefIdeal.main_arg8)) (m ((c.tc : Thread Cert.MoeRefIdeal.nD Cert.MoeRefIdeal.τ).loc Cert.MoeRefIdeal.main_arg9))).2.1 = (fun _ => 1#1)
    ∧ (Cert.Pre_router_finite.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7)) (m ((c.tc : Thread Cert.MoeRefIdeal.nD Cert.MoeRefIdeal.τ).loc Cert.MoeRefIdeal.main_arg8)) (m ((c.tc : Thread Cert.MoeRefIdeal.nD Cert.MoeRefIdeal.τ).loc Cert.MoeRefIdeal.main_arg9))).2.2.1 = (fun _ => 1#1)
    ∧ (Cert.Pre_router_finite.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7)) (m ((c.tc : Thread Cert.MoeRefIdeal.nD Cert.MoeRefIdeal.τ).loc Cert.MoeRefIdeal.main_arg8)) (m ((c.tc : Thread Cert.MoeRefIdeal.nD Cert.MoeRefIdeal.τ).loc Cert.MoeRefIdeal.main_arg9))).2.2.2.1 = (fun _ => 1#1)
    ∧ (Cert.Pre_router_finite.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7)) (m ((c.tc : Thread Cert.MoeRefIdeal.nD Cert.MoeRefIdeal.τ).loc Cert.MoeRefIdeal.main_arg8)) (m ((c.tc : Thread Cert.MoeRefIdeal.nD Cert.MoeRefIdeal.τ).loc Cert.MoeRefIdeal.main_arg9))).2.2.2.2.1 = (fun _ => 1#1)
    ∧ (Cert.Pre_router_finite.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7)) (m ((c.tc : Thread Cert.MoeRefIdeal.nD Cert.MoeRefIdeal.τ).loc Cert.MoeRefIdeal.main_arg8)) (m ((c.tc : Thread Cert.MoeRefIdeal.nD Cert.MoeRefIdeal.τ).loc Cert.MoeRefIdeal.main_arg9))).2.2.2.2.2.1 = (fun _ => 1#1)
    ∧ (Cert.Pre_router_finite.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7)) (m ((c.tc : Thread Cert.MoeRefIdeal.nD Cert.MoeRefIdeal.τ).loc Cert.MoeRefIdeal.main_arg8)) (m ((c.tc : Thread Cert.MoeRefIdeal.nD Cert.MoeRefIdeal.τ).loc Cert.MoeRefIdeal.main_arg9))).2.2.2.2.2.2 = (fun _ => 1#1)

def quiescent_Lat [hLat : Cert.Lat.Facts] : Prop :=
  ∀ (m : (ℓ : Loc Cert.Lat.nD Cert.Lat.τ Cert.Lat.sig) → Buf (Elt Bits) ℓ) (g : Dev Cert.Lat.nD → PrngReg), Pre_Lat m →
    θ_run (Cert.Lat.defs (F := Bits)) (onTc (τ := Cert.Lat.τ) (Cert.Lat.main (F := Bits))) ⟨m, fun _ => 0, g⟩ (fun r => (∀ c : Dev Cert.Lat.nD,
      r.2.mem ((c.tc : Thread Cert.Lat.nD Cert.Lat.τ).loc Cert.Lat.main_arg0) = m ((c.tc : Thread Cert.Lat.nD Cert.Lat.τ).loc Cert.Lat.main_arg0)
      ∧ r.2.mem ((c.tc : Thread Cert.Lat.nD Cert.Lat.τ).loc Cert.Lat.main_arg1) = m ((c.tc : Thread Cert.Lat.nD Cert.Lat.τ).loc Cert.Lat.main_arg1)
      ∧ r.2.mem ((c.tc : Thread Cert.Lat.nD Cert.Lat.τ).loc Cert.Lat.main_arg2) = m ((c.tc : Thread Cert.Lat.nD Cert.Lat.τ).loc Cert.Lat.main_arg2)
      ∧ r.2.mem ((c.tc : Thread Cert.Lat.nD Cert.Lat.τ).loc Cert.Lat.main_arg3) = m ((c.tc : Thread Cert.Lat.nD Cert.Lat.τ).loc Cert.Lat.main_arg3))
      ∧ r.2.sem = fun _ => 0)

def quiescent_LatIdeal [hLatIdeal : Cert.LatIdeal.Facts] : Prop :=
  ∀ (m : (ℓ : Loc Cert.LatIdeal.nD Cert.LatIdeal.τ Cert.LatIdeal.sig) → Buf (Elt Ideal) ℓ) (g : Dev Cert.LatIdeal.nD → PrngReg), Pre_LatIdeal m →
    θ_run (Cert.LatIdeal.defs (F := Ideal)) (onTc (τ := Cert.LatIdeal.τ) (Cert.LatIdeal.main (F := Ideal))) ⟨m, fun _ => 0, g⟩ (fun r => (∀ c : Dev Cert.LatIdeal.nD,
      r.2.mem ((c.tc : Thread Cert.LatIdeal.nD Cert.LatIdeal.τ).loc Cert.LatIdeal.main_arg0) = m ((c.tc : Thread Cert.LatIdeal.nD Cert.LatIdeal.τ).loc Cert.LatIdeal.main_arg0)
      ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
      ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
      ∧ r.2.mem ((c.tc : Thread Cert.LatIdeal.nD Cert.LatIdeal.τ).loc Cert.LatIdeal.main_arg3) = m ((c.tc : Thread Cert.LatIdeal.nD Cert.LatIdeal.τ).loc Cert.LatIdeal.main_arg3))
      ∧ r.2.sem = fun _ => 0)

def quiescent_LatRefIdeal [hLatRefIdeal : Cert.LatRefIdeal.Facts] : Prop :=
  ∀ (m : (ℓ : Loc Cert.LatRefIdeal.nD Cert.LatRefIdeal.τ Cert.LatRefIdeal.sig) → Buf (Elt Ideal) ℓ) (g : Dev Cert.LatRefIdeal.nD → PrngReg), Pre_LatRefIdeal m →
    θ_run (Cert.LatRefIdeal.defs (F := Ideal)) (onTc (τ := Cert.LatRefIdeal.τ) (Cert.LatRefIdeal.main (F := Ideal))) ⟨m, fun _ => 0, g⟩ (fun r => (∀ c : Dev Cert.LatRefIdeal.nD,
      r.2.mem ((c.tc : Thread Cert.LatRefIdeal.nD Cert.LatRefIdeal.τ).loc Cert.LatRefIdeal.main_arg0) = m ((c.tc : Thread Cert.LatRefIdeal.nD Cert.LatRefIdeal.τ).loc Cert.LatRefIdeal.main_arg0)
      ∧ r.2.mem ((c.tc : Thread Cert.LatRefIdeal.nD Cert.LatRefIdeal.τ).loc Cert.LatRefIdeal.main_arg1) = m ((c.tc : Thread Cert.LatRefIdeal.nD Cert.LatRefIdeal.τ).loc Cert.LatRefIdeal.main_arg1)
      ∧ r.2.mem ((c.tc : Thread Cert.LatRefIdeal.nD Cert.LatRefIdeal.τ).loc Cert.LatRefIdeal.main_arg2) = m ((c.tc : Thread Cert.LatRefIdeal.nD Cert.LatRefIdeal.τ).loc Cert.LatRefIdeal.main_arg2)
      ∧ r.2.mem ((c.tc : Thread Cert.LatRefIdeal.nD Cert.LatRefIdeal.τ).loc Cert.LatRefIdeal.main_arg3) = m ((c.tc : Thread Cert.LatRefIdeal.nD Cert.LatRefIdeal.τ).loc Cert.LatRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Moe [hMoe : Cert.Moe.Facts] [hPre_tables_in_range : Cert.Pre_tables_in_range.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7)
      ∧ r.2.mem ((c.tc : Thread Cert.Moe.nD Cert.Moe.τ).loc Cert.Moe.main_arg8) = m ((c.tc : Thread Cert.Moe.nD Cert.Moe.τ).loc Cert.Moe.main_arg8)
      ∧ r.2.mem ((c.tc : Thread Cert.Moe.nD Cert.Moe.τ).loc Cert.Moe.main_arg9) = m ((c.tc : Thread Cert.Moe.nD Cert.Moe.τ).loc Cert.Moe.main_arg9))
      ∧ r.2.sem = fun _ => 0)

def quiescent_MoeIdeal [hMoeIdeal : Cert.MoeIdeal.Facts] [hPre_tables_in_range : Cert.Pre_tables_in_range.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
      ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9))
      ∧ r.2.sem = fun _ => 0)

def quiescent_MoeIdeal_pre_router_finite [hMoeIdeal : Cert.MoeIdeal.Facts] [hPre_router_finite : Cert.Pre_router_finite.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_router_finite m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
      ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7)
      ∧ r.2.mem ((c.tc : Thread Cert.MoeRefIdeal.nD Cert.MoeRefIdeal.τ).loc Cert.MoeRefIdeal.main_arg8) = m ((c.tc : Thread Cert.MoeRefIdeal.nD Cert.MoeRefIdeal.τ).loc Cert.MoeRefIdeal.main_arg8)
      ∧ r.2.mem ((c.tc : Thread Cert.MoeRefIdeal.nD Cert.MoeRefIdeal.τ).loc Cert.MoeRefIdeal.main_arg9) = m ((c.tc : Thread Cert.MoeRefIdeal.nD Cert.MoeRefIdeal.τ).loc Cert.MoeRefIdeal.main_arg9))
      ∧ r.2.sem = fun _ => 0)

def quiescent_MoeRefIdeal_pre_router_finite [hMoeRefIdeal : Cert.MoeRefIdeal.Facts] [hPre_router_finite : Cert.Pre_router_finite.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_router_finite m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7)
      ∧ r.2.mem ((c.tc : Thread Cert.MoeRefIdeal.nD Cert.MoeRefIdeal.τ).loc Cert.MoeRefIdeal.main_arg8) = m ((c.tc : Thread Cert.MoeRefIdeal.nD Cert.MoeRefIdeal.τ).loc Cert.MoeRefIdeal.main_arg8)
      ∧ r.2.mem ((c.tc : Thread Cert.MoeRefIdeal.nD Cert.MoeRefIdeal.τ).loc Cert.MoeRefIdeal.main_arg9) = m ((c.tc : Thread Cert.MoeRefIdeal.nD Cert.MoeRefIdeal.τ).loc Cert.MoeRefIdeal.main_arg9))
      ∧ r.2.sem = fun _ => 0)

def preserves_Lat_LatIdeal : Prop :=
  IdealRules.named_const.Statement Cert.LatIdeal.κ "mask" .f32 0xF149F2CA#32 ⊥

def algebraic_LatIdeal_LatRefIdeal [hLatIdeal : Cert.LatIdeal.Facts] [hLatRefIdeal : Cert.LatRefIdeal.Facts] : Prop :=
  ∀ (m : (ℓ : Loc Cert.LatIdeal.nD Cert.LatIdeal.τ Cert.LatIdeal.sig) → Buf (Elt Ideal) ℓ) (g : Dev Cert.LatIdeal.nD → PrngReg)
    (m' : (ℓ : Loc Cert.LatRefIdeal.nD Cert.LatRefIdeal.τ Cert.LatRefIdeal.sig) → Buf (Elt Ideal) ℓ) (g' : Dev Cert.LatRefIdeal.nD → PrngReg), Pre_LatIdeal m →
    (∀ c : Dev Cert.LatIdeal.nD,
      m' ((c.tc : Thread Cert.LatRefIdeal.nD Cert.LatRefIdeal.τ).loc Cert.LatRefIdeal.main_arg0) = m ((c.tc : Thread Cert.LatIdeal.nD Cert.LatIdeal.τ).loc Cert.LatIdeal.main_arg0)
      ∧ m' ((c.tc : Thread Cert.LatRefIdeal.nD Cert.LatRefIdeal.τ).loc Cert.LatRefIdeal.main_arg1) = m ((c.tc : Thread Cert.LatIdeal.nD Cert.LatIdeal.τ).loc Cert.LatIdeal.main_arg1)
      ∧ m' ((c.tc : Thread Cert.LatRefIdeal.nD Cert.LatRefIdeal.τ).loc Cert.LatRefIdeal.main_arg2) = m ((c.tc : Thread Cert.LatIdeal.nD Cert.LatIdeal.τ).loc Cert.LatIdeal.main_arg2)
      ∧ m' ((c.tc : Thread Cert.LatRefIdeal.nD Cert.LatRefIdeal.τ).loc Cert.LatRefIdeal.main_arg3) = m ((c.tc : Thread Cert.LatIdeal.nD Cert.LatIdeal.τ).loc Cert.LatIdeal.main_arg3)) →
    ∃ (v0 : (c : Dev Cert.LatIdeal.nD) → Buf (Elt Ideal) ((c.tc : Thread Cert.LatIdeal.nD Cert.LatIdeal.τ).loc Cert.LatIdeal.main_v8)),
      θ_run (Cert.LatIdeal.defs (F := Ideal)) (onTc (τ := Cert.LatIdeal.τ) (Cert.LatIdeal.main (F := Ideal))) ⟨m, fun _ => 0, g⟩ (fun r => ∀ c : Dev Cert.LatIdeal.nD,
          r.2.mem ((c.tc : Thread Cert.LatIdeal.nD Cert.LatIdeal.τ).loc Cert.LatIdeal.main_v8) = v0 c
          ∧ r.2.mem ((c.tc : Thread Cert.LatIdeal.nD Cert.LatIdeal.τ).loc Cert.LatIdeal.main_arg0) = m ((c.tc : Thread Cert.LatIdeal.nD Cert.LatIdeal.τ).loc Cert.LatIdeal.main_arg0)
          ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
          ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
          ∧ r.2.mem ((c.tc : Thread Cert.LatIdeal.nD Cert.LatIdeal.τ).loc Cert.LatIdeal.main_arg3) = m ((c.tc : Thread Cert.LatIdeal.nD Cert.LatIdeal.τ).loc Cert.LatIdeal.main_arg3))
      ∧ θ_run (Cert.LatRefIdeal.defs (F := Ideal)) (onTc (τ := Cert.LatRefIdeal.τ) (Cert.LatRefIdeal.main (F := Ideal))) ⟨m', fun _ => 0, g'⟩ (fun r => ∀ c : Dev Cert.LatRefIdeal.nD,
          r.2.mem ((c.tc : Thread Cert.LatRefIdeal.nD Cert.LatRefIdeal.τ).loc Cert.LatRefIdeal.main_v88) = v0 c
          ∧ r.2.mem ((c.tc : Thread Cert.LatRefIdeal.nD Cert.LatRefIdeal.τ).loc Cert.LatRefIdeal.main_arg0) = m' ((c.tc : Thread Cert.LatRefIdeal.nD Cert.LatRefIdeal.τ).loc Cert.LatRefIdeal.main_arg0)
          ∧ r.2.mem ((c.tc : Thread Cert.LatRefIdeal.nD Cert.LatRefIdeal.τ).loc Cert.LatRefIdeal.main_arg1) = m' ((c.tc : Thread Cert.LatRefIdeal.nD Cert.LatRefIdeal.τ).loc Cert.LatRefIdeal.main_arg1)
          ∧ r.2.mem ((c.tc : Thread Cert.LatRefIdeal.nD Cert.LatRefIdeal.τ).loc Cert.LatRefIdeal.main_arg2) = m' ((c.tc : Thread Cert.LatRefIdeal.nD Cert.LatRefIdeal.τ).loc Cert.LatRefIdeal.main_arg2)
          ∧ r.2.mem ((c.tc : Thread Cert.LatRefIdeal.nD Cert.LatRefIdeal.τ).loc Cert.LatRefIdeal.main_arg3) = m' ((c.tc : Thread Cert.LatRefIdeal.nD Cert.LatRefIdeal.τ).loc Cert.LatRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v1_0)) (v1 : (c : Dev Cert.ProjIdeal.nD) → Buf (Elt Ideal) ((c.tc : Thread Cert.ProjIdeal.nD Cert.ProjIdeal.τ).loc Cert.ProjIdeal.main_v1_1)) (v2 : (c : Dev Cert.ProjIdeal.nD) → Buf (Elt Ideal) ((c.tc : Thread Cert.ProjIdeal.nD Cert.ProjIdeal.τ).loc Cert.ProjIdeal.main_v1_2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1_0) = v0 c
          ∧ r.2.mem ((c.tc : Thread Cert.ProjIdeal.nD Cert.ProjIdeal.τ).loc Cert.ProjIdeal.main_v1_1) = v1 c
          ∧ r.2.mem ((c.tc : Thread Cert.ProjIdeal.nD Cert.ProjIdeal.τ).loc Cert.ProjIdeal.main_v1_2) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v7) = v0 c
          ∧ r.2.mem ((c.tc : Thread Cert.ProjRefIdeal.nD Cert.ProjRefIdeal.τ).loc Cert.ProjRefIdeal.main_v8) = v1 c
          ∧ r.2.mem ((c.tc : Thread Cert.ProjRefIdeal.nD Cert.ProjRefIdeal.τ).loc Cert.ProjRefIdeal.main_v9) = v2 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Moe_MoeIdeal : Prop :=
  True

def algebraic_MoeIdeal_MoeRefIdeal_pre_router_finite [hMoeIdeal : Cert.MoeIdeal.Facts] [hMoeRefIdeal : Cert.MoeRefIdeal.Facts] [hPre_router_finite : Cert.Pre_router_finite.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal_router_finite m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)
      ∧ m' ((c.tc : Thread Cert.MoeRefIdeal.nD Cert.MoeRefIdeal.τ).loc Cert.MoeRefIdeal.main_arg7) = m ((c.tc : Thread Cert.MoeIdeal.nD Cert.MoeIdeal.τ).loc Cert.MoeIdeal.main_arg7)
      ∧ m' ((c.tc : Thread Cert.MoeRefIdeal.nD Cert.MoeRefIdeal.τ).loc Cert.MoeRefIdeal.main_arg8) = m ((c.tc : Thread Cert.MoeIdeal.nD Cert.MoeIdeal.τ).loc Cert.MoeIdeal.main_arg8)
      ∧ m' ((c.tc : Thread Cert.MoeRefIdeal.nD Cert.MoeRefIdeal.τ).loc Cert.MoeRefIdeal.main_arg9) = m ((c.tc : Thread Cert.MoeIdeal.nD Cert.MoeIdeal.τ).loc Cert.MoeIdeal.main_arg9)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
          ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
          ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v132) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6)
          ∧ r.2.mem ((c.tc : Thread Cert.MoeRefIdeal.nD Cert.MoeRefIdeal.τ).loc Cert.MoeRefIdeal.main_arg7) = m' ((c.tc : Thread Cert.MoeRefIdeal.nD Cert.MoeRefIdeal.τ).loc Cert.MoeRefIdeal.main_arg7)
          ∧ r.2.mem ((c.tc : Thread Cert.MoeRefIdeal.nD Cert.MoeRefIdeal.τ).loc Cert.MoeRefIdeal.main_arg8) = m' ((c.tc : Thread Cert.MoeRefIdeal.nD Cert.MoeRefIdeal.τ).loc Cert.MoeRefIdeal.main_arg8)
          ∧ r.2.mem ((c.tc : Thread Cert.MoeRefIdeal.nD Cert.MoeRefIdeal.τ).loc Cert.MoeRefIdeal.main_arg9) = m' ((c.tc : Thread Cert.MoeRefIdeal.nD Cert.MoeRefIdeal.τ).loc Cert.MoeRefIdeal.main_arg9))

def Claim : Prop :=
  ∃ (hLat : Cert.Lat.Facts) (hLatIdeal : Cert.LatIdeal.Facts) (hLatRefIdeal : Cert.LatRefIdeal.Facts) (hProj : Cert.Proj.Facts) (hProjIdeal : Cert.ProjIdeal.Facts) (hProjRefIdeal : Cert.ProjRefIdeal.Facts) (hMoe : Cert.Moe.Facts) (hMoeIdeal : Cert.MoeIdeal.Facts) (hMoeRefIdeal : Cert.MoeRefIdeal.Facts) (hPre_tables_in_range : Cert.Pre_tables_in_range.Facts) (hPre_router_finite : Cert.Pre_router_finite.Facts),
    quiescent_Lat (hLat := hLat)
    ∧ quiescent_LatIdeal (hLatIdeal := hLatIdeal)
    ∧ quiescent_LatRefIdeal (hLatRefIdeal := hLatRefIdeal)
    ∧ quiescent_Proj (hProj := hProj)
    ∧ quiescent_ProjIdeal (hProjIdeal := hProjIdeal)
    ∧ quiescent_ProjRefIdeal (hProjRefIdeal := hProjRefIdeal)
    ∧ quiescent_Moe (hMoe := hMoe) (hPre_tables_in_range := hPre_tables_in_range)
    ∧ quiescent_MoeIdeal (hMoeIdeal := hMoeIdeal) (hPre_tables_in_range := hPre_tables_in_range)
    ∧ quiescent_MoeIdeal_pre_router_finite (hMoeIdeal := hMoeIdeal) (hPre_router_finite := hPre_router_finite)
    ∧ quiescent_MoeRefIdeal (hMoeRefIdeal := hMoeRefIdeal)
    ∧ quiescent_MoeRefIdeal_pre_router_finite (hMoeRefIdeal := hMoeRefIdeal) (hPre_router_finite := hPre_router_finite)
    ∧ preserves_Lat_LatIdeal
    ∧ algebraic_LatIdeal_LatRefIdeal (hLatIdeal := hLatIdeal) (hLatRefIdeal := hLatRefIdeal)
    ∧ preserves_Proj_ProjIdeal
    ∧ algebraic_ProjIdeal_ProjRefIdeal (hProjIdeal := hProjIdeal) (hProjRefIdeal := hProjRefIdeal)
    ∧ preserves_Moe_MoeIdeal
    ∧ algebraic_MoeIdeal_MoeRefIdeal_pre_router_finite (hMoeIdeal := hMoeIdeal) (hMoeRefIdeal := hMoeRefIdeal) (hPre_router_finite := hPre_router_finite)
-- ==== Pre_router_finite.lean ====
abbrev S72 : Shape := ⟨1, ![72]⟩
abbrev S1 : Shape := ⟨1, ![1]⟩
abbrev S18432 : Shape := ⟨1, ![18432]⟩
abbrev S196608x128 : Shape := ⟨2, ![196608, 128]⟩
abbrev S16x2048x512 : Shape := ⟨3, ![16, 2048, 512]⟩
abbrev S16x512x2048 : Shape := ⟨3, ![16, 512, 2048]⟩
abbrev S2048x128 : Shape := ⟨2, ![2048, 128]⟩
abbrev S1x128 : Shape := ⟨2, ![1, 128]⟩
abbrev S_ : Shape := ⟨0, ![]⟩

class Facts : Prop where
  bcast_S_S72 : S_.BroadcastsInDim S72 (![] : Fin 0 → Fin S72.rank)
  bcast_S_S1 : S_.BroadcastsInDim S1 (![] : Fin 0 → Fin S1.rank)
  bcast_S_S18432 : S_.BroadcastsInDim S18432 (![] : Fin 0 → Fin S18432.rank)
  bcast_S_S196608x128 : S_.BroadcastsInDim S196608x128 (![] : Fin 0 → Fin S196608x128.rank)
  bitsLt_bf16_f32 : FTy.bits .bf16 < FTy.bits .f32
  bcast_S_S2048x128 : S_.BroadcastsInDim S2048x128 (![] : Fin 0 → Fin S2048x128.rank)
  bcast_S_S1x128 : S_.BroadcastsInDim S1x128 (![] : Fin 0 → Fin S1x128.rank)

variable [Facts]

def fn_part1 {F : FTy → Type} [FloatOps F] (main_arg3 : IVec S18432 32) (main_arg4 : FVec F S196608x128 .f32) (main_arg8 : FVec F S2048x128 .bf16) (main_arg9 : FVec F S1x128 .f32) (main_v4 : IVec S72 1) (main_v9 : IVec S72 1) (main_v14 : IVec S1 1) (main_v16 : IVec S18432 1) : IVec S72 1 × IVec S72 1 × IVec S1 1 × IVec S18432 1 × IVec S196608x128 1 × IVec S2048x128 1 × IVec S1x128 1 :=
  let main_c_6 : IVec S_ 32 := constantI S_ 32 12288#32
  let main_v17 : IVec S18432 32 := broadcastInDim S18432 ![] bcast_S_S18432 main_c_6
  let main_v18 : IVec S18432 1 := cmpi .slt main_arg3 main_v17
  let main_v19 : IVec S18432 1 := andi main_v16 main_v18
  let main_v20 : FVec F S196608x128 .f32 := Host.absf main_arg4
  let main_cst : FVec F S_ .f32 := constant S_ .f32 0x7F800000#32
  let main_v21 : FVec F S196608x128 .f32 := broadcastInDim S196608x128 ![] bcast_S_S196608x128 main_cst
  let main_v22 : IVec S196608x128 1 := cmpf .olt main_v20 main_v21
  let main_v23 : FVec F S2048x128 .f32 := (extf .f32 · bitsLt_bf16_f32) main_arg8
  let main_v24 : FVec F S2048x128 .f32 := Host.absf main_v23
  let main_cst_7 : FVec F S_ .f32 := constant S_ .f32 0x7F800000#32
  let main_v25 : FVec F S2048x128 .f32 := broadcastInDim S2048x128 ![] bcast_S_S2048x128 main_cst_7
  let main_v26 : IVec S2048x128 1 := cmpf .olt main_v24 main_v25
  let main_v27 : FVec F S1x128 .f32 := Host.absf main_arg9
  let main_cst_8 : FVec F S_ .f32 := constant S_ .f32 0x7F800000#32
  let main_v28 : FVec F S1x128 .f32 := broadcastInDim S1x128 ![] bcast_S_S1x128 main_cst_8
  let main_v29 : IVec S1x128 1 := cmpf .olt main_v27 main_v28
  (main_v4, main_v9, main_v14, main_v19, main_v22, main_v26, main_v29)

def fn {F : FTy → Type} [FloatOps F] (main_arg0 : IVec S72 32) (main_arg1 : IVec S72 32) (main_arg2 : IVec S1 32) (main_arg3 : IVec S18432 32) (main_arg4 : FVec F S196608x128 .f32) (main_arg5 : FVec F S16x2048x512 .bf16) (main_arg6 : FVec F S16x2048x512 .bf16) (main_arg7 : FVec F S16x512x2048 .bf16) (main_arg8 : FVec F S2048x128 .bf16) (main_arg9 : FVec F S1x128 .f32) : IVec S72 1 × IVec S72 1 × IVec S1 1 × IVec S18432 1 × IVec S196608x128 1 × IVec S2048x128 1 × IVec S1x128 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 16#32
  let main_v2 : IVec S72 32 := broadcastInDim S72 ![] bcast_S_S72 main_c_0
  let main_v3 : IVec S72 1 := cmpi .slt main_arg0 main_v2
  let main_v4 : IVec S72 1 := andi main_v1 main_v3
  let main_c_1 : IVec S_ 32 := constantI S_ 32 0#32
  let main_v5 : IVec S72 32 := broadcastInDim S72 ![] bcast_S_S72 main_c_1
  let main_v6 : IVec S72 1 := cmpi .sge main_arg1 main_v5
  let main_c_2 : IVec S_ 32 := constantI S_ 32 16#32
  let main_v7 : IVec S72 32 := broadcastInDim S72 ![] bcast_S_S72 main_c_2
  let main_v8 : IVec S72 1 := cmpi .slt main_arg1 main_v7
  let main_v9 : IVec S72 1 := andi main_v6 main_v8
  let main_c_3 : IVec S_ 32 := constantI S_ 32 1#32
  let main_v10 : IVec S1 32 := broadcastInDim S1 ![] bcast_S_S1 main_c_3
  let main_v11 : IVec S1 1 := cmpi .sge main_arg2 main_v10
  let main_c_4 : IVec S_ 32 := constantI S_ 32 72#32
  let main_v12 : IVec S1 32 := broadcastInDim S1 ![] bcast_S_S1 main_c_4
  let main_v13 : IVec S1 1 := cmpi .sle main_arg2 main_v12
  let main_v14 : IVec S1 1 := andi main_v11 main_v13
  let main_c_5 : IVec S_ 32 := constantI S_ 32 0#32
  let main_v15 : IVec S18432 32 := broadcastInDim S18432 ![] bcast_S_S18432 main_c_5
  let main_v16 : IVec S18432 1 := cmpi .sge main_arg3 main_v15
  fn_part1 (F := F) main_arg3 main_arg4 main_arg8 main_arg9 main_v4 main_v9 main_v14 main_v16
-- ==== Pre_tables_in_range.lean ====
abbrev S72 : Shape := ⟨1, ![72]⟩
abbrev S1 : Shape := ⟨1, ![1]⟩
abbrev S18432 : Shape := ⟨1, ![18432]⟩
abbrev S196608x128 : Shape := ⟨2, ![196608, 128]⟩
abbrev S16x2048x512 : Shape := ⟨3, ![16, 2048, 512]⟩
abbrev S16x512x2048 : Shape := ⟨3, ![16, 512, 2048]⟩
abbrev S2048x128 : Shape := ⟨2, ![2048, 128]⟩
abbrev S1x128 : Shape := ⟨2, ![1, 128]⟩
abbrev S_ : Shape := ⟨0, ![]⟩

class Facts : Prop where
  bcast_S_S72 : S_.BroadcastsInDim S72 (![] : Fin 0 → Fin S72.rank)
  bcast_S_S1 : S_.BroadcastsInDim S1 (![] : Fin 0 → Fin S1.rank)
  bcast_S_S18432 : S_.BroadcastsInDim S18432 (![] : Fin 0 → Fin S18432.rank)

variable [Facts]

def fn_part1 {F : FTy → Type} [FloatOps F] (main_arg3 : IVec S18432 32) (main_v4 : IVec S72 1) (main_v9 : IVec S72 1) (main_v14 : IVec S1 1) (main_v16 : IVec S18432 1) : IVec S72 1 × IVec S72 1 × IVec S1 1 × IVec S18432 1 :=
  let main_c_6 : IVec S_ 32 := constantI S_ 32 12288#32
  let main_v17 : IVec S18432 32 := broadcastInDim S18432 ![] bcast_S_S18432 main_c_6
  let main_v18 : IVec S18432 1 := cmpi .slt main_arg3 main_v17
  let main_v19 : IVec S18432 1 := andi main_v16 main_v18
  (main_v4, main_v9, main_v14, main_v19)

def fn {F : FTy → Type} [FloatOps F] (main_arg0 : IVec S72 32) (main_arg1 : IVec S72 32) (main_arg2 : IVec S1 32) (main_arg3 : IVec S18432 32) (main_arg4 : FVec F S196608x128 .f32) (main_arg5 : FVec F S16x2048x512 .bf16) (main_arg6 : FVec F S16x2048x512 .bf16) (main_arg7 : FVec F S16x512x2048 .bf16) (main_arg8 : FVec F S2048x128 .bf16) (main_arg9 : FVec F S1x128 .f32) : IVec S72 1 × IVec S72 1 × IVec S1 1 × IVec S18432 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 16#32
  let main_v2 : IVec S72 32 := broadcastInDim S72 ![] bcast_S_S72 main_c_0
  let main_v3 : IVec S72 1 := cmpi .slt main_arg0 main_v2
  let main_v4 : IVec S72 1 := andi main_v1 main_v3
  let main_c_1 : IVec S_ 32 := constantI S_ 32 0#32
  let main_v5 : IVec S72 32 := broadcastInDim S72 ![] bcast_S_S72 main_c_1
  let main_v6 : IVec S72 1 := cmpi .sge main_arg1 main_v5
  let main_c_2 : IVec S_ 32 := constantI S_ 32 16#32
  let main_v7 : IVec S72 32 := broadcastInDim S72 ![] bcast_S_S72 main_c_2
  let main_v8 : IVec S72 1 := cmpi .slt main_arg1 main_v7
  let main_v9 : IVec S72 1 := andi main_v6 main_v8
  let main_c_3 : IVec S_ 32 := constantI S_ 32 1#32
  let main_v10 : IVec S1 32 := broadcastInDim S1 ![] bcast_S_S1 main_c_3
  let main_v11 : IVec S1 1 := cmpi .sge main_arg2 main_v10
  let main_c_4 : IVec S_ 32 := constantI S_ 32 72#32
  let main_v12 : IVec S1 32 := broadcastInDim S1 ![] bcast_S_S1 main_c_4
  let main_v13 : IVec S1 1 := cmpi .sle main_arg2 main_v12
  let main_v14 : IVec S1 1 := andi main_v11 main_v13
  let main_c_5 : IVec S_ 32 := constantI S_ 32 0#32
  let main_v15 : IVec S18432 32 := broadcastInDim S18432 ![] bcast_S_S18432 main_c_5
  let main_v16 : IVec S18432 1 := cmpi .sge main_arg3 main_v15
  fn_part1 (F := F) main_arg3 main_v4 main_v9 main_v14 main_v16
-- ==== Lat.lean ====
abbrev S12288x8192 : Shape := ⟨2, ![12288, 8192]⟩
abbrev S4x1x256x8x128 : Shape := ⟨5, ![4, 1, 256, 8, 128]⟩
abbrev S1x8x15x31 : Shape := ⟨4, ![1, 8, 15, 31]⟩
abbrev S8x15x31 : Shape := ⟨3, ![8, 15, 31]⟩
abbrev S8x31x15 : Shape := ⟨3, ![8, 31, 15]⟩
abbrev S8x31x15x64 : Shape := ⟨4, ![8, 31, 15, 64]⟩
abbrev S8x31x960 : Shape := ⟨3, ![8, 31, 960]⟩
abbrev S_ : Shape := ⟨0, ![]⟩
abbrev S8x31x1024 : Shape := ⟨3, ![8, 31, 1024]⟩
abbrev S8x64x1024 : Shape := ⟨3, ![8, 64, 1024]⟩
abbrev S1x31x1024 : Shape := ⟨3, ![1, 31, 1024]⟩
abbrev S1x64x1024 : Shape := ⟨3, ![1, 64, 1024]⟩
abbrev S64x1024 : Shape := ⟨2, ![64, 1024]⟩
abbrev S1x1x1024 : Shape := ⟨3, ![1, 1, 1024]⟩
abbrev S1x1024 : Shape := ⟨2, ![1, 1024]⟩
abbrev S4x256x1024 : Shape := ⟨3, ![4, 256, 1024]⟩
abbrev S4096x1024 : Shape := ⟨2, ![4096, 1024]⟩
abbrev S1024x128 : Shape := ⟨2, ![1024, 128]⟩
abbrev S1x256x128 : Shape := ⟨3, ![1, 256, 128]⟩
abbrev S256x128 : Shape := ⟨2, ![256, 128]⟩
abbrev S64x128 : Shape := ⟨2, ![64, 128]⟩
abbrev S512x128 : Shape := ⟨2, ![512, 128]⟩
abbrev S64x512 : Shape := ⟨2, ![64, 512]⟩
abbrev S1x64x512 : Shape := ⟨3, ![1, 64, 512]⟩
abbrev S64x256 : Shape := ⟨2, ![64, 256]⟩
abbrev S64 : Shape := ⟨1, ![64]⟩
abbrev S64x1 : Shape := ⟨2, ![64, 1]⟩

abbrev nBuf : Space → Nat
  | .hbm => 15
  | .vmem => 18
  | .smem => 0
  | _ => 0

abbrev bufTy : (tb : Table) → Fin (tcTables nBuf tb) → BufTy
  | .hbm, ⟨0, _⟩ => ⟨S12288x8192, .bf16⟩
  | .hbm, ⟨1, _⟩ => ⟨S4x1x256x8x128, .f32⟩
  | .hbm, ⟨2, _⟩ => ⟨S4x1x256x8x128, .f32⟩
  | .hbm, ⟨3, _⟩ => ⟨S1x8x15x31, .f32⟩
  | .hbm, ⟨4, _⟩ => ⟨S8x15x31, .f32⟩
  | .hbm, ⟨5, _⟩ => ⟨S8x31x15, .f32⟩
  | .hbm, ⟨6, _⟩ => ⟨S8x31x15x64, .f32⟩
  | .hbm, ⟨7, _⟩ => ⟨S8x31x960, .f32⟩
  | .hbm, ⟨8, _⟩ => ⟨S_, .i32⟩
  | .hbm, ⟨9, _⟩ => ⟨S_, .f32⟩
  | .hbm, ⟨10, _⟩ => ⟨S8x31x1024, .f32⟩
  | .hbm, ⟨11, _⟩ => ⟨S8x64x1024, .f32⟩
  | .hbm, ⟨12, _⟩ => ⟨S4x256x1024, .f32⟩
  | .hbm, ⟨13, _⟩ => ⟨S4x256x1024, .f32⟩
  | .hbm, ⟨14, _⟩ => ⟨S4096x1024, .bf16⟩
  | .local _ .vmem, ⟨0, _⟩ => ⟨S1x31x1024, .f32⟩
  | .local _ .vmem, ⟨1, _⟩ => ⟨S1x31x1024, .f32⟩
  | .local _ .vmem, ⟨2, _⟩ => ⟨S1x64x1024, .f32⟩
  | .local _ .vmem, ⟨3, _⟩ => ⟨S1x64x1024, .f32⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x64x1024, .f32⟩
  | .local _ .vmem, ⟨15, _⟩ => ⟨S1x64x1024, .f32⟩
  | .local _ .vmem, ⟨16, _⟩ => ⟨S1024x128, .bf16⟩
  | .local _ .vmem, ⟨17, _⟩ => ⟨S1024x128, .bf16⟩
  | _, _ => ⟨S12288x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x31x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c8_i32_0 : BitVec 32 := 8#32
  let v1 : BitVec 32 := Scalar.addi c8_i32_0 arg1
  let c0_i32 : BitVec 32 := 0#32
  ![v0.toNat, v1.toNat]

def cc1_transform_1 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c16_i32 : BitVec 32 := 16#32
  let v1 : BitVec 32 := Scalar.addi c16_i32 arg1
  let c0_i32 : BitVec 32 := 0#32
  ![v0.toNat, v1.toNat]

def cc1_transform_2 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c24_i32 : BitVec 32 := 24#32
  let v1 : BitVec 32 := Scalar.addi c24_i32 arg1
  let c0_i32 : BitVec 32 := 0#32
  ![v0.toNat, v1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x64x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1024x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== LatIdeal.lean ====
variable {F : FTy → Type} [FloatOps F] [Named F]
def κ : String → Option EReal := fun
  | "mask" => some ⊥
  | _ => none
-- ==== LatRefIdeal.lean ====
abbrev S12288x8192 : Shape := ⟨2, ![12288, 8192]⟩
abbrev S4x1x256x8x128 : Shape := ⟨5, ![4, 1, 256, 8, 128]⟩
abbrev S1x8x15x31 : Shape := ⟨4, ![1, 8, 15, 31]⟩
abbrev S4096x8192 : Shape := ⟨2, ![4096, 8192]⟩
abbrev S4096x1024 : Shape := ⟨2, ![4096, 1024]⟩
abbrev S4x16x64x8x128 : Shape := ⟨5, ![4, 16, 64, 8, 128]⟩
abbrev S4x1024x8x128 : Shape := ⟨4, ![4, 1024, 8, 128]⟩
abbrev S4x256x8x128 : Shape := ⟨4, ![4, 256, 8, 128]⟩
abbrev S16x64x16x64 : Shape := ⟨4, ![16, 64, 16, 64]⟩
abbrev S_ : Shape := ⟨0, ![]⟩
abbrev S16x64x1024 : Shape := ⟨3, ![16, 64, 1024]⟩
abbrev S16x16 : Shape := ⟨2, ![16, 16]⟩
abbrev S64x64 : Shape := ⟨2, ![64, 64]⟩
abbrev S8x15x31 : Shape := ⟨3, ![8, 15, 31]⟩
abbrev S16x16x1 : Shape := ⟨3, ![16, 16, 1]⟩
abbrev S8x16x16x31 : Shape := ⟨4, ![8, 16, 16, 31]⟩
abbrev S64x64x1 : Shape := ⟨3, ![64, 64, 1]⟩
abbrev S8x16x16x64x64 : Shape := ⟨5, ![8, 16, 16, 64, 64]⟩
abbrev S8x16x64x16x64 : Shape := ⟨5, ![8, 16, 64, 16, 64]⟩
abbrev S8x16x64x1024 : Shape := ⟨4, ![8, 16, 64, 1024]⟩
abbrev S4x8x16x64x1024 : Shape := ⟨5, ![4, 8, 16, 64, 1024]⟩
abbrev S1x8x16x64x1024 : Shape := ⟨5, ![1, 8, 16, 64, 1024]⟩
abbrev S4x8x16x64x256 : Shape := ⟨5, ![4, 8, 16, 64, 256]⟩
abbrev S4x8x16x64x1280 : Shape := ⟨5, ![4, 8, 16, 64, 1280]⟩
abbrev S4x8x16x64 : Shape := ⟨4, ![4, 8, 16, 64]⟩
abbrev S4x8x16x64x1 : Shape := ⟨5, ![4, 8, 16, 64, 1]⟩
abbrev S4x8x16x64x128 : Shape := ⟨5, ![4, 8, 16, 64, 128]⟩

abbrev nBuf : Space → Nat
  | .hbm => 139
  | .vmem => 0
  | .smem => 0
  | _ => 0

abbrev hbmTy0_0 (i : Nat) : BufTy := match i % 128 with
  | 0 => ⟨S12288x8192, .bf16⟩
  | 1 => ⟨S4x1x256x8x128, .f32⟩
  | 2 => ⟨S4x1x256x8x128, .f32⟩
  | 3 => ⟨S1x8x15x31, .f32⟩
  | 4 => ⟨S12288x8192, .f32⟩
  | 5 => ⟨S4096x8192, .f32⟩
  | 6 => ⟨S4096x1024, .f32⟩
  | 7 => ⟨S4x16x64x8x128, .f32⟩
  | 8 => ⟨S4096x1024, .f32⟩
  | 9 => ⟨S4x1024x8x128, .f32⟩
  | 10 => ⟨S4096x1024, .f32⟩
  | 11 => ⟨S4x1024x8x128, .f32⟩
  | 12 => ⟨S4x256x8x128, .f32⟩
  | 13 => ⟨S4x256x8x128, .f32⟩
  | 14 => ⟨S16x64x16x64, .i32⟩
  | 15 => ⟨S16x64x16x64, .i32⟩
  | 16 => ⟨S16x64x16x64, .i32⟩
  | 17 => ⟨S16x64x16x64, .i32⟩
  | 18 => ⟨S_, .i32⟩
  | 19 => ⟨S16x64x16x64, .i32⟩
  | 20 => ⟨S16x64x16x64, .i32⟩
  | 21 => ⟨S_, .i32⟩
  | 22 => ⟨S_, .i32⟩
  | 23 => ⟨S_, .i32⟩
  | 24 => ⟨S16x64x16x64, .i32⟩
  | 25 => ⟨S16x64x16x64, .i32⟩
  | 26 => ⟨S_, .i32⟩
  | 27 => ⟨S16x64x16x64, .i32⟩
  | 28 => ⟨S16x64x16x64, .i32⟩
  | 29 => ⟨S_, .i32⟩
  | 30 => ⟨S16x64x16x64, .i32⟩
  | 31 => ⟨S16x64x16x64, .i32⟩
  | 32 => ⟨S_, .i32⟩
  | 33 => ⟨S_, .i32⟩
  | 34 => ⟨S_, .i32⟩
  | 35 => ⟨S16x64x16x64, .i32⟩
  | 36 => ⟨S16x64x16x64, .i32⟩
  | 37 => ⟨S_, .i32⟩
  | 38 => ⟨S16x64x16x64, .i32⟩
  | 39 => ⟨S16x64x16x64, .i32⟩
  | 40 => ⟨S16x64x16x64, .i1⟩
  | 41 => ⟨S_, .i32⟩
  | 42 => ⟨S16x64x16x64, .i32⟩
  | 43 => ⟨S16x64x16x64, .i32⟩
  | 44 => ⟨S16x64x16x64, .i1⟩
  | 45 => ⟨S16x64x16x64, .i1⟩
  | 46 => ⟨S16x64x16x64, .i1⟩
  | 47 => ⟨S16x64x16x64, .i1⟩
  | 48 => ⟨S_, .i32⟩
  | 49 => ⟨S16x64x16x64, .i32⟩
  | 50 => ⟨S16x64x16x64, .i32⟩
  | 51 => ⟨S16x64x16x64, .i1⟩
  | 52 => ⟨S16x64x16x64, .i1⟩
  | 53 => ⟨S16x64x1024, .i1⟩
  | 54 => ⟨S16x16, .i32⟩
  | 55 => ⟨S16x16, .i32⟩
  | 56 => ⟨S64x64, .i32⟩
  | 57 => ⟨S64x64, .i32⟩
  | 58 => ⟨S16x16, .i32⟩
  | 59 => ⟨S_, .i32⟩
  | 60 => ⟨S16x16, .i32⟩
  | 61 => ⟨S16x16, .i32⟩
  | 62 => ⟨S_, .i32⟩
  | 63 => ⟨S_, .i32⟩
  | 64 => ⟨S_, .i32⟩
  | 65 => ⟨S16x16, .i32⟩
  | 66 => ⟨S16x16, .i32⟩
  | 67 => ⟨S_, .i32⟩
  | 68 => ⟨S16x16, .i32⟩
  | 69 => ⟨S16x16, .i32⟩
  | 70 => ⟨S64x64, .i32⟩
  | 71 => ⟨S_, .i32⟩
  | 72 => ⟨S64x64, .i32⟩
  | 73 => ⟨S64x64, .i32⟩
  | 74 => ⟨S_, .i32⟩
  | 75 => ⟨S_, .i32⟩
  | 76 => ⟨S_, .i32⟩
  | 77 => ⟨S64x64, .i32⟩
  | 78 => ⟨S64x64, .i32⟩
  | 79 => ⟨S_, .i32⟩
  | 80 => ⟨S64x64, .i32⟩
  | 81 => ⟨S64x64, .i32⟩
  | 82 => ⟨S8x15x31, .f32⟩
  | 83 => ⟨S_, .i32⟩
  | 84 => ⟨S16x16, .i32⟩
  | 85 => ⟨S16x16, .i1⟩
  | 86 => ⟨S_, .i32⟩
  | 87 => ⟨S16x16, .i32⟩
  | 88 => ⟨S16x16, .i32⟩
  | 89 => ⟨S16x16, .i32⟩
  | 90 => ⟨S16x16x1, .i32⟩
  | 91 => ⟨S8x16x16x31, .f32⟩
  | 92 => ⟨S_, .i32⟩
  | 93 => ⟨S64x64, .i32⟩
  | 94 => ⟨S64x64, .i1⟩
  | 95 => ⟨S_, .i32⟩
  | 96 => ⟨S64x64, .i32⟩
  | 97 => ⟨S64x64, .i32⟩
  | 98 => ⟨S64x64, .i32⟩
  | 99 => ⟨S64x64x1, .i32⟩
  | 100 => ⟨S8x16x16x64x64, .f32⟩
  | 101 => ⟨S8x16x64x16x64, .f32⟩
  | 102 => ⟨S8x16x64x1024, .f32⟩
  | 103 => ⟨S4x8x16x64x1024, .f32⟩
  | 104 => ⟨S_, .f32⟩
  | 105 => ⟨S4x8x16x64x1024, .f32⟩
  | 106 => ⟨S4x8x16x64x1024, .f32⟩
  | 107 => ⟨S1x8x16x64x1024, .f32⟩
  | 108 => ⟨S4x8x16x64x1024, .f32⟩
  | 109 => ⟨S4x8x16x64x1024, .f32⟩
  | 110 => ⟨S_, .f32⟩
  | 111 => ⟨S_, .f32⟩
  | 112 => ⟨S4x8x16x64x1024, .i1⟩
  | 113 => ⟨S4x8x16x64x1024, .f32⟩
  | 114 => ⟨S4x8x16x64x1024, .f32⟩
  | 115 => ⟨S4x8x16x64x256, .f32⟩
  | 116 => ⟨S_, .f32⟩
  | 117 => ⟨S4x8x16x64x256, .f32⟩
  | 118 => ⟨S4x8x16x64x256, .f32⟩
  | 119 => ⟨S4x8x16x64x1280, .f32⟩
  | 120 => ⟨S_, .f32⟩
  | 121 => ⟨S4x8x16x64, .f32⟩
  | 122 => ⟨S4x8x16x64x1, .f32⟩
  | 123 => ⟨S4x8x16x64x1280, .f32⟩
  | 124 => ⟨S4x8x16x64x1280, .f32⟩
  | 125 => ⟨S4x8x16x64x1280, .f32⟩
  | 126 => ⟨S4x8x16x64x1024, .f32⟩
  | 127 => ⟨S4x8x16x64x128, .f32⟩
  | _ => ⟨S12288x8192, .bf16⟩

abbrev hbmTy0_1 (i : Nat) : BufTy := match i % 128 with
  | 0 => ⟨S4x8x16x64x256, .f32⟩
  | 1 => ⟨S4x8x16x64x128, .f32⟩
  | 2 => ⟨S4x8x16x64x128, .f32⟩
  | 3 => ⟨S_, .f32⟩
  | 4 => ⟨S4x8x16x64, .f32⟩
  | 5 => ⟨S4x8x16x64x1, .f32⟩
  | 6 => ⟨S4x8x16x64x128, .f32⟩
  | 7 => ⟨S4x8x16x64x128, .f32⟩
  | 8 => ⟨S4x16x64x8x128, .f32⟩
  | 9 => ⟨S4096x1024, .f32⟩
  | 10 => ⟨S4096x1024, .bf16⟩
  | _ => ⟨S12288x8192, .bf16⟩

abbrev hbmTy (i : Nat) : BufTy := match i / 128 with
  | 0 => hbmTy0_0 i
  | 1 => hbmTy0_1 i
  | _ => ⟨S12288x8192, .bf16⟩

abbrev bufTy : (tb : Table) → Fin (tcTables nBuf tb) → BufTy
  | .hbm, ⟨i, _⟩ => hbmTy i
  | _, _ => ⟨S12288x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_v15 : Ref sig .tc := ⟨.hbm, 20, rfl⟩
abbrev main_c_0 : Ref sig .tc := ⟨.hbm, 21, rfl⟩
abbrev main_c_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_c_4 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_7 : Ref sig .tc := ⟨.hbm, 59, rfl⟩
abbrev main_v37 : Ref sig .tc := ⟨.hbm, 60, rfl⟩
abbrev main_v38 : Ref sig .tc := ⟨.hbm, 61, rfl⟩
abbrev main_c_8 : Ref sig .tc := ⟨.hbm, 62, rfl⟩
abbrev main_c_9 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_v39 : Ref sig .tc := ⟨.hbm, 69, rfl⟩
abbrev main_v40 : Ref sig .tc := ⟨.hbm, 70, rfl⟩
abbrev main_c_10 : Ref sig .tc := ⟨.hbm, 71, rfl⟩
abbrev main_v41 : Ref sig .tc := ⟨.hbm, 72, rfl⟩
abbrev main_v42 : Ref sig .tc := ⟨.hbm, 73, rfl⟩
abbrev main_c_11 : Ref sig .tc := ⟨.hbm, 74, rfl⟩
abbrev main_c_12 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_v43 : Ref sig .tc := ⟨.hbm, 81, rfl⟩
abbrev main_v44 : Ref sig .tc := ⟨.hbm, 82, rfl⟩
abbrev main_c_13 : Ref sig .tc := ⟨.hbm, 83, rfl⟩
abbrev main_v45 : Ref sig .tc := ⟨.hbm, 84, rfl⟩
abbrev main_v46 : Ref sig .tc := ⟨.hbm, 85, rfl⟩
abbrev main_c_14 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_c_15 : Ref sig .tc := ⟨.hbm, 92, rfl⟩
abbrev main_v52 : Ref sig .tc := ⟨.hbm, 93, rfl⟩
abbrev main_v53 : Ref sig .tc := ⟨.hbm, 94, rfl⟩
abbrev main_c_16 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_cst : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_cst_17 : Ref sig .tc := ⟨.hbm, 110, rfl⟩
abbrev main_call4_v0 : Ref sig .tc := ⟨.hbm, 111, rfl⟩
abbrev main_call4_v1 : Ref sig .tc := ⟨.hbm, 112, rfl⟩
abbrev main_call4_v2 : Ref sig .tc := ⟨.hbm, 113, rfl⟩
abbrev main_v67 : Ref sig .tc := ⟨.hbm, 114, rfl⟩
abbrev main_v68 : Ref sig .tc := ⟨.hbm, 115, rfl⟩
abbrev main_cst_18 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_cst_19 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_cst_20 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩

abbrev nD : Nat := 1
abbrev τ : Topo := Topo.v7x

variable {F : FTy → Type} [FloatOps F]
-- ==== Proj.lean ====
abbrev S12288x2048 : Shape := ⟨2, ![12288, 2048]⟩
abbrev S1x2048x8192 : Shape := ⟨3, ![1, 2048, 8192]⟩
abbrev S1x8192 : Shape := ⟨2, ![1, 8192]⟩
abbrev S2048x8192 : Shape := ⟨2, ![2048, 8192]⟩
abbrev S12288x8192 : Shape := ⟨2, ![12288, 8192]⟩
abbrev S8192x1024 : Shape := ⟨2, ![8192, 1024]⟩
abbrev S512x2048 : Shape := ⟨2, ![512, 2048]⟩
abbrev S2048x1024 : Shape := ⟨2, ![2048, 1024]⟩
abbrev S1x1024 : Shape := ⟨2, ![1, 1024]⟩
abbrev S512x1024 : Shape := ⟨2, ![512, 1024]⟩

abbrev nBuf : Space → Nat
  | .hbm => 7
  | .vmem => 13
  | .smem => 0
  | _ => 0

abbrev bufTy : (tb : Table) → Fin (tcTables nBuf tb) → BufTy
  | .hbm, ⟨0, _⟩ => ⟨S12288x2048, .bf16⟩
  | .hbm, ⟨1, _⟩ => ⟨S1x2048x8192, .f32⟩
  | .hbm, ⟨2, _⟩ => ⟨S1x8192, .f32⟩
  | .hbm, ⟨3, _⟩ => ⟨S2048x8192, .f32⟩
  | .hbm, ⟨4, _⟩ => ⟨S12288x8192, .bf16⟩
  | .hbm, ⟨5, _⟩ => ⟨S8192x1024, .f32⟩
  | .hbm, ⟨6, _⟩ => ⟨S8192x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .f32⟩
  | .local _ .vmem, ⟨3, _⟩ => ⟨S2048x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S2048x1024, .bf16⟩
  | _, _ => ⟨S12288x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 24], ![false, false]⟩

def k0_cond2 (i : grid0.Coords) : BitVec 1 :=
  let arg0 : BitVec 32 := BitVec.ofNat 32 (i 0).val
  let c2_i32 : BitVec 32 := 2#32
  let v11 : BitVec 1 := Scalar.cmpi .eq arg0 c2_i32
  let arg1 : BitVec 32 := BitVec.ofNat 32 (i 1).val
  let c16_i32 : BitVec 32 := 16#32
  let v12 : BitVec 1 := Scalar.cmpi .slt arg1 c16_i32
  let v13 : BitVec 1 := Scalar.andi v11 v12
  let v14 : BitVec 32 := Scalar.extui v13
  let c0_i32_8 : BitVec 32 := 0#32
  let v15 : BitVec 1 := Scalar.cmpi .ne v14 c0_i32_8
  v15

def k0_cond3 (i : grid0.Coords) : BitVec 1 :=
  let arg0 : BitVec 32 := BitVec.ofNat 32 (i 0).val
  let c3_i32 : BitVec 32 := 3#32
  let v16 : BitVec 1 := Scalar.cmpi .eq arg0 c3_i32
  let arg1 : BitVec 32 := BitVec.ofNat 32 (i 1).val
  let c16_i32_9 : BitVec 32 := 16#32
  let v17 : BitVec 1 := Scalar.cmpi .slt arg1 c16_i32_9
  let v18 : BitVec 1 := Scalar.andi v16 v17
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c2_i32 : BitVec 32 := 2#32
  let v1 : BitVec 1 := Scalar.cmpi .eq arg0 c2_i32
  let c2_i32_0 : BitVec 32 := 2#32
  let v2 : BitVec 1 := Scalar.cmpi .slt arg0 c2_i32_0
  let c0_i32 : BitVec 32 := 0#32
  let c15_i32_1 : BitVec 32 := 15#32
  let v3 : BitVec 32 := Scalar.select v2 c0_i32 c15_i32_1
  let v4 : BitVec 32 := Scalar.select v1 v0 v3
  let c0_i32_2 : BitVec 32 := 0#32
  let c0_i32_3 : BitVec 32 := 0#32
  ![v4.toNat, c0_i32_2.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c3_i32 : BitVec 32 := 3#32
  let v1 : BitVec 1 := Scalar.cmpi .eq arg0 c3_i32
  let c3_i32_0 : BitVec 32 := 3#32
  let v2 : BitVec 1 := Scalar.cmpi .slt arg0 c3_i32_0
  let c0_i32 : BitVec 32 := 0#32
  let c15_i32_1 : BitVec 32 := 15#32
  let v3 : BitVec 32 := Scalar.select v2 c0_i32 c15_i32_1
  let v4 : BitVec 32 := Scalar.select v1 v0 v3
  let c0_i32_2 : BitVec 32 := 0#32
  let c0_i32_3 : BitVec 32 := 0#32
  ![v4.toNat, c0_i32_2.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ProjRefIdeal.lean ====
abbrev S12288x2048 : Shape := ⟨2, ![12288, 2048]⟩
abbrev S1x2048x8192 : Shape := ⟨3, ![1, 2048, 8192]⟩
abbrev S1x8192 : Shape := ⟨2, ![1, 8192]⟩
abbrev S2048x8192 : Shape := ⟨2, ![2048, 8192]⟩
abbrev S12288x8192 : Shape := ⟨2, ![12288, 8192]⟩
abbrev S8192 : Shape := ⟨1, ![8192]⟩
abbrev S8192x1024 : Shape := ⟨2, ![8192, 1024]⟩

abbrev nBuf : Space → Nat
  | .hbm => 13
  | .vmem => 0
  | .smem => 0
  | _ => 0

abbrev bufTy : (tb : Table) → Fin (tcTables nBuf tb) → BufTy
  | .hbm, ⟨0, _⟩ => ⟨S12288x2048, .bf16⟩
  | .hbm, ⟨1, _⟩ => ⟨S1x2048x8192, .f32⟩
  | .hbm, ⟨2, _⟩ => ⟨S1x8192, .f32⟩
  | .hbm, ⟨3, _⟩ => ⟨S12288x2048, .f32⟩
  | .hbm, ⟨4, _⟩ => ⟨S2048x8192, .f32⟩
  | .hbm, ⟨5, _⟩ => ⟨S12288x8192, .f32⟩
  | .hbm, ⟨6, _⟩ => ⟨S8192, .f32⟩
  | .hbm, ⟨7, _⟩ => ⟨S1x8192, .f32⟩
  | .hbm, ⟨8, _⟩ => ⟨S12288x8192, .f32⟩
  | .hbm, ⟨9, _⟩ => ⟨S12288x8192, .f32⟩
  | .hbm, ⟨10, _⟩ => ⟨S12288x8192, .bf16⟩
  | .hbm, ⟨11, _⟩ => ⟨S8192x1024, .f32⟩
  | .hbm, ⟨12, _⟩ => ⟨S8192x1024, .f32⟩
  | _, _ => ⟨S12288x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Moe.lean ====
abbrev S72 : Shape := ⟨1, ![72]⟩
abbrev S1 : Shape := ⟨1, ![1]⟩
abbrev S18432 : Shape := ⟨1, ![18432]⟩
abbrev S196608x128 : Shape := ⟨2, ![196608, 128]⟩
abbrev S16x2048x512 : Shape := ⟨3, ![16, 2048, 512]⟩
abbrev S16x512x2048 : Shape := ⟨3, ![16, 512, 2048]⟩
abbrev S2048x128 : Shape := ⟨2, ![2048, 128]⟩
abbrev S1x128 : Shape := ⟨2, ![1, 128]⟩
abbrev S294912x128 : Shape := ⟨2, ![294912, 128]⟩
abbrev S1x2048x512 : Shape := ⟨3, ![1, 2048, 512]⟩
abbrev S1x512x2048 : Shape := ⟨3, ![1, 512, 2048]⟩
abbrev S4096x128 : Shape := ⟨2, ![4096, 128]⟩
abbrev S2x4096x128 : Shape := ⟨3, ![2, 4096, 128]⟩
abbrev S2 : Shape := ⟨1, ![2]⟩
abbrev S_ : Shape := ⟨0, ![]⟩
abbrev S1x16x128 : Shape := ⟨3, ![1, 16, 128]⟩
abbrev S16x128 : Shape := ⟨2, ![16, 128]⟩
abbrev S1x4096x128 : Shape := ⟨3, ![1, 4096, 128]⟩
abbrev S1x256x128 : Shape := ⟨3, ![1, 256, 128]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩
abbrev S2048x512 : Shape := ⟨2, ![2048, 512]⟩
abbrev S256x512 : Shape := ⟨2, ![256, 512]⟩
abbrev S512x2048 : Shape := ⟨2, ![512, 2048]⟩

abbrev nBuf : Space → Nat
  | .hbm => 7
  | .vmem => 17
  | .smem => 4
  | _ => 0

abbrev bufTy : (tb : Table) → Fin (tcTables nBuf tb) → BufTy
  | .hbm, ⟨0, _⟩ => ⟨S196608x128, .f32⟩
  | .hbm, ⟨1, _⟩ => ⟨S16x2048x512, .bf16⟩
  | .hbm, ⟨2, _⟩ => ⟨S16x2048x512, .bf16⟩
  | .hbm, ⟨3, _⟩ => ⟨S16x512x2048, .bf16⟩
  | .hbm, ⟨4, _⟩ => ⟨S2048x128, .bf16⟩
  | .hbm, ⟨5, _⟩ => ⟨S1x128, .f32⟩
  | .hbm, ⟨6, _⟩ => ⟨S294912x128, .f32⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x512x2048, .bf16⟩
  | .local _ .vmem, ⟨11, _⟩ => ⟨S1x512x2048, .bf16⟩
  | .local _ .vmem, ⟨12, _⟩ => ⟨S2048x128, .bf16⟩
  | .local _ .vmem, ⟨13, _⟩ => ⟨S1x128, .f32⟩
  | .local _ .vmem, ⟨14, _⟩ => ⟨S4096x128, .f32⟩
  | .local _ .vmem, ⟨15, _⟩ => ⟨S4096x128, .f32⟩
  | .local _ .vmem, ⟨16, _⟩ => ⟨S2x4096x128, .f32⟩
  | .local _ .smem, ⟨0, _⟩ => ⟨S72, .i32⟩
  | .local _ .smem, ⟨1, _⟩ => ⟨S72, .i32⟩
  | .local _ .smem, ⟨2, _⟩ => ⟨S1, .i32⟩
  | .local _ .smem, ⟨3, _⟩ => ⟨S18432, .i32⟩
  | _, _ => ⟨S196608x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_arg8 : Ref sig .tc := ⟨.hbm, 4, rfl⟩
abbrev main_arg9 : Ref sig .tc := ⟨.hbm, 5, rfl⟩
abbrev main_v0 : Ref sig .tc := ⟨.hbm, 6, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![72], ![false]⟩

abbrev pre0 : Pipeline.Prefetch sig := ⟨4, ![main_arg0.idx, main_arg1.idx, main_arg2.idx, main_arg3.idx], fun | 0 => main_arg0.names | 1 => main_arg1.names | 2 => main_arg2.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

@[reducible] def k0_t1_loop : Scf.Loop 32 :=
  let c0_i32_4 : BitVec 32 := 0#32
  let c256_i32 : BitVec 32 := 256#32
  let v14 : BitVec 32 := Scalar.addi c0_i32_4 c256_i32
  let c1_i32_5 : BitVec 32 := 1#32
  ⟨c0_i32_4, v14, c1_i32_5⟩
def k0_off2 (k0_t1 : Fin k0_t1_loop.trips) : Fin 1 → Nat :=
  let c0_i32_7 : BitVec 32 := 0#32
  let c0_i32_4 : BitVec 32 := 0#32
  let c1_i32_5 : BitVec 32 := 1#32
  let arg17 : BitVec 32 := Scf.iv c0_i32_4 c1_i32_5 k0_t1
  let v15 : BitVec 32 := Scalar.addi c0_i32_7 arg17
  let v16 : Index := Scalar.indexCast v15
  ![v16.toNat]
def k0_mult1 (v17 : BitVec 32) : BitVec 32 :=
  let c16_i32 : BitVec 32 := 16#32
  let v18 : BitVec 32 := Scalar.muli v17 c16_i32
  v18

def k0_mult2 (k0_t1 : Fin k0_t1_loop.trips) : BitVec 32 :=
  let c0_i32_4 : BitVec 32 := 0#32
  let c1_i32_5 : BitVec 32 := 1#32
  let arg17 : BitVec 32 := Scf.iv c0_i32_4 c1_i32_5 k0_t1
  let c16_i32_8 : BitVec 32 := 16#32
  let v20 : BitVec 32 := Scalar.muli arg17 c16_i32_8
  v20
def k0_off3 (k0_t1 : Fin k0_t1_loop.trips) : Fin 3 → Nat :=
  let c0_i32_9 : BitVec 32 := 0#32
  let c0_i32_4 : BitVec 32 := 0#32
  let c1_i32_5 : BitVec 32 := 1#32
  let arg17 : BitVec 32 := Scf.iv c0_i32_4 c1_i32_5 k0_t1
  let c16_i32_8 : BitVec 32 := 16#32
  let v20 : BitVec 32 := Scalar.muli arg17 c16_i32_8
  let v21 : BitVec 32 := v20
  let c0_i32_11 : BitVec 32 := 0#32
  ![0, v21.toNat, 0]
def k0_off4 (v17 : BitVec 32) : Fin 2 → Nat :=
  let c16_i32 : BitVec 32 := 16#32
  let v18 : BitVec 32 := Scalar.muli v17 c16_i32
  let v19 : BitVec 32 := v18
  let c0_i32_12 : BitVec 32 := 0#32
  ![v19.toNat, 0]

def k0_chk1 (i : grid0.Coords) (v17 : BitVec 32) : Prop :=
  (∀ (k0_h1 : k0_cond1 i = 1#1), 16 ∣ (k0_mult1 v17).toNat) ∧
  (∀ (k0_h1 : k0_cond1 i = 1#1), ∀ a, (k0_off4 v17) a + S16x128.size a ≤ S196608x128.size a)
theorem k0_mult1_dvd : ∀ (i : grid0.Coords) (v17 : BitVec 32) (k0_hw1 : k0_chk1 i v17), ∀ (k0_h1 : k0_cond1 i = 1#1), 16 ∣ (k0_mult1 v17).toNat := fun i v17 k0_hw1 k0_h1 => k0_hw1.1 k0_h1
theorem k0_off4_inb : ∀ (i : grid0.Coords) (v17 : BitVec 32) (k0_hw1 : k0_chk1 i v17), ∀ (k0_h1 : k0_cond1 i = 1#1), ∀ a, (k0_off4 v17) a + S16x128.size a ≤ S196608x128.size a := fun i v17 k0_hw1 k0_h1 => k0_hw1.2 k0_h1

@[reducible] def k0_t2_loop : Scf.Loop 32 :=
  let c0_i32_11 : BitVec 32 := 0#32
  let c256_i32_12 : BitVec 32 := 256#32
  let v27 : BitVec 32 := Scalar.addi c0_i32_11 c256_i32_12
  let c1_i32_13 : BitVec 32 := 1#32
  ⟨c0_i32_11, v27, c1_i32_13⟩
def k0_off5 (i : grid0.Coords) (k0_t2 : Fin k0_t2_loop.trips) : Fin 1 → Nat :=
  let arg0 : BitVec 32 := BitVec.ofNat 32 (i 0).val
  let c1_i32_4 : BitVec 32 := 1#32
  let v14 : BitVec 32 := Scalar.addi arg0 c1_i32_4
  let c256_i32 : BitVec 32 := 256#32
  let v15 : BitVec 32 := Scalar.muli v14 c256_i32
  let c0_i32_11 : BitVec 32 := 0#32
  let c1_i32_13 : BitVec 32 := 1#32
  let arg17 : BitVec 32 := Scf.iv c0_i32_11 c1_i32_13 k0_t2
  let v28 : BitVec 32 := Scalar.addi v15 arg17
  let v29 : Index := Scalar.indexCast v28
  ![v29.toNat]
def k0_cond2 (i : grid0.Coords) (v0 : BitVec 32) : BitVec 1 :=
  let arg0 : BitVec 32 := BitVec.ofNat 32 (i 0).val
  let c1_i32 : BitVec 32 := 1#32
  let v4 : BitVec 32 := Scalar.addi arg0 c1_i32
  let v5 : BitVec 1 := Scalar.cmpi .slt v4 v0
  let v6 : BitVec 32 := Scalar.extui v5
  let c0_i32_1 : BitVec 32 := 0#32
  let v7 : BitVec 1 := Scalar.cmpi .ne v6 c0_i32_1
  v7

def k0_chk2 (i : grid0.Coords) (v0 : BitVec 32) : Prop :=
  (∀ k0_t2 : Fin k0_t2_loop.trips, ∀ (k0_h2 : k0_cond2 i v0 = 1#1), ∀ a, (k0_off5 i k0_t2) a + S1.size a ≤ S18432.size a)
theorem k0_off5_inb : ∀ (i : grid0.Coords) (v0 : BitVec 32) (k0_hw2 : k0_chk2 i v0) (k0_t2 : Fin k0_t2_loop.trips), ∀ (k0_h2 : k0_cond2 i v0 = 1#1), ∀ a, (k0_off5 i k0_t2) a + S1.size a ≤ S18432.size a := fun i v0 k0_hw2 k0_t2 k0_h2 => k0_hw2 k0_t2 k0_h2

def k0_mult3 (v30 : BitVec 32) : BitVec 32 :=
  let c16_i32 : BitVec 32 := 16#32
  let v31 : BitVec 32 := Scalar.muli v30 c16_i32
  v31

def k0_mult4 (k0_t2 : Fin k0_t2_loop.trips) : BitVec 32 :=
  let c0_i32_11 : BitVec 32 := 0#32
  let c1_i32_13 : BitVec 32 := 1#32
  let arg17 : BitVec 32 := Scf.iv c0_i32_11 c1_i32_13 k0_t2
  let c16_i32_15 : BitVec 32 := 16#32
  let v33 : BitVec 32 := Scalar.muli arg17 c16_i32_15
  v33
def k0_off6 (i : grid0.Coords) : Fin 1 → Nat :=
  let arg0 : BitVec 32 := BitVec.ofNat 32 (i 0).val
  let c1_i32_5 : BitVec 32 := 1#32
  let v16 : BitVec 32 := Scalar.addi arg0 c1_i32_5
  let c2_i32 : BitVec 32 := 2#32
  let c0_i32_6 : BitVec 32 := 0#32
  let v17 : BitVec 1 := Scalar.cmpi .eq c2_i32 c0_i32_6
  let c1_i32_7 : BitVec 32 := 1#32
  let v18 : BitVec 32 := Scalar.select v17 c1_i32_7 c2_i32
  let v19 : BitVec 32 := Scalar.remsi v16 v18
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let c0_i32_8 : BitVec 32 := 0#32
  let v20 : BitVec 1 := Scalar.cmpi .ne v19 c0_i32_8
  let v24 : BitVec 1 := Scalar.andi v23 v20
  let v25 : BitVec 32 := Scalar.addi v19 v18
  let v26 : BitVec 32 := Scalar.select v24 v25 v19
  ![v26.toNat]
def k0_off7 (i : grid0.Coords) (k0_t2 : Fin k0_t2_loop.trips) : Fin 3 → Nat :=
  let arg0 : BitVec 32 := BitVec.ofNat 32 (i 0).val
  let c1_i32_5 : BitVec 32 := 1#32
  let v16 : BitVec 32 := Scalar.addi arg0 c1_i32_5
  let c2_i32 : BitVec 32 := 2#32
  let c0_i32_6 : BitVec 32 := 0#32
  let v17 : BitVec 1 := Scalar.cmpi .eq c2_i32 c0_i32_6
  let c1_i32_7 : BitVec 32 := 1#32
  let v18 : BitVec 32 := Scalar.select v17 c1_i32_7 c2_i32
  let v19 : BitVec 32 := Scalar.remsi v16 v18
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let c0_i32_8 : BitVec 32 := 0#32
  let v20 : BitVec 1 := Scalar.cmpi .ne v19 c0_i32_8
  let v24 : BitVec 1 := Scalar.andi v23 v20
  let v25 : BitVec 32 := Scalar.addi v19 v18
  let v26 : BitVec 32 := Scalar.select v24 v25 v19
  let c0_i32_11 : BitVec 32 := 0#32
  let c1_i32_13 : BitVec 32 := 1#32
  let arg17 : BitVec 32 := Scf.iv c0_i32_11 c1_i32_13 k0_t2
  let c16_i32_15 : BitVec 32 := 16#32
  let v33 : BitVec 32 := Scalar.muli arg17 c16_i32_15
  let v34 : BitVec 32 := v33
  let c0_i32_16 : BitVec 32 := 0#32
  ![v26.toNat, v34.toNat, 0]
def k0_off8 (v30 : BitVec 32) : Fin 2 → Nat :=
  let c16_i32 : BitVec 32 := 16#32
  let v31 : BitVec 32 := Scalar.muli v30 c16_i32
  let v32 : BitVec 32 := v31
  let c0_i32_17 : BitVec 32 := 0#32
  ![v32.toNat, 0]

def k0_chk3 (i : grid0.Coords) (v0 : BitVec 32) (v30 : BitVec 32) : Prop :=
  (∀ (k0_h2 : k0_cond2 i v0 = 1#1), 16 ∣ (k0_mult3 v30).toNat) ∧
  (∀ (k0_h2 : k0_cond2 i v0 = 1#1), ∀ a, (k0_off8 v30) a + S16x128.size a ≤ S196608x128.size a)
theorem k0_mult3_dvd : ∀ (i : grid0.Coords) (v0 : BitVec 32) (v30 : BitVec 32) (k0_hw3 : k0_chk3 i v0 v30), ∀ (k0_h2 : k0_cond2 i v0 = 1#1), 16 ∣ (k0_mult3 v30).toNat := fun i v0 v30 k0_hw3 k0_h2 => k0_hw3.1 k0_h2
theorem k0_off8_inb : ∀ (i : grid0.Coords) (v0 : BitVec 32) (v30 : BitVec 32) (k0_hw3 : k0_chk3 i v0 v30), ∀ (k0_h2 : k0_cond2 i v0 = 1#1), ∀ a, (k0_off8 v30) a + S16x128.size a ≤ S196608x128.size a := fun i v0 v30 k0_hw3 k0_h2 => k0_hw3.2 k0_h2

def k0_off9 (i : grid0.Coords) : Fin 1 → Nat :=
  let arg0 : BitVec 32 := BitVec.ofNat 32 (i 0).val
  let c2_i32 : BitVec 32 := 2#32
  let c0_i32_4 : BitVec 32 := 0#32
  let v14 : BitVec 1 := Scalar.cmpi .eq c2_i32 c0_i32_4
  let c1_i32_5 : BitVec 32 := 1#32
  let v15 : BitVec 32 := Scalar.select v14 c1_i32_5 c2_i32
  let v16 : BitVec 32 := Scalar.remsi arg0 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  ![v23.toNat]
def k0_off10 (i : grid0.Coords) : Fin 3 → Nat :=
  let arg0 : BitVec 32 := BitVec.ofNat 32 (i 0).val
  let c2_i32 : BitVec 32 := 2#32
  let c0_i32_4 : BitVec 32 := 0#32
  let v14 : BitVec 1 := Scalar.cmpi .eq c2_i32 c0_i32_4
  let c1_i32_5 : BitVec 32 := 1#32
  let v15 : BitVec 32 := Scalar.select v14 c1_i32_5 c2_i32
  let v16 : BitVec 32 := Scalar.remsi arg0 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let c0_i32_9 : BitVec 32 := 0#32
  let c0_i32_10 : BitVec 32 := 0#32
  ![v23.toNat, 0, 0]
def k0_off11 (i : grid0.Coords) : Fin 3 → Nat :=
  let arg0 : BitVec 32 := BitVec.ofNat 32 (i 0).val
  let c2_i32 : BitVec 32 := 2#32
  let c0_i32_4 : BitVec 32 := 0#32
  let v14 : BitVec 1 := Scalar.cmpi .eq c2_i32 c0_i32_4
  let c1_i32_5 : BitVec 32 := 1#32
  let v15 : BitVec 32 := Scalar.select v14 c1_i32_5 c2_i32
  let v16 : BitVec 32 := Scalar.remsi arg0 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let v30 : Index := Scalar.indexCast v23
  let c0_13 : Index := 0#32
  let c0_14 : Index := 0#32
  ![v30.toNat, 0, 0]
def k0_off12 (i : grid0.Coords) : Fin 3 → Nat :=
  let arg0 : BitVec 32 := BitVec.ofNat 32 (i 0).val
  let c2_i32 : BitVec 32 := 2#32
  let c0_i32_4 : BitVec 32 := 0#32
  let v14 : BitVec 1 := Scalar.cmpi .eq c2_i32 c0_i32_4
  let c1_i32_5 : BitVec 32 := 1#32
  let v15 : BitVec 32 := Scalar.select v14 c1_i32_5 c2_i32
  let v16 : BitVec 32 := Scalar.remsi arg0 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let v33 : Index := Scalar.indexCast v23
  let c1 : Index := 1#32
  let c0_15 : Index := 0#32
  ![v33.toNat, 1, 0]
def k0_off13 (i : grid0.Coords) : Fin 3 → Nat :=
  let arg0 : BitVec 32 := BitVec.ofNat 32 (i 0).val
  let c2_i32 : BitVec 32 := 2#32
  let c0_i32_4 : BitVec 32 := 0#32
  let v14 : BitVec 1 := Scalar.cmpi .eq c2_i32 c0_i32_4
  let c1_i32_5 : BitVec 32 := 1#32
  let v15 : BitVec 32 := Scalar.select v14 c1_i32_5 c2_i32
  let v16 : BitVec 32 := Scalar.remsi arg0 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let v36 : Index := Scalar.indexCast v23
  let c2 : Index := 2#32
  let c0_16 : Index := 0#32
  ![v36.toNat, 2, 0]
def k0_off14 (i : grid0.Coords) : Fin 3 → Nat :=
  let arg0 : BitVec 32 := BitVec.ofNat 32 (i 0).val
  let c2_i32 : BitVec 32 := 2#32
  let c0_i32_4 : BitVec 32 := 0#32
  let v14 : BitVec 1 := Scalar.cmpi .eq c2_i32 c0_i32_4
  let c1_i32_5 : BitVec 32 := 1#32
  let v15 : BitVec 32 := Scalar.select v14 c1_i32_5 c2_i32
  let v16 : BitVec 32 := Scalar.remsi arg0 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let v39 : Index := Scalar.indexCast v23
  let c3 : Index := 3#32
  let c0_17 : Index := 0#32
  ![v39.toNat, 3, 0]
def k0_off15 (i : grid0.Coords) : Fin 3 → Nat :=
  let arg0 : BitVec 32 := BitVec.ofNat 32 (i 0).val
  let c2_i32 : BitVec 32 := 2#32
  let c0_i32_4 : BitVec 32 := 0#32
  let v14 : BitVec 1 := Scalar.cmpi .eq c2_i32 c0_i32_4
  let c1_i32_5 : BitVec 32 := 1#32
  let v15 : BitVec 32 := Scalar.select v14 c1_i32_5 c2_i32
  let v16 : BitVec 32 := Scalar.remsi arg0 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let v42 : Index := Scalar.indexCast v23
  let c4 : Index := 4#32
  let c0_18 : Index := 0#32
  ![v42.toNat, 4, 0]
def k0_off16 (i : grid0.Coords) : Fin 3 → Nat :=
  let arg0 : BitVec 32 := BitVec.ofNat 32 (i 0).val
  let c2_i32 : BitVec 32 := 2#32
  let c0_i32_4 : BitVec 32 := 0#32
  let v14 : BitVec 1 := Scalar.cmpi .eq c2_i32 c0_i32_4
  let c1_i32_5 : BitVec 32 := 1#32
  let v15 : BitVec 32 := Scalar.select v14 c1_i32_5 c2_i32
  let v16 : BitVec 32 := Scalar.remsi arg0 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let v45 : Index := Scalar.indexCast v23
  let c5 : Index := 5#32
  let c0_19 : Index := 0#32
  ![v45.toNat, 5, 0]
def k0_off17 (i : grid0.Coords) : Fin 3 → Nat :=
  let arg0 : BitVec 32 := BitVec.ofNat 32 (i 0).val
  let c2_i32 : BitVec 32 := 2#32
  let c0_i32_4 : BitVec 32 := 0#32
  let v14 : BitVec 1 := Scalar.cmpi .eq c2_i32 c0_i32_4
  let c1_i32_5 : BitVec 32 := 1#32
  let v15 : BitVec 32 := Scalar.select v14 c1_i32_5 c2_i32
  let v16 : BitVec 32 := Scalar.remsi arg0 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let v48 : Index := Scalar.indexCast v23
  let c6 : Index := 6#32
  let c0_20 : Index := 0#32
  ![v48.toNat, 6, 0]
def k0_off18 (i : grid0.Coords) : Fin 3 → Nat :=
  let arg0 : BitVec 32 := BitVec.ofNat 32 (i 0).val
  let c2_i32 : BitVec 32 := 2#32
  let c0_i32_4 : BitVec 32 := 0#32
  let v14 : BitVec 1 := Scalar.cmpi .eq c2_i32 c0_i32_4
  let c1_i32_5 : BitVec 32 := 1#32
  let v15 : BitVec 32 := Scalar.select v14 c1_i32_5 c2_i32
  let v16 : BitVec 32 := Scalar.remsi arg0 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let v51 : Index := Scalar.indexCast v23
  let c7 : Index := 7#32
  let c0_21 : Index := 0#32
  ![v51.toNat, 7, 0]
def k0_off19 (i : grid0.Coords) : Fin 3 → Nat :=
  let arg0 : BitVec 32 := BitVec.ofNat 32 (i 0).val
  let c2_i32 : BitVec 32 := 2#32
  let c0_i32_4 : BitVec 32 := 0#32
  let v14 : BitVec 1 := Scalar.cmpi .eq c2_i32 c0_i32_4
  let c1_i32_5 : BitVec 32 := 1#32
  let v15 : BitVec 32 := Scalar.select v14 c1_i32_5 c2_i32
  let v16 : BitVec 32 := Scalar.remsi arg0 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let v54 : Index := Scalar.indexCast v23
  let c8 : Index := 8#32
  let c0_22 : Index := 0#32
  ![v54.toNat, 8, 0]
def k0_off20 (i : grid0.Coords) : Fin 3 → Nat :=
  let arg0 : BitVec 32 := BitVec.ofNat 32 (i 0).val
  let c2_i32 : BitVec 32 := 2#32
  let c0_i32_4 : BitVec 32 := 0#32
  let v14 : BitVec 1 := Scalar.cmpi .eq c2_i32 c0_i32_4
  let c1_i32_5 : BitVec 32 := 1#32
  let v15 : BitVec 32 := Scalar.select v14 c1_i32_5 c2_i32
  let v16 : BitVec 32 := Scalar.remsi arg0 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let v57 : Index := Scalar.indexCast v23
  let c9 : Index := 9#32
  let c0_23 : Index := 0#32
  ![v57.toNat, 9, 0]
def k0_off21 (i : grid0.Coords) : Fin 3 → Nat :=
  let arg0 : BitVec 32 := BitVec.ofNat 32 (i 0).val
  let c2_i32 : BitVec 32 := 2#32
  let c0_i32_4 : BitVec 32 := 0#32
  let v14 : BitVec 1 := Scalar.cmpi .eq c2_i32 c0_i32_4
  let c1_i32_5 : BitVec 32 := 1#32
  let v15 : BitVec 32 := Scalar.select v14 c1_i32_5 c2_i32
  let v16 : BitVec 32 := Scalar.remsi arg0 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let v60 : Index := Scalar.indexCast v23
  let c10 : Index := 10#32
  let c0_24 : Index := 0#32
  ![v60.toNat, 10, 0]
def k0_off22 (i : grid0.Coords) : Fin 3 → Nat :=
  let arg0 : BitVec 32 := BitVec.ofNat 32 (i 0).val
  let c2_i32 : BitVec 32 := 2#32
  let c0_i32_4 : BitVec 32 := 0#32
  let v14 : BitVec 1 := Scalar.cmpi .eq c2_i32 c0_i32_4
  let c1_i32_5 : BitVec 32 := 1#32
  let v15 : BitVec 32 := Scalar.select v14 c1_i32_5 c2_i32
  let v16 : BitVec 32 := Scalar.remsi arg0 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let v63 : Index := Scalar.indexCast v23
  let c11 : Index := 11#32
  let c0_25 : Index := 0#32
  ![v63.toNat, 11, 0]
def k0_off23 (i : grid0.Coords) : Fin 3 → Nat :=
  let arg0 : BitVec 32 := BitVec.ofNat 32 (i 0).val
  let c2_i32 : BitVec 32 := 2#32
  let c0_i32_4 : BitVec 32 := 0#32
  let v14 : BitVec 1 := Scalar.cmpi .eq c2_i32 c0_i32_4
  let c1_i32_5 : BitVec 32 := 1#32
  let v15 : BitVec 32 := Scalar.select v14 c1_i32_5 c2_i32
  let v16 : BitVec 32 := Scalar.remsi arg0 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let v66 : Index := Scalar.indexCast v23
  let c12 : Index := 12#32
  let c0_26 : Index := 0#32
  ![v66.toNat, 12, 0]
def k0_off24 (i : grid0.Coords) : Fin 3 → Nat :=
  let arg0 : BitVec 32 := BitVec.ofNat 32 (i 0).val
  let c2_i32 : BitVec 32 := 2#32
  let c0_i32_4 : BitVec 32 := 0#32
  let v14 : BitVec 1 := Scalar.cmpi .eq c2_i32 c0_i32_4
  let c1_i32_5 : BitVec 32 := 1#32
  let v15 : BitVec 32 := Scalar.select v14 c1_i32_5 c2_i32
  let v16 : BitVec 32 := Scalar.remsi arg0 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let v69 : Index := Scalar.indexCast v23
  let c13 : Index := 13#32
  let c0_27 : Index := 0#32
  ![v69.toNat, 13, 0]
def k0_off25 (i : grid0.Coords) : Fin 3 → Nat :=
  let arg0 : BitVec 32 := BitVec.ofNat 32 (i 0).val
  let c2_i32 : BitVec 32 := 2#32
  let c0_i32_4 : BitVec 32 := 0#32
  let v14 : BitVec 1 := Scalar.cmpi .eq c2_i32 c0_i32_4
  let c1_i32_5 : BitVec 32 := 1#32
  let v15 : BitVec 32 := Scalar.select v14 c1_i32_5 c2_i32
  let v16 : BitVec 32 := Scalar.remsi arg0 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let v72 : Index := Scalar.indexCast v23
  let c14 : Index := 14#32
  let c0_28 : Index := 0#32
  ![v72.toNat, 14, 0]
def k0_off26 (i : grid0.Coords) : Fin 3 → Nat :=
  let arg0 : BitVec 32 := BitVec.ofNat 32 (i 0).val
  let c2_i32 : BitVec 32 := 2#32
  let c0_i32_4 : BitVec 32 := 0#32
  let v14 : BitVec 1 := Scalar.cmpi .eq c2_i32 c0_i32_4
  let c1_i32_5 : BitVec 32 := 1#32
  let v15 : BitVec 32 := Scalar.select v14 c1_i32_5 c2_i32
  let v16 : BitVec 32 := Scalar.remsi arg0 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let v75 : Index := Scalar.indexCast v23
  let c15 : Index := 15#32
  let c0_29 : Index := 0#32
  ![v75.toNat, 15, 0]
def k0_off27 (i : grid0.Coords) : Fin 1 → Nat :=
  let arg0 : BitVec 32 := BitVec.ofNat 32 (i 0).val
  let v86 : Index := Scalar.indexCast arg0
  ![v86.toNat]
def k0_cond3 (i : grid0.Coords) (v0 : BitVec 32) : BitVec 1 :=
  let arg0 : BitVec 32 := BitVec.ofNat 32 (i 0).val
  let v8 : BitVec 1 := Scalar.cmpi .sge arg0 v0
  let v9 : BitVec 32 := Scalar.extui v8
  let c0_i32_2 : BitVec 32 := 0#32
  let v10 : BitVec 1 := Scalar.cmpi .ne v9 c0_i32_2
  v10

def k0_cond4 (i : grid0.Coords) (v0 : BitVec 32) : BitVec 1 :=
  let arg0 : BitVec 32 := BitVec.ofNat 32 (i 0).val
  let v11 : BitVec 1 := Scalar.cmpi .slt arg0 v0
  let v12 : BitVec 32 := Scalar.extui v11
  let c0_i32_3 : BitVec 32 := 0#32
  let v13 : BitVec 1 := Scalar.cmpi .ne v12 c0_i32_3
  v13

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S72) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S72) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S72) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MoeRefIdeal.lean ====
abbrev S72 : Shape := ⟨1, ![72]⟩
abbrev S1 : Shape := ⟨1, ![1]⟩
abbrev S18432 : Shape := ⟨1, ![18432]⟩
abbrev S196608x128 : Shape := ⟨2, ![196608, 128]⟩
abbrev S16x2048x512 : Shape := ⟨3, ![16, 2048, 512]⟩
abbrev S16x512x2048 : Shape := ⟨3, ![16, 512, 2048]⟩
abbrev S2048x128 : Shape := ⟨2, ![2048, 128]⟩
abbrev S1x128 : Shape := ⟨2, ![1, 128]⟩
abbrev S12288x2048 : Shape := ⟨2, ![12288, 2048]⟩
abbrev S_ : Shape := ⟨0, ![]⟩
abbrev S18432x1 : Shape := ⟨2, ![18432, 1]⟩
abbrev S18432x2048 : Shape := ⟨2, ![18432, 2048]⟩
abbrev S72x256x2048 : Shape := ⟨3, ![72, 256, 2048]⟩
abbrev S72x256x128 : Shape := ⟨3, ![72, 256, 128]⟩
abbrev S128 : Shape := ⟨1, ![128]⟩
abbrev S1x1x128 : Shape := ⟨3, ![1, 1, 128]⟩
abbrev S72x256x4 : Shape := ⟨3, ![72, 256, 4]⟩
abbrev S72x256x16 : Shape := ⟨3, ![72, 256, 16]⟩
abbrev S72x256 : Shape := ⟨2, ![72, 256]⟩
abbrev S72x256x1 : Shape := ⟨3, ![72, 256, 1]⟩
abbrev S72x1x1 : Shape := ⟨3, ![72, 1, 1]⟩
abbrev S72x256x2 : Shape := ⟨3, ![72, 256, 2]⟩
abbrev S72x1 : Shape := ⟨2, ![72, 1]⟩
abbrev S72x2048x512 : Shape := ⟨3, ![72, 2048, 512]⟩
abbrev S72x512x2048 : Shape := ⟨3, ![72, 512, 2048]⟩
abbrev S72x256x512 : Shape := ⟨3, ![72, 256, 512]⟩
abbrev S294912x128 : Shape := ⟨2, ![294912, 128]⟩

abbrev nBuf : Space → Nat
  | .hbm => 192
  | .vmem => 0
  | .smem => 0
  | _ => 0

abbrev hbmTy0_0 (i : Nat) : BufTy := match i % 128 with
  | 0 => ⟨S72, .i32⟩
  | 1 => ⟨S72, .i32⟩
  | 2 => ⟨S1, .i32⟩
  | 3 => ⟨S18432, .i32⟩
  | 4 => ⟨S196608x128, .f32⟩
  | 5 => ⟨S16x2048x512, .bf16⟩
  | 6 => ⟨S16x2048x512, .bf16⟩
  | 7 => ⟨S16x512x2048, .bf16⟩
  | 8 => ⟨S2048x128, .bf16⟩
  | 9 => ⟨S1x128, .f32⟩
  | 10 => ⟨S12288x2048, .f32⟩
  | 11 => ⟨S_, .i32⟩
  | 12 => ⟨S18432, .i32⟩
  | 13 => ⟨S18432, .i1⟩
  | 14 => ⟨S_, .i32⟩
  | 15 => ⟨S18432, .i32⟩
  | 16 => ⟨S18432, .i32⟩
  | 17 => ⟨S18432, .i32⟩
  | 18 => ⟨S18432x1, .i32⟩
  | 19 => ⟨S18432x2048, .f32⟩
  | 20 => ⟨S18432x2048, .bf16⟩
  | 21 => ⟨S18432x2048, .f32⟩
  | 22 => ⟨S72x256x2048, .f32⟩
  | 23 => ⟨S2048x128, .f32⟩
  | 24 => ⟨S72x256x128, .f32⟩
  | 25 => ⟨S128, .f32⟩
  | 26 => ⟨S1x1x128, .f32⟩
  | 27 => ⟨S72x256x128, .f32⟩
  | 28 => ⟨S72x256x128, .f32⟩
  | 29 => ⟨S72x256x4, .f32⟩
  | 30 => ⟨S72x256x16, .f32⟩
  | 31 => ⟨S72x256x4, .f32⟩
  | 32 => ⟨S72x256x4, .f32⟩
  | 33 => ⟨S_, .f32⟩
  | 34 => ⟨S72x256, .f32⟩
  | 35 => ⟨S72x256x1, .f32⟩
  | 36 => ⟨S72x256x4, .f32⟩
  | 37 => ⟨S72x256x4, .f32⟩
  | 38 => ⟨S_, .i32⟩
  | 39 => ⟨S72, .i32⟩
  | 40 => ⟨S72, .i32⟩
  | 41 => ⟨S72x256x4, .i32⟩
  | 42 => ⟨S72x1x1, .i32⟩
  | 43 => ⟨S72x256x4, .i32⟩
  | 44 => ⟨S72x256x4, .i1⟩
  | 45 => ⟨S_, .f32⟩
  | 46 => ⟨S_, .f32⟩
  | 47 => ⟨S72x256x4, .f32⟩
  | 48 => ⟨S72x256x4, .f32⟩
  | 49 => ⟨S_, .f32⟩
  | 50 => ⟨S72x256, .f32⟩
  | 51 => ⟨S72x256x1, .f32⟩
  | 52 => ⟨S72x256x16, .i32⟩
  | 53 => ⟨S72x1x1, .i32⟩
  | 54 => ⟨S72x256x16, .i32⟩
  | 55 => ⟨S72x256x16, .i1⟩
  | 56 => ⟨S_, .f32⟩
  | 57 => ⟨S_, .f32⟩
  | 58 => ⟨S72x256x16, .f32⟩
  | 59 => ⟨S72x256x16, .f32⟩
  | 60 => ⟨S_, .f32⟩
  | 61 => ⟨S72x256, .f32⟩
  | 62 => ⟨S72x256x1, .f32⟩
  | 63 => ⟨S72x256x16, .i32⟩
  | 64 => ⟨S72x1x1, .i32⟩
  | 65 => ⟨S72x256x16, .i32⟩
  | 66 => ⟨S72x256x16, .i1⟩
  | 67 => ⟨S_, .f32⟩
  | 68 => ⟨S_, .f32⟩
  | 69 => ⟨S72x256x16, .f32⟩
  | 70 => ⟨S72x256x16, .f32⟩
  | 71 => ⟨S_, .f32⟩
  | 72 => ⟨S72x256, .f32⟩
  | 73 => ⟨S72x256x1, .f32⟩
  | 74 => ⟨S72x256x2, .f32⟩
  | 75 => ⟨S72x256x2, .f32⟩
  | 76 => ⟨S72x256x2, .f32⟩
  | 77 => ⟨S_, .f32⟩
  | 78 => ⟨S72x256, .f32⟩
  | 79 => ⟨S72x256x1, .f32⟩
  | 80 => ⟨S72x256x2, .f32⟩
  | 81 => ⟨S72x256x2, .f32⟩
  | 82 => ⟨S72x256x2, .f32⟩
  | 83 => ⟨S72x256x2, .f32⟩
  | 84 => ⟨S72x256x1, .f32⟩
  | 85 => ⟨S72x256x1, .f32⟩
  | 86 => ⟨S_, .i32⟩
  | 87 => ⟨S72, .i32⟩
  | 88 => ⟨S72, .i1⟩
  | 89 => ⟨S_, .i32⟩
  | 90 => ⟨S72, .i32⟩
  | 91 => ⟨S72, .i32⟩
  | 92 => ⟨S72, .i32⟩
  | 93 => ⟨S72x1, .i32⟩
  | 94 => ⟨S72x2048x512, .bf16⟩
  | 95 => ⟨S72x2048x512, .f32⟩
  | 96 => ⟨S_, .i32⟩
  | 97 => ⟨S72, .i32⟩
  | 98 => ⟨S72, .i1⟩
  | 99 => ⟨S_, .i32⟩
  | 100 => ⟨S72, .i32⟩
  | 101 => ⟨S72, .i32⟩
  | 102 => ⟨S72, .i32⟩
  | 103 => ⟨S72x1, .i32⟩
  | 104 => ⟨S72x2048x512, .bf16⟩
  | 105 => ⟨S72x2048x512, .f32⟩
  | 106 => ⟨S_, .i32⟩
  | 107 => ⟨S72, .i32⟩
  | 108 => ⟨S72, .i1⟩
  | 109 => ⟨S_, .i32⟩
  | 110 => ⟨S72, .i32⟩
  | 111 => ⟨S72, .i32⟩
  | 112 => ⟨S72, .i32⟩
  | 113 => ⟨S72x1, .i32⟩
  | 114 => ⟨S72x512x2048, .bf16⟩
  | 115 => ⟨S72x512x2048, .f32⟩
  | 116 => ⟨S72x256x512, .f32⟩
  | 117 => ⟨S72x256x512, .f32⟩
  | 118 => ⟨S72x256x512, .f32⟩
  | 119 => ⟨S_, .f32⟩
  | 120 => ⟨S72x256x512, .f32⟩
  | 121 => ⟨S72x256x512, .f32⟩
  | 122 => ⟨S_, .f32⟩
  | 123 => ⟨S72x256x512, .f32⟩
  | 124 => ⟨S72x256x512, .f32⟩
  | 125 => ⟨S72x256x512, .f32⟩
  | 126 => ⟨S72x256x512, .f32⟩
  | 127 => ⟨S72x256x512, .f32⟩
  | _ => ⟨S72, .i32⟩

abbrev hbmTy0_1 (i : Nat) : BufTy := match i % 128 with
  | 0 => ⟨S72x256x512, .bf16⟩
  | 1 => ⟨S72x256x512, .f32⟩
  | 2 => ⟨S72x256x2048, .f32⟩
  | 3 => ⟨S72x256x2048, .f32⟩
  | 4 => ⟨S72x256x2048, .f32⟩
  | 5 => ⟨S_, .i32⟩
  | 6 => ⟨S72, .i32⟩
  | 7 => ⟨S72, .i1⟩
  | 8 => ⟨S_, .i32⟩
  | 9 => ⟨S72, .i32⟩
  | 10 => ⟨S72, .i32⟩
  | 11 => ⟨S72, .i32⟩
  | 12 => ⟨S72x1, .i32⟩
  | 13 => ⟨S72x2048x512, .bf16⟩
  | 14 => ⟨S72x2048x512, .f32⟩
  | 15 => ⟨S_, .i32⟩
  | 16 => ⟨S72, .i32⟩
  | 17 => ⟨S72, .i1⟩
  | 18 => ⟨S_, .i32⟩
  | 19 => ⟨S72, .i32⟩
  | 20 => ⟨S72, .i32⟩
  | 21 => ⟨S72, .i32⟩
  | 22 => ⟨S72x1, .i32⟩
  | 23 => ⟨S72x2048x512, .bf16⟩
  | 24 => ⟨S72x2048x512, .f32⟩
  | 25 => ⟨S_, .i32⟩
  | 26 => ⟨S72, .i32⟩
  | 27 => ⟨S72, .i1⟩
  | 28 => ⟨S_, .i32⟩
  | 29 => ⟨S72, .i32⟩
  | 30 => ⟨S72, .i32⟩
  | 31 => ⟨S72, .i32⟩
  | 32 => ⟨S72x1, .i32⟩
  | 33 => ⟨S72x512x2048, .bf16⟩
  | 34 => ⟨S72x512x2048, .f32⟩
  | 35 => ⟨S72x256x512, .f32⟩
  | 36 => ⟨S72x256x512, .f32⟩
  | 37 => ⟨S72x256x512, .f32⟩
  | 38 => ⟨S_, .f32⟩
  | 39 => ⟨S72x256x512, .f32⟩
  | 40 => ⟨S72x256x512, .f32⟩
  | 41 => ⟨S_, .f32⟩
  | 42 => ⟨S72x256x512, .f32⟩
  | 43 => ⟨S72x256x512, .f32⟩
  | 44 => ⟨S72x256x512, .f32⟩
  | 45 => ⟨S72x256x512, .f32⟩
  | 46 => ⟨S72x256x512, .f32⟩
  | 47 => ⟨S72x256x512, .bf16⟩
  | 48 => ⟨S72x256x512, .f32⟩
  | 49 => ⟨S72x256x2048, .f32⟩
  | 50 => ⟨S72x256x2048, .f32⟩
  | 51 => ⟨S72x256x2048, .f32⟩
  | 52 => ⟨S72x256x2048, .f32⟩
  | 53 => ⟨S72, .i32⟩
  | 54 => ⟨S_, .i32⟩
  | 55 => ⟨S72, .i32⟩
  | 56 => ⟨S72, .i1⟩
  | 57 => ⟨S72x1x1, .i1⟩
  | 58 => ⟨S_, .f32⟩
  | 59 => ⟨S_, .f32⟩
  | 60 => ⟨S72x256x2048, .i1⟩
  | 61 => ⟨S72x256x2048, .f32⟩
  | 62 => ⟨S72x256x2048, .f32⟩
  | 63 => ⟨S294912x128, .f32⟩
  | _ => ⟨S72, .i32⟩

abbrev hbmTy (i : Nat) : BufTy := match i / 128 with
  | 0 => hbmTy0_0 i
  | 1 => hbmTy0_1 i
  | _ => ⟨S72, .i32⟩

abbrev bufTy : (tb : Table) → Fin (tcTables nBuf tb) → BufTy
  | .hbm, ⟨i, _⟩ => hbmTy i
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_1 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_call0_v0 : Ref sig .tc := ⟨.hbm, 46, rfl⟩
abbrev main_call0_v1 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_4 : Ref sig .tc := ⟨.hbm, 56, rfl⟩
abbrev main_call1_v0 : Ref sig .tc := ⟨.hbm, 57, rfl⟩
abbrev main_call1_v1 : Ref sig .tc := ⟨.hbm, 58, rfl⟩
abbrev main_v38 : Ref sig .tc := ⟨.hbm, 59, rfl⟩
abbrev main_cst_5 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_6 : Ref sig .tc := ⟨.hbm, 67, rfl⟩
abbrev main_call2_v0 : Ref sig .tc := ⟨.hbm, 68, rfl⟩
abbrev main_call2_v1 : Ref sig .tc := ⟨.hbm, 69, rfl⟩
abbrev main_v45 : Ref sig .tc := ⟨.hbm, 70, rfl⟩
abbrev main_cst_7 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_8 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_c_9 : Ref sig .tc := ⟨.hbm, 86, rfl⟩
abbrev main_v59 : Ref sig .tc := ⟨.hbm, 87, rfl⟩
abbrev main_v60 : Ref sig .tc := ⟨.hbm, 88, rfl⟩
abbrev main_c_10 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_11 : Ref sig .tc := ⟨.hbm, 96, rfl⟩
abbrev main_v67 : Ref sig .tc := ⟨.hbm, 97, rfl⟩
abbrev main_v68 : Ref sig .tc := ⟨.hbm, 98, rfl⟩
abbrev main_c_12 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_13 : Ref sig .tc := ⟨.hbm, 106, rfl⟩
abbrev main_v75 : Ref sig .tc := ⟨.hbm, 107, rfl⟩
abbrev main_v76 : Ref sig .tc := ⟨.hbm, 108, rfl⟩
abbrev main_c_14 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_call3_v0 : Ref sig .tc := ⟨.hbm, 117, rfl⟩
abbrev main_call3_v1 : Ref sig .tc := ⟨.hbm, 118, rfl⟩
abbrev main_call3_cst : Ref sig .tc := ⟨.hbm, 119, rfl⟩
abbrev main_call3_v2 : Ref sig .tc := ⟨.hbm, 120, rfl⟩
abbrev main_call3_v3 : Ref sig .tc := ⟨.hbm, 121, rfl⟩
abbrev main_call3_cst_0 : Ref sig .tc := ⟨.hbm, 122, rfl⟩
abbrev main_call3_v4 : Ref sig .tc := ⟨.hbm, 123, rfl⟩
abbrev main_call3_v5 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_c_15 : Ref sig .tc := ⟨.hbm, 133, rfl⟩
abbrev main_v92 : Ref sig .tc := ⟨.hbm, 134, rfl⟩
abbrev main_v93 : Ref sig .tc := ⟨.hbm, 135, rfl⟩
abbrev main_c_16 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_c_17 : Ref sig .tc := ⟨.hbm, 143, rfl⟩
abbrev main_v100 : Ref sig .tc := ⟨.hbm, 144, rfl⟩
abbrev main_v101 : Ref sig .tc := ⟨.hbm, 145, rfl⟩
abbrev main_c_18 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_c_19 : Ref sig .tc := ⟨.hbm, 153, rfl⟩
abbrev main_v108 : Ref sig .tc := ⟨.hbm, 154, rfl⟩
abbrev main_v109 : Ref sig .tc := ⟨.hbm, 155, rfl⟩
abbrev main_c_20 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_call4_v0 : Ref sig .tc := ⟨.hbm, 164, rfl⟩
abbrev main_call4_v1 : Ref sig .tc := ⟨.hbm, 165, rfl⟩
abbrev main_call4_cst : Ref sig .tc := ⟨.hbm, 166, rfl⟩
abbrev main_call4_v2 : Ref sig .tc := ⟨.hbm, 167, rfl⟩
abbrev main_call4_v3 : Ref sig .tc := ⟨.hbm, 168, rfl⟩
abbrev main_call4_cst_0 : Ref sig .tc := ⟨.hbm, 169, rfl⟩
abbrev main_call4_v4 : Ref sig .tc := ⟨.hbm, 170, rfl⟩
abbrev main_call4_v5 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_cst_21 : Ref sig .tc := ⟨.hbm, 186, rfl⟩
abbrev main_call5_v0 : Ref sig .tc := ⟨.hbm, 187, rfl⟩
abbrev main_call5_v1 : Ref sig .tc := ⟨.hbm, 188, rfl⟩
abbrev main_call5_v2 : Ref sig .tc := ⟨.hbm, 189, rfl⟩
abbrev main_v131 : Ref sig .tc := ⟨.hbm, 190, rfl⟩
abbrev main_v132 : Ref sig .tc := ⟨.hbm, 191, rfl⟩

abbrev nD : Nat := 1
abbrev τ : Topo := Topo.v7x

variable {F : FTy → Type} [FloatOps F]
-- ==== Proof.ProjBody.lean ====
module

public import proofs.«01_k».proof.Proof.Gen.ProjIdeal.Frame
public import proofs.«01_k».proof.Proof.Gen.ProjIdeal.Skeleton
public import Idealize.ShloMosaic.Lib.VecWindow

@[expose] public section

set_option maxRecDepth 16384

noncomputable section

namespace Cert.ProjIdeal.Hand

open Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first row block of a column: the weight block is cast then. -/
abbrev first (i : grid0.Coords) : Prop :=
  (Scalar.cmpi .ne (Scalar.extui (Scalar.cmpi .eq (BitVec.ofNat 32 (i 1).val) 0#32)) 0#32) = 1#1

/-- What the scratch holds after a point: the block cast anew in the first row block, else what it held. -/
def cast' (i : grid0.Coords) (w : Vec F S2048x1024 .f32) (s : Vec F S2048x1024 .bf16) : Vec F S2048x1024 .bf16 :=
  if first i then k0_pay1 w else s

/-- A store of a whole block leaves its payload. -/
theorem stored_block {e : EltTy} {a b : ℕ} (v : View sig .tc .vmem ⟨2, ![a, b]⟩ e) (f : v.ty.Contents (Elt F)) (inb : ∀ x, (![0, 0] : Fin 2 → ℕ) x + (![a, b] : Fin 2 → ℕ) x ≤ (![a, b] : Fin 2 → ℕ) x)
    (w : Vec F ⟨2, ![a, b]⟩ e) (L : List (View.Piece (Elt F) ⟨2, ![a, b]⟩ e)) :
    v.read (Elt F) (v.writes (Elt F) f (⟨Rect.unit ![0, 0] ![a, b] inb, w⟩ :: L)) = w :=
  View.read_writes_full v f (off := ![0, 0]) inb w L

/-- A load of a whole block reads the contents. -/
theorem loaded_block {e : EltTy} {a b : ℕ} (v : View sig .tc .vmem ⟨2, ![a, b]⟩ e) (f : v.ty.Contents (Elt F)) (inb : ∀ x, (![0, 0] : Fin 2 → ℕ) x + (![a, b] : Fin 2 → ℕ) x ≤ (![a, b] : Fin 2 → ℕ) x) :
    v.readAt (Elt F) (Rect.unit ![0, 0] ![a, b] inb).toLoadRect f = v.read (Elt F) f :=
  View.readAt_full v f (off := ![0, 0]) inb

/-- A load of a whole block after a store of it reads the payload. -/
theorem reloaded_block {e : EltTy} {a b : ℕ} (v : View sig .tc .vmem ⟨2, ![a, b]⟩ e) (inb inb' : ∀ x, (![0, 0] : Fin 2 → ℕ) x + (![a, b] : Fin 2 → ℕ) x ≤ (![a, b] : Fin 2 → ℕ) x)
    (w : Vec F ⟨2, ![a, b]⟩ e) (L : List (View.Piece (Elt F) ⟨2, ![a, b]⟩ e)) :
    v.readCov (⟨Rect.unit ![0, 0] ![a, b] inb, w⟩ :: L) (Rect.unit ![0, 0] ![a, b] inb').toLoadRect = w :=
  View.readCov_full v (off := ![0, 0]) (off' := ![0, 0]) inb' inb w L

set_option maxHeartbeats 4000000 in
/-- The body at a point, from the contents of its buffers to what it leaves in each: the scratch cast in the first row block,
the product in the first output, and in the key and value outputs at the points of their columns. -/
theorem body_run (c : Dev nD) (E : Set ℕ) (i : grid0.Coords) (arg2 : Memref sig .tc .vmem S512x2048 .bf16) (harg2 : arg2.IsWhole) (arg3 : Memref sig .tc .vmem S2048x1024 .f32) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S2048x1024 .bf16) (harg8 : arg8.IsWhole)
    (x0 : Vec F S512x2048 .bf16) (x1 : Vec F S2048x1024 .f32) (x2 : Vec F S1x1024 .f32) (y4 y5 : Vec F S512x1024 .f32) (s : Vec F S2048x1024 .bf16)
    (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare y4 ∗ owns (c : Thread nD τ) arg7 fullShare y5 ∗ owns (c : Thread nD τ) arg8 fullShare s
        ∗ (iprop(owns (c : Thread nD τ) arg2 fullShare x0 ∗ owns (c : Thread nD τ) arg3 fullShare x1 ∗ owns (c : Thread nD τ) arg4 fullShare x2 ∗ owns (c : Thread nD τ) arg5 fullShare (k0_pay3 x0 (cast' i x1 s) x2)
            ∗ owns (c : Thread nD τ) arg6 fullShare (if k0_cond2 i = 1#1 then k0_pay2 x0 (cast' i x1 s) x2 else y4)
            ∗ owns (c : Thread nD τ) arg7 fullShare (if k0_cond3 i = 1#1 then k0_pay2 x0 (cast' i x1 s) x2 else y5)
            ∗ owns (c : Thread nD τ) arg8 fullShare (cast' i x1 s)) -∗ K ⟨⟩))
      ⊢ wp frame (wpE (defs₀ (F := F)) Variants.none c none) E (cc0_project i arg2 harg2 arg3 harg3 arg4 harg4 arg5 harg5 arg6 harg6 arg7 harg7 arg8 harg8) K := by
  simp only [cc0_project_eq_skeleton]; unfold cc0_project_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg6.eq_unread hf4; obtain rfl := harg7.eq_unread hf5; obtain rfl := harg8.eq_unread hfs
  have hA : (first i ∧ cast' i x1 s = k0_pay1 x1) ∨ (¬ first i ∧ cast' i x1 s = s) := by
    by_cases h : first i
    · exact .inl ⟨h, if_pos h⟩
    · exact .inr ⟨h, if_neg h⟩
  rcases hA with ⟨hc0, e0⟩ | ⟨hc0, e0⟩ <;> by_cases hc1 : k0_cond2 i = 1#1 <;> by_cases hc2 : k0_cond3 i = 1#1
  all_goals
    sl_exec (disch := first | sl_exact hc0 | sl_exact hc1 | sl_exact hc2)
    sl_step
    sl_unfold_run_names
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro; simp only [e0, reloaded_block, stored_block, loaded_block, Memref.IsWhole.read_unread]
    isplitl [H4]
    · iexists _; isplitr; swap; · iexact H4
      ipureintro; first | rw [if_pos hc1] | rw [if_neg hc1]
      simp only [e0, reloaded_block, stored_block, loaded_block, Memref.IsWhole.read_unread]
    isplitl [H5]
    · iexists _; isplitr; swap; · iexact H5
      ipureintro; first | rw [if_pos hc2] | rw [if_neg hc2]
      simp only [e0, reloaded_block, stored_block, loaded_block, Memref.IsWhole.read_unread]
    iexists _; isplitr; swap; · iexact HS
    ipureintro; simp only [e0, reloaded_block, stored_block, loaded_block, Memref.IsWhole.read_unread]

end Cert.ProjIdeal.Hand

end
-- ==== Proof.ProjFrame.lean ====
/- The projection's run, point by point: what each buffer holds, and the launch. -/
module

public import proofs.«01_k».proof.Proof.ProjBody
public import Idealize.ShloMosaic.Lib.Claim

@[expose] public section

set_option maxRecDepth 16384

noncomputable section

namespace Cert.ProjIdeal.Hand

open Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The product and its bias at a point: row block `t % 24`, column block `t / 24`. -/
def prod (c : Dev nD) (t : Fin cfg0.N) : Vec F S512x1024 .f32 :=
  k0_pay2 (iblk m c 0 t) (k0_pay1 (iblk m c 1 t)) (iblk m c 2 t)

theorem lt_N {n : ℕ} (h : n < 192) : n < cfg0.N := lt_of_lt_of_eq h N_0.symm

/-- The point at which the block that an output stored only from point `a` to point `a + 15` holds was stored. -/
def held (a : ℕ) (ha : a < 177) (t : Fin cfg0.N) : Fin cfg0.N := ⟨max a (min t.val (a + 15)), lt_N (by omega)⟩

/-- Before a point the scratch holds the cast block of the point's column, once the column has begun. -/
def scratchAt (c : Dev nD) (n : ℕ) : sProp 𝕄 :=
  iprop(iprop(∃ d, ⌜∀ h : n < cfg0.N, n % 24 ≠ 0 → d = k0_pay1 (iblk m c 1 ⟨n, h⟩)⌝ ∗ owns (c : Thread nD τ) (Memref.whole cc0_scratch0) fullShare d) ∗ (∃ r, prngReg c r))

/-- The proof data: the arrays as the launch finds them, each input's block in place, the product in the outputs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (iblk m c 0 t) (k0_pay1 (iblk m c 1 t)) (iblk m c 2 t)
    | ⟨4, _⟩ => prod m c (held 48 (by decide) t)
    | ⟨5, _⟩ => prod m c (held 72 (by decide) t)
  Φ t := scratchAt m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay3 (iblk m c 0 t) (k0_pay1 (iblk m c 1 t)) (iblk m c 2 t) := by dsimp only [dats]
theorem after0_4 (c : Dev nD) (t : Fin cfg0.N) : (dats m 0 c).after 4 t = prod m c (held 48 (by decide) t) := by dsimp only [dats]
theorem after0_5 (c : Dev nD) (t : Fin cfg0.N) : (dats m 0 c).after 5 t = prod m c (held 72 (by decide) t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Within a column the weight block is the point before's. -/
theorem weights_step (c : Dev nD) (n : ℕ) (h : n + 1 < cfg0.N) (hn : (n + 1) % 24 ≠ 0) :
    iblk m c 1 ⟨n + 1, h⟩ = iblk m c 1 ⟨n, Nat.lt_of_succ_lt h⟩ := by
  have hf : (cfg0.win 1).fetch ⟨n + 1, h⟩ = false := Bool.eq_false_iff.mpr fun e => hn ((fetch0_1 _).mp e)
  have hs := (dats m 0 c).before_of_pos 1 ⟨n + 1, h⟩ (Nat.succ_ne_zero n) hf (fun _ => Classical.arbitrary _)
  rw [before0_1] at hs
  exact hs

/-- An output stored at the points `a` to `a + 15`, written back at the first 15 of them and at the last point of the grid,
holds after them the block of point `a + 15`. -/
theorem kept_last (c : Dev nD) (w : Fin cfg0.W) (a : ℕ) (ha : a < 177)
    (hin : ∀ t, (cfg0.win w).fetch t = false) (hcut : ∀ t d, (dats m 0 c).kept w t d = (dats m 0 c).after w t)
    (hidle : ∀ t : Fin cfg0.N, a + 15 < t.val → cfg0.idle w (grid0.coords t) = true)
    (hlive : cfg0.idle w (grid0.coords ⟨a + 15, lt_N (by omega)⟩) = false)
    (hflush : ∀ t : Fin cfg0.N, a + 15 ≤ t.val → t.val < 191 → (cfg0.win w).flush t = false)
    (n : ℕ) : ∀ (h : a + 15 + n + 1 < cfg0.N) (d), (dats m 0 c).before w ⟨a + 15 + n + 1, h⟩ d = (dats m 0 c).after w ⟨a + 15, lt_N (by omega)⟩ := by
  induction n with
  | zero =>
    intro h d
    have h' : a + 15 + 0 + 1 < 192 := lt_of_lt_of_eq h N_0
    rw [(dats m 0 c).before_of_pos w _ (Nat.succ_ne_zero _) (hin _)]
    rw [hflush _ (by show a + 15 ≤ a + 15 + 0 + 1 - 1; omega) (by show a + 15 + 0 + 1 - 1 < 191; omega), if_neg Bool.false_ne_true]
    have e : (⟨a + 15 + 0 + 1 - 1, Nat.lt_of_le_of_lt (Nat.sub_le _ _) h⟩ : Fin cfg0.N) = ⟨a + 15, lt_N (by omega)⟩ := Fin.ext (by show a + 15 + 0 + 1 - 1 = a + 15; omega)
    have hl : (dats m 0 c).left w ⟨a + 15, lt_N (by omega)⟩ d = (dats m 0 c).after w ⟨a + 15, lt_N (by omega)⟩ := by
      unfold Dat.left
      rw [hlive]
      exact hcut _ _
    exact (congrArg (fun t => (dats m 0 c).left w t d) e).trans hl
  | succ n ih =>
    intro h d
    have h' : a + 15 + (n + 1) + 1 < 192 := lt_of_lt_of_eq h N_0
    rw [(dats m 0 c).before_of_pos w _ (Nat.succ_ne_zero _) (hin _)]
    rw [hflush _ (by show a + 15 ≤ a + 15 + (n + 1) + 1 - 1; omega) (by show a + 15 + (n + 1) + 1 - 1 < 191; omega), if_neg Bool.false_ne_true]
    unfold Dat.left
    rw [hidle _ (by show a + 15 < a + 15 + (n + 1) + 1 - 1; omega)]
    exact ih _ d

/-- The points that store the keys are the first 16 of column 2, those that store the values the first 16 of column 3. -/
theorem keys_at : ∀ t : Fin cfg0.N, k0_cond2 (grid0.coords t) = 1#1 ↔ 48 ≤ t.val ∧ t.val ≤ 63 :=
  (by decide +kernel : ∀ t : Fin grid0.N, k0_cond2 (grid0.coords t) = 1#1 ↔ 48 ≤ t.val ∧ t.val ≤ 63)
theorem values_at : ∀ t : Fin cfg0.N, k0_cond3 (grid0.coords t) = 1#1 ↔ 72 ≤ t.val ∧ t.val ≤ 87 :=
  (by decide +kernel : ∀ t : Fin grid0.N, k0_cond3 (grid0.coords t) = 1#1 ↔ 72 ≤ t.val ∧ t.val ≤ 87)
theorem first_at : ∀ t : Fin cfg0.N, first (grid0.coords t) ↔ t.val % 24 = 0 :=
  (by decide +kernel : ∀ t : Fin grid0.N, first (grid0.coords t) ↔ t.val % 24 = 0)

/-- The points that write back the keys and the values. -/
theorem flush_keys : ∀ t : Fin cfg0.N, (cfg0.win 4).flush t = true ↔ (48 ≤ t.val ∧ t.val ≤ 62) ∨ t.val = 191 :=
  (by decide +kernel : ∀ t : Fin grid0.N, (cfg0.win 4).flush t = true ↔ (48 ≤ t.val ∧ t.val ≤ 62) ∨ t.val = 191)
theorem flush_values : ∀ t : Fin cfg0.N, (cfg0.win 5).flush t = true ↔ (72 ≤ t.val ∧ t.val ≤ 86) ∨ t.val = 191 :=
  (by decide +kernel : ∀ t : Fin grid0.N, (cfg0.win 5).flush t = true ↔ (72 ≤ t.val ∧ t.val ≤ 86) ∨ t.val = 191)

theorem idle_keys (t : Fin cfg0.N) (h : k0_cond2 (grid0.coords t) ≠ 1#1) : cfg0.idle 4 (grid0.coords t) = true := by
  show (!(k0_cond2 (grid0.coords t) == 1#1)) = true
  simpa using h
theorem live_keys (t : Fin cfg0.N) (h : k0_cond2 (grid0.coords t) = 1#1) : cfg0.idle 4 (grid0.coords t) = false := by
  show (!(k0_cond2 (grid0.coords t) == 1#1)) = false
  simpa using h
theorem idle_values (t : Fin cfg0.N) (h : k0_cond3 (grid0.coords t) ≠ 1#1) : cfg0.idle 5 (grid0.coords t) = true := by
  show (!(k0_cond3 (grid0.coords t) == 1#1)) = true
  simpa using h
theorem live_values (t : Fin cfg0.N) (h : k0_cond3 (grid0.coords t) = 1#1) : cfg0.idle 5 (grid0.coords t) = false := by
  show (!(k0_cond3 (grid0.coords t) == 1#1)) = false
  simpa using h

/-- At the grid's last point the key output holds the block stored at point 63. -/
theorem before_keys (c : Dev nD) (t : Fin cfg0.N) (ht : t.val = 191) (d) : (dats m 0 c).before 4 t d = (dats m 0 c).after 4 t := by
  have h := kept_last m c 4 48 (by decide) (fun _ => rfl) (fun _ _ => rfl)
    (fun t h => idle_keys t fun e => by have := (keys_at t).mp e; omega)
    (live_keys _ ((keys_at _).mpr ⟨by decide, by decide⟩))
    (fun t h1 h2 => Bool.eq_false_iff.mpr fun e => by rcases (flush_keys t).mp e with h | h <;> omega) 127 (lt_N (by decide)) d
  have e : t = ⟨48 + 15 + 127 + 1, lt_N (by decide)⟩ := Fin.ext ht
  rw [e, h, after0_4, after0_4]
  congr 1

/-- At the grid's last point the value output holds the block stored at point 87. -/
theorem before_values (c : Dev nD) (t : Fin cfg0.N) (ht : t.val = 191) (d) : (dats m 0 c).before 5 t d = (dats m 0 c).after 5 t := by
  have h := kept_last m c 5 72 (by decide) (fun _ => rfl) (fun _ _ => rfl)
    (fun t h => idle_values t fun e => by have := (values_at t).mp e; omega)
    (live_values _ ((values_at _).mpr ⟨by decide, by decide⟩))
    (fun t h1 h2 => Bool.eq_false_iff.mpr fun e => by rcases (flush_values t).mp e with h | h <;> omega) 103 (lt_N (by decide)) d
  have e : t = ⟨72 + 15 + 103 + 1, lt_N (by decide)⟩ := Fin.ext ht
  rw [e, h, after0_5, after0_5]
  congr 1

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- What the body leaves in an output it stores at some points only is what the proof data says, at every point: at a point
that stores, the product; at the last point, the block held; at any other, what was found. -/
theorem leaves_part (c : Dev nD) (w : Fin cfg0.W) (t : Fin cfg0.N) (X d : (cfg0.win w).block.Idx → Elt F (cfg0.win w).elt) (stores : Prop)
    (hlive : stores → cfg0.idle w (grid0.coords t) = false ∧ X = (dats m 0 c).after w t)
    (hidle : ¬ stores → cfg0.idle w (grid0.coords t) = true ∧ X = (dats m 0 c).before w t d)
    (hlast : ¬ stores → (cfg0.win w).flush t = true → ∀ d, (dats m 0 c).before w t d = (dats m 0 c).after w t) :
    owns (c : Thread nD τ) ((cfg0.win w).stage (cfg0.slots t w)) fullShare X ⊢ ((dats m 0 c).leavesExact w t : sProp 𝕄) := by
  by_cases hs : stores
  · obtain ⟨h1, h2⟩ := hlive hs
    unfold Dat.leavesExact
    rw [h1, h2]
  · obtain ⟨h1, h2⟩ := hidle hs
    unfold Dat.leavesExact
    rw [h1]
    cases hf : (cfg0.win w).flush t
    · rw [h2]
      iintro H; iexists d; iexact H
    · rw [h2, hlast hs hf d]

/-- The key output after a point. -/
theorem leaves_keys (c : Dev nD) (t : Fin cfg0.N) (d) :
    owns (c : Thread nD τ) (win0_4.stage (cfg0.slots t 4)) fullShare (if k0_cond2 (grid0.coords t) = 1#1 then prod m c t else (dats m 0 c).before 4 t d)
      ⊢ ((dats m 0 c).leavesExact 4 t : sProp 𝕄) := by
  refine leaves_part m c 4 t _ d (k0_cond2 (grid0.coords t) = 1#1) (fun h => ⟨live_keys t h, ?_⟩) (fun h => ⟨idle_keys t h, if_neg h⟩) fun h hf d => ?_
  · rw [if_pos h, after0_4]
    have := (keys_at t).mp h
    congr 1
    exact Fin.ext (by show t.val = max 48 (min t.val (48 + 15)); omega)
  · have hn : ¬ (48 ≤ t.val ∧ t.val ≤ 63) := fun e => h ((keys_at t).mpr e)
    exact before_keys m c t (by rcases (flush_keys t).mp hf with e | e <;> omega) d

/-- The value output after a point. -/
theorem leaves_values (c : Dev nD) (t : Fin cfg0.N) (d) :
    owns (c : Thread nD τ) (win0_5.stage (cfg0.slots t 5)) fullShare (if k0_cond3 (grid0.coords t) = 1#1 then prod m c t else (dats m 0 c).before 5 t d)
      ⊢ ((dats m 0 c).leavesExact 5 t : sProp 𝕄) := by
  refine leaves_part m c 5 t _ d (k0_cond3 (grid0.coords t) = 1#1) (fun h => ⟨live_values t h, ?_⟩) (fun h => ⟨idle_values t h, if_neg h⟩) fun h hf d => ?_
  · rw [if_pos h, after0_5]
    have := (values_at t).mp h
    congr 1
    exact Fin.ext (by show t.val = max 72 (min t.val (72 + 15)); omega)
  · have hn : ¬ (72 ≤ t.val ∧ t.val ≤ 87) := fun e => h ((values_at t).mpr e)
    exact before_values m c t (by rcases (flush_values t).mp hf with e | e <;> omega) d

/-- An input or the first output after a point: live at every point. -/
theorem leaves_always (c : Dev nD) (w : Fin cfg0.W) (t : Fin cfg0.N) (X) (hl : cfg0.idle w (grid0.coords t) = false) (hX : X = (dats m 0 c).after w t) :
    owns (c : Thread nD τ) ((cfg0.win w).stage (cfg0.slots t w)) fullShare X ⊢ ((dats m 0 c).leavesExact w t : sProp 𝕄) := by
  unfold Dat.leavesExact
  rw [hl, hX]

/-- The scratch the body leaves, from what it found. -/
theorem scratch_next (c : Dev nD) (t : Fin cfg0.N) (s : Vec F S2048x1024 .bf16)
    (hs : ∀ h : t.val < cfg0.N, t.val % 24 ≠ 0 → s = k0_pay1 (iblk m c 1 ⟨t.val, h⟩)) :
    cast' (grid0.coords t) (iblk m c 1 t) s = k0_pay1 (iblk m c 1 t) := by
  by_cases h : first (grid0.coords t)
  · exact if_pos h
  · exact (if_neg h).trans (hs t.isLt fun e => h ((first_at t).mpr e))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.castSucc = scratchAt m c t.val from rfl, show (dats m 0 c).Φ t.succ = scratchAt m c (t.val + 1) from rfl]
  unfold scratchAt
  iintro ⟨⟨⟨%s, %hs, HS⟩, Hg⟩, Ho, ⟨%d0, H0⟩, ⟨%d1, H1⟩, ⟨%d2, H2⟩, ⟨%d3, H3⟩, ⟨%d4, H4⟩, ⟨%d5, H5⟩⟩
  iapply (body_run c Set.univ (grid0.coords t) _ _ _ _ _ _ _ _ _ _ _ _ _ _ (iblk m c 0 t) (iblk m c 1 t) (iblk m c 2 t)
    ((dats m 0 c).before 4 t d4) ((dats m 0 c).before 5 t d5) s _)
  isplitl [H0]; · iexact H0
  isplitl [H1]; · iexact H1
  isplitl [H2]; · iexact H2
  isplitl [H3]; · iexists _; iexact H3
  isplitl [H4]; · iexact H4
  isplitl [H5]; · iexact H5
  isplitl [HS]; · iexact HS
  rw [scratch_next m c t s hs]
  iintro ⟨H0, H1, H2, H3, H4, H5, HS⟩
  isplitl [HS Hg]
  · isplitl [HS]
    · iexists _; isplitr; swap; · iexact HS
      ipureintro
      exact fun h hn => congrArg k0_pay1 (weights_step m c t.val h hn).symm
    iexact Hg
  isplitl [Ho]; · iexact Ho
  isplitl [H0]; · iapply (leaves_always m c 0 t _ rfl (after0_0 m c t).symm); iexact H0
  isplitl [H1]; · iapply (leaves_always m c 1 t _ rfl (after0_1 m c t).symm); iexact H1
  isplitl [H2]; · iapply (leaves_always m c 2 t _ rfl (after0_2 m c t).symm); iexact H2
  isplitl [H3]; · iapply (leaves_always m c 3 t _ rfl (after0_3 m c t).symm); iexact H3
  isplitl [H4]; · iapply (leaves_keys m c t d4); iexact H4
  iapply (leaves_values m c t d5); iexact H5

/-- The body table's row at a point is the body. -/
theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- At the launch's two ends nothing is said of the scratch. -/
theorem scratch_ends (c : Dev nD) : ((Pipeline.ΦA spec0 c : sProp 𝕄) ⊢ scratchAt m c 0) ∧ ((scratchAt m c 192 : sProp 𝕄) ⊢ Pipeline.ΦA spec0 c) := by
  have e : (Pipeline.ΦA spec0 c : sProp 𝕄)
      = iprop(iprop((∃ d, owns (c : Thread nD τ) (Memref.whole cc0_scratch0) fullShare d)) ∗ (∃ r, prngReg c r)) := by
    unfold Pipeline.ΦA; rw [scopedRest0_eq]; simp only [owns_whole]; try rfl
  rw [e]
  unfold scratchAt
  constructor
  · iintro ⟨⟨%d, H⟩, Hg⟩
    isplitl [H]
    · iexists d; isplitr
      · ipureintro; exact fun _ h => absurd rfl h
      iexact H
    iexact Hg
  · iintro ⟨⟨%d, -, H⟩, Hg⟩
    isplitl [H]
    · iexists d; iexact H
    iexact Hg

set_option backward.isDefEq.respectTransparency.types false in
/-- The launch: every run ends with the arrays as the proof data says and every counter at zero. -/
theorem run_main : θ_run defs (onTc (τ := τ) (main (F := F))) (s₀ m ρ) (fun r => Pipeline.FramePost cfgs (dats m) 0 (V m) r ∧ r.2.sem = fun _ => 0) :=
  Pipeline.θ_run_frame_track (Q' := fun r => Pipeline.FramePost cfgs (dats m) 0 (V m) r ∧ r.2.sem = fun _ => 0) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => (scratch_ends m c).1) (hout := fun c => (scratch_ends m c).2) (hQ' := fun _ h => h)

/-- The run keeps the argument arrays and leaves every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.ProjIdeal.Hand

end
-- ==== Proof.ProjValue.lean ====
/- The projection's three result arrays over the extended reals, and the reference's. -/
module

public import proofs.«01_k».proof.Proof.ProjFrame
public import proofs.«01_k».proof.Proof.Gen.ProjRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ProjIdeal.Hand
open Cert.ProjIdeal.Gen

variable (m : (ℓ : Loc nD τ sig) → Buf (Elt Ideal) ℓ)

/-- The windows: point `t` is row block `t % 24` and column block `t / 24`; the key and value blocks rest at their last. -/
theorem idx : ∀ t : Fin cfg0.N, win0_0.index t = ![t.val % 24, 0] ∧ win0_1.index t = ![0, t.val / 24]
    ∧ win0_2.index t = ![0, t.val / 24] ∧ win0_3.index t = ![t.val % 24, t.val / 24]
    ∧ win0_4.index t = ![max 48 (min t.val 63) - 48, 0] ∧ win0_5.index t = ![max 72 (min t.val 87) - 72, 0] :=
  (by decide +kernel : ∀ t : Fin grid0.N, _)

/-- One entry of the projection: row `r` of the input times column `q` of the weights, and the bias. -/
def entry (h : FVec Ideal S12288x2048 .bf16) (w : FVec Ideal S1x2048x8192 .f32) (b : FVec Ideal S1x8192 .f32)
    (r : Fin 12288) (q : Fin 8192) : EReal :=
  (∑ k : Fin 2048, h (ix2 r k) * w (ix3 0 k q)) + b (ix2 0 q)

/-- The launch finds the weights without their leading axis. -/
theorem weights (c : Dev nD) (i : S2048x8192.Idx) :
    (V m c main_v0 : FVec Ideal S2048x8192 .f32) i = (m ((c : Thread nD τ).loc main_arg1) : FVec Ideal S1x2048x8192 .f32) (ix3 0 (i 0) (i 1)) := by
  entry_read
  pointwise

/-- The product of a point at an entry of its block. -/
theorem prod_apply (c : Dev nD) (t : Fin cfg0.N) (y : S512x1024.Idx) (r : Fin 12288) (q : Fin 8192)
    (hr : r.val = t.val % 24 * 512 + (y 0).val) (hq : q.val = t.val / 24 * 1024 + (y 1).val) :
    prod m c t y = entry (m ((c : Thread nD τ).loc main_arg0)) (m ((c : Thread nD τ).loc main_arg1)) (m ((c : Thread nD τ).loc main_arg2)) r q := by
  unfold prod entry
  pointwise [k0_pay2, k0_pay1]
  have e0 : ∀ x : Fin 2048, iblk m c 0 t (ix2 (y 0) x) = (m ((c : Thread nD τ).loc main_arg0) : FVec Ideal S12288x2048 .bf16) (ix2 r x) := fun x => by
    rw [← V_main_arg0 m c]
    blk_ext [iblk, idx t]
  have e1 : ∀ x : Fin 2048, iblk m c 1 t (ix2 x (y 1)) = (m ((c : Thread nD τ).loc main_arg1) : FVec Ideal S1x2048x8192 .f32) (ix3 0 x q) := fun x => by
    refine Eq.trans ?_ (weights m c (ix2 x q))
    blk_ext [iblk, idx t]
  have e2 : iblk m c 2 t (ix2 0 (y 1)) = (m ((c : Thread nD τ).loc main_arg2) : FVec Ideal S1x8192 .f32) (ix2 0 q) := by
    rw [← V_main_arg2 m c]
    blk_ext [iblk, idx t]
  simp only [e0, e1, e2]

/-- The projection's array: every entry, cast. -/
def projOf (h : FVec Ideal S12288x2048 .bf16) (w : FVec Ideal S1x2048x8192 .f32) (b : FVec Ideal S1x8192 .f32) :
    FVec Ideal S12288x8192 .bf16 := fun i => entry h w b (i 0) (i 1)

/-- Columns `o` onwards of the first 8192 rows: the keys from column 2048, the values from column 3072. -/
def partOf (o : ℕ) (ho : o ≤ 7168) (h : FVec Ideal S12288x2048 .bf16) (w : FVec Ideal S1x2048x8192 .f32) (b : FVec Ideal S1x8192 .f32) :
    FVec Ideal S8192x1024 .f32 := fun i =>
  entry h w b ⟨(i 0).val, by have h0 : (i 0).val < 8192 := (i 0).isLt; omega⟩ ⟨o + (i 1).val, by have h1 : (i 1).val < 1024 := (i 1).isLt; omega⟩

/-- The first result after the launch. -/
theorem final_proj (c : Dev nD) : ((dats m 0 c).arrAt 3 cfg0.N : FVec Ideal S12288x8192 .bf16)
    = projOf (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  have hy0 : (y 0).val < 512 := (y 0).isLt
  have hy1 : (y 1).val < 1024 := (y 1).isLt
  have e0 : ((win0_3.blk t).view.emb y 0).val = t.val % 24 * 512 + (y 0).val := by blk_simp [idx t]; try omega
  have e1 : ((win0_3.blk t).view.emb y 1).val = t.val / 24 * 1024 + (y 1).val := by blk_simp [idx t]; try omega
  exact prod_apply m c t y _ _ e0 e1

/-- The keys after the launch. -/
theorem final_keys (c : Dev nD) : ((dats m 0 c).arrAt 4 cfg0.N : FVec Ideal S8192x1024 .f32)
    = partOf 2048 (by decide) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  have ht : t.val < 192 := lt_of_lt_of_eq t.isLt N_0
  have hy0 : (y 0).val < 512 := (y 0).isLt
  have hy1 : (y 1).val < 1024 := (y 1).isLt
  have e0 : ((win0_4.blk t).view.emb y 0).val = (max 48 (min t.val 63) - 48) * 512 + (y 0).val := by blk_simp [idx t]; try omega
  have e1 : ((win0_4.blk t).view.emb y 1).val = (y 1).val := by blk_simp [idx t]; try omega
  refine prod_apply m c (held 48 (by decide) t) y _ _ ?_ ?_
  · show ((win0_4.blk t).view.emb y 0).val = max 48 (min t.val (48 + 15)) % 24 * 512 + (y 0).val
    omega
  · show 2048 + ((win0_4.blk t).view.emb y 1).val = max 48 (min t.val (48 + 15)) / 24 * 1024 + (y 1).val
    omega

/-- The values after the launch. -/
theorem final_values (c : Dev nD) : ((dats m 0 c).arrAt 5 cfg0.N : FVec Ideal S8192x1024 .f32)
    = partOf 3072 (by decide) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  have ht : t.val < 192 := lt_of_lt_of_eq t.isLt N_0
  have hy0 : (y 0).val < 512 := (y 0).isLt
  have hy1 : (y 1).val < 1024 := (y 1).isLt
  have e0 : ((win0_5.blk t).view.emb y 0).val = (max 72 (min t.val 87) - 72) * 512 + (y 0).val := by blk_simp [idx t]; try omega
  have e1 : ((win0_5.blk t).view.emb y 1).val = (y 1).val := by blk_simp [idx t]; try omega
  refine prod_apply m c (held 72 (by decide) t) y _ _ ?_ ?_
  · show ((win0_5.blk t).view.emb y 0).val = max 72 (min t.val (72 + 15)) % 24 * 512 + (y 0).val
    omega
  · show 3072 + ((win0_5.blk t).view.emb y 1).val = max 72 (min t.val (72 + 15)) / 24 * 1024 + (y 1).val
    omega

/-- The run: the three result arrays at the projection's entries, and the argument arrays as launched. -/
theorem run (g : Dev nD → PrngReg) : θ_run defs (onTc (τ := τ) (main (F := Ideal))) ⟨m, fun _ => 0, g⟩ (fun r => ∀ c : Dev nD,
      r.2.mem ((c.tc : Thread nD τ).loc main_v1_0) = projOf (m ((c : Thread nD τ).loc main_arg0)) (m ((c : Thread nD τ).loc main_arg1)) (m ((c : Thread nD τ).loc main_arg2))
      ∧ r.2.mem ((c.tc : Thread nD τ).loc main_v1_1) = partOf 2048 (by decide) (m ((c : Thread nD τ).loc main_arg0)) (m ((c : Thread nD τ).loc main_arg1)) (m ((c : Thread nD τ).loc main_arg2))
      ∧ r.2.mem ((c.tc : Thread nD τ).loc main_v1_2) = partOf 3072 (by decide) (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(Pipeline.FramePost.out_eq h.2.1 c 3).trans (final_proj m c), (Pipeline.FramePost.out_eq h.2.1 c 4).trans (final_keys m c),
      (Pipeline.FramePost.out_eq h.2.1 c 5).trans (final_values m c), h.1.1 c⟩)
    (θ_run_and (frame m g) (run_main m g))

/-- The reference's first result is the projection's array. -/
theorem ref_proj (h : FVec Ideal S12288x2048 .bf16) (w : FVec Ideal S1x2048x8192 .f32) (b : FVec Ideal S1x8192 .f32) :
    Cert.ProjRefIdeal.Read.val_main_v7 (F := Ideal) h w b = projOf h w b := by
  funext i
  unfold projOf entry
  pointwise [Cert.ProjRefIdeal.Read.val_main_v7, Cert.ProjRefIdeal.Read.val_main_v6, Cert.ProjRefIdeal.Read.val_main_v5, Cert.ProjRefIdeal.Read.val_main_v4, Cert.ProjRefIdeal.Read.val_main_v3, Cert.ProjRefIdeal.Read.val_main_v2, Cert.ProjRefIdeal.Read.val_main_v1, Cert.ProjRefIdeal.Read.val_main_v0]

/-- Its second and third are the keys' and the values'. -/
theorem ref_keys (h : FVec Ideal S12288x2048 .bf16) (w : FVec Ideal S1x2048x8192 .f32) (b : FVec Ideal S1x8192 .f32) :
    Cert.ProjRefIdeal.Read.val_main_v8 (F := Ideal) h w b = partOf 2048 (by decide) h w b := by
  funext i
  unfold partOf entry
  pointwise [Cert.ProjRefIdeal.Read.val_main_v8, Cert.ProjRefIdeal.Read.val_main_v6, Cert.ProjRefIdeal.Read.val_main_v5, Cert.ProjRefIdeal.Read.val_main_v4, Cert.ProjRefIdeal.Read.val_main_v3, Cert.ProjRefIdeal.Read.val_main_v2, Cert.ProjRefIdeal.Read.val_main_v1, Cert.ProjRefIdeal.Read.val_main_v0]

theorem ref_values (h : FVec Ideal S12288x2048 .bf16) (w : FVec Ideal S1x2048x8192 .f32) (b : FVec Ideal S1x8192 .f32) :
    Cert.ProjRefIdeal.Read.val_main_v9 (F := Ideal) h w b = partOf 3072 (by decide) h w b := by
  funext i
  unfold partOf entry
  pointwise [Cert.ProjRefIdeal.Read.val_main_v9, Cert.ProjRefIdeal.Read.val_main_v6, Cert.ProjRefIdeal.Read.val_main_v5, Cert.ProjRefIdeal.Read.val_main_v4, Cert.ProjRefIdeal.Read.val_main_v3, Cert.ProjRefIdeal.Read.val_main_v2, Cert.ProjRefIdeal.Read.val_main_v1, Cert.ProjRefIdeal.Read.val_main_v0]

end Cert.ProjIdeal.Hand

end
-- ==== Proof.Launch.lean ====
/- The run of the two launches of the latent attention, with the result array in its final state. -/
module

public import proofs.«01_k».proof.Proof.Gen.LatIdeal.Frame

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LatIdeal Cert.LatIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the launch's implicit arguments are found by unifying its conclusion with this one
set_option backward.isDefEq.respectTransparency.types false in
/-- The run of the two launches: the result array ends with the contents `W5` and the argument arrays as launched. -/
theorem run : θ_run defs (onTc (τ := τ) (main (F := F))) ⟨m, fun _ => 0, ρ⟩ (fun r => ∀ c : Dev nD,
      r.2.mem ((c.tc : Thread nD τ).loc main_v8) = W5 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c =>
      ⟨h c _ (mem_uc main_v8 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.Attn
-- ==== Proof.Attn.lean ====
/- The local attention's mathematics at one query and one channel: the weighted average that the kernel takes over a
   window of keys, the one that the reference takes over all of them, and why the two agree. -/
module

public import Idealize.ShloMosaic.Lib.Pointwise

@[expose] public section

noncomputable section

open Idealize.ShloMosaic

namespace Cert.Attn

/-- The softmax-weighted average over two groups of keys, at one query and one channel: the scores `s` and `u`, the
values `v` and `w`. Every score is taken relative to the largest, and the sum of the weighted values is divided once by
the sum of the weights. -/
def att {J C : Type} [Fintype J] [Fintype C] (s : J → EReal) (u : C → EReal) (v : J → EReal) (w : C → EReal) : EReal :=
  Ideal.div
    (∑ j, Ideal.exp (s j - max (Finset.univ.sup s) (Finset.univ.sup u)) * v j
      + ∑ c, Ideal.exp (u c - max (Finset.univ.sup s) (Finset.univ.sup u)) * w c)
    (∑ j, Ideal.exp (s j - max (Finset.univ.sup s) (Finset.univ.sup u))
      + ∑ c, Ideal.exp (u c - max (Finset.univ.sup s) (Finset.univ.sup u)))

theorem exp_bot_sub (m : EReal) : Ideal.exp (⊥ - m) = 0 := by
  rw [EReal.bot_sub]; rfl

/-- Keys with the score −∞ have no part in the average: it is the same over a window of the keys, provided that all
keys outside the window have the score −∞. -/
theorem att_window {J K C : Type} [Fintype J] [Fintype K] [Fintype C] (f : J → K) (hf : Function.Injective f)
    (S V : K → EReal) (u w : C → EReal) (hS : ∀ k, k ∉ Set.range f → S k = ⊥) :
    att S u V w = att (fun j => S (f j)) u (fun j => V (f j)) w := by
  classical
  have hsup : Finset.univ.sup S = Finset.univ.sup (fun j => S (f j)) := by
    apply le_antisymm
    · refine Finset.sup_le fun k _ => ?_
      by_cases hk : k ∈ Set.range f
      · obtain ⟨j, rfl⟩ := hk
        exact Finset.le_sup (f := fun j => S (f j)) (Finset.mem_univ j)
      · rw [hS k hk]; exact bot_le
    · exact Finset.sup_le fun j _ => Finset.le_sup (f := S) (Finset.mem_univ (f j))
  have hsum : ∀ G : K → EReal, (∀ k, k ∉ Set.range f → G k = 0) → ∑ k, G k = ∑ j, G (f j) := fun G hG =>
    (Fintype.sum_of_injective f hf (fun j => G (f j)) G hG fun _ => rfl).symm
  unfold att
  rw [hsup, hsum _ fun k hk => by rw [hS k hk, exp_bot_sub, zero_mul], hsum _ fun k hk => by rw [hS k hk, exp_bot_sub]]

end Cert.Attn
-- ==== Proof.Row.lean ====
/- One latent row of the attention kernel: what the kernel's body stores for the 64 queries of a row, read at a query and
   a channel. -/
module

public import proofs.«01_k».proof.Proof.Gen.LatIdeal.Skeleton
public import proofs.«01_k».proof.Proof.Attn

@[expose] public section

set_option maxRecDepth 16384

noncomputable section

open Idealize.ShloMosaic

namespace Cert.Attn
open Cert.LatIdeal Cert.LatIdeal.Gen

/-- The scale of the scores, the same 32-bit constant in both programs. -/
abbrev scl : EReal := Ideal.ofBits .f32 0x3DB504F3#32

theorem ofBits_neg_inf : Ideal.ofBits .f32 0xFF800000#32 = (⊥ : EReal) := by
  simp [Ideal.ofBits, Ideal.ieee]

theorem fold_max_bot {J : Type} [Fintype J] (s : J → EReal) :
    Finset.fold max (⊥ : EReal) s Finset.univ = Finset.univ.sup s := rfl

/-- What the body stores for one latent row, at query `a` and channel `d`: the softmax-weighted average over the 512
keys of the row's window and the 256 context keys. -/
theorem row_apply (kc vc : FVec Ideal S256x128 .bf16) (q : FVec Ideal S64x128 .bf16) (k v : FVec Ideal S512x128 .bf16)
    (t : FVec Ideal S1x64x512 .f32) (a : Fin 64) (d : Fin 128) :
    k1_pay75 kc vc q k v t (ix2 a d)
      = att (fun j : Fin 512 => (∑ e : Fin 128, q (ix2 a e) * k (ix2 j e)) * scl + t (ix3 0 a j))
          (fun c : Fin 256 => (∑ e : Fin 128, q (ix2 a e) * kc (ix2 c e)) * scl)
          (fun j => v (ix2 j d)) (fun c => vc (ix2 c d)) := by
  pointwise [k1_pay75]
  rw [ofBits_neg_inf]
  rfl
end Cert.Attn
-- ==== Proof.Bias.lean ====
/- The bias table that the first launch expands, read at a query column and a lane. -/
module

public import proofs.«01_k».proof.Proof.Gen.LatIdeal.Frame
public import proofs.«01_k».proof.Proof.Row
public import Idealize.ShloMosaic.Lib.Pipeline.ValueKit

@[expose] public section

set_option maxRecDepth 16384

noncomputable section

open Idealize.ShloMosaic

namespace Cert.Attn
open Cert.LatIdeal Cert.LatIdeal.Gen

/-- The first of the 16 columns that a query in column `a` attends to. -/
abbrev col0 (a : ℕ) : ℕ := min (a - 8) 48

/-- A lane's column, as the kernel takes it, is its remainder by 64. -/
theorem lane_col (l : Fin 1024) : IntOp.andi (BitVec.ofNat 32 l.val) 63#32 = BitVec.ofNat 32 (l.val % 64) :=
  (by decide +kernel : ∀ l : Fin 1024, IntOp.andi (BitVec.ofNat 32 l.val) 63#32 = BitVec.ofNat 32 (l.val % 64)) l

/-- The kernel's test of the column window. -/
theorem ok_apply (a : Fin 64) (l : Fin 1024) :
    k0_pay4 (ix2 a l) = BitVec.ofBool (decide (col0 a ≤ l % 64 ∧ l.val % 64 < col0 a + 16)) := by
  pointwise [k0_pay4, k0_pay3, k0_pay2]
  rw [lane_col]
  exact (by decide +kernel : ∀ a k : Fin 64, IntOp.andi
      (IntOp.cmpi CmpIPredicate.sge (BitVec.ofNat 32 k.val)
        (IntOp.minsi (48#32) (IntOp.maxsi (0#32) (IntOp.subi (BitVec.ofNat 32 a.val) 8#32))))
      (IntOp.cmpi CmpIPredicate.slt (BitVec.ofNat 32 k.val)
        (IntOp.addi (IntOp.minsi (48#32) (IntOp.maxsi (0#32) (IntOp.subi (BitVec.ofNat 32 a.val) 8#32))) 16#32)) =
    BitVec.ofBool (decide (col0 a ≤ k.val ∧ k.val < col0 a + 16))) a ⟨l.val % 64, by omega⟩

/-- Within the window, the kernel's column distance is the number `k - a + 15`. -/
theorem dc_apply (a : Fin 64) (l : Fin 1024) (h : col0 a ≤ l % 64 ∧ l.val % 64 < col0 a + 16) :
    k0_pay3 (ix2 a l) = BitVec.ofNat 32 (l.val % 64 + 15 - a.val) := by
  pointwise [k0_pay3, k0_pay2]
  rw [lane_col]
  exact (by decide +kernel : ∀ a k : Fin 64, col0 a ≤ k.val ∧ k.val < col0 a + 16 →
    IntOp.addi (IntOp.subi (BitVec.ofNat 32 k.val) (BitVec.ofNat 32 a.val)) 15#32
      = BitVec.ofNat 32 (k.val + 15 - a.val)) a ⟨l.val % 64, by omega⟩ h

/-- The expanded table of one head, at query column `a` and lane `l`: inside the column window the padded table's entry
at the column distance, outside it −∞. -/
theorem tab_apply (x : FVec Ideal S1x31x1024 .f32) (y : S1x64x1024.Idx) :
    out0_1 (F := Ideal) x y
      = if h : col0 (y 1) ≤ (y 2).val % 64 ∧ (y 2).val % 64 < col0 (y 1) + 16
        then x (ix3 0 ⟨(y 2).val % 64 + 15 - (y 1).val, by unfold col0 at h; omega⟩ ⟨(y 2).val, (y 2).isLt⟩) else ⊥ := by
  idx_vars y
  unfold_out out0_1
  frame_out
  pointwise [k0_pay1]
  rw [ok_apply]
  by_cases h : col0 y1 ≤ y2.val % 64 ∧ y2.val % 64 < col0 y1 + 16
  · rw [dif_pos h, decide_eq_true h]
    pointwise [k0_pay17, k0_pay16, k0_pay15, k0_pay14, k0_pay13, k0_pay12, k0_pay11, k0_pay10, k0_pay9, k0_pay8, k0_pay7,
      k0_pay6, k0_pay5]
    simp only [dc_apply y1 y2 h]
    obtain ⟨b, hb⟩ : ∃ b : Fin 31, b = ⟨y2.val % 64 + 15 - y1.val, by unfold col0 at h; omega⟩ := ⟨_, rfl⟩
    have hn : y2.val % 64 + 15 - y1.val = b.val := by rw [hb]
    simp only [hn, Fin.eta]
    clear hn hb h
    fin_cases b <;> rfl
  · rw [dif_neg h, decide_eq_false h]
    rfl
end Cert.Attn
-- ==== Proof.Entry.lean ====
/- What the two launches of the latent attention find in their operands: the arrays as the host's reshapes, repeats and
   pads leave them, read at an index, and the table as the first launch leaves it. -/
module

public import proofs.«01_k».proof.Proof.Bias
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Attn
open Cert.LatIdeal Cert.LatIdeal.Gen

variable (m : (ℓ : Loc nD τ sig) → Buf (Elt Ideal) ℓ) (ρ : Dev nD → PrngReg)

/-- The learned biases. -/
abbrev mRpb (c : Dev nD) : FVec Ideal S1x8x15x31 .f32 := m ((c : Thread nD τ).loc main_arg3)

/-- The padded table of the learned biases: lane `l` of head `h` at column distance `b` is the bias of row distance
`l / 64`; the last 64 lanes are the padding. -/
theorem padded (c : Dev nD) (i : S8x31x1024.Idx) (hl : (i 2).val < 960) :
    (W2 m ρ c (Proc.devRef .tc main_v4) : FVec Ideal S8x31x1024 .f32) i
      = mRpb m c (ix4 0 ⟨(i 0).val, (i 0).isLt⟩ ⟨(i 2).val / 64, by omega⟩ ⟨(i 1).val, (i 1).isLt⟩) := by
  idx_vars i
  unfold W2 W1
  after_results
  change (pad S8x31x1024 ![0, 0, 0] ![0, 0, 64] ![0, 0, 0]
    (shapeCast S8x31x960 (broadcastInDim S8x31x15x64 ![0, 1, 2] bcast_S8x31x15_S8x31x15x64_0_1_2
      (transpose S8x31x15 [0, 2, 1] (shapeCast S8x15x31 (mRpb m c) shapeCasts_S1x8x15x31_S8x15x31)
        transposes_S8x15x31_S8x31x15_0_2_1)) shapeCasts_S8x31x15x64_S8x31x960)
    (sitofp .f32 (constantI S_ 32 0#32)) pads_S8x31x960_S8x31x1024_000_000_0640 h_S_ : FVec Ideal S8x31x1024 .f32)
      (ix3 i0 i1 i2) = _
  replace hl : i2.val < 960 := hl
  pointwise
  rw [dif_pos hl]

/-- A cached array as the second launch reads it: heads side by side in the columns. -/
theorem cached (x : FVec Ideal S4x1x256x8x128 .f32) (b : Fin 4) (p : Fin 256) (j : Fin 1024) :
    (shapeCast S4x256x1024 x shapeCasts_S4x1x256x8x128_S4x256x1024 : FVec Ideal S4x256x1024 .f32) (ix3 b p j)
      = x (ix5 b 0 p ⟨j.val / 128, by omega⟩ ⟨j.val % 128, by omega⟩) := by
  pointwise

/-- The context's keys as the second launch reads them. -/
theorem ctxK (c : Dev nD) : (W4 m ρ c (Proc.devRef .tc main_v6) : FVec Ideal S4x256x1024 .f32)
    = shapeCast S4x256x1024 (m ((c : Thread nD τ).loc main_arg1) : FVec Ideal S4x1x256x8x128 .f32)
        shapeCasts_S4x1x256x8x128_S4x256x1024 := by
  unfold W4
  after_results
  rw [W3_args m ρ c main_arg1 (by decide)]
  rfl

/-- The context's values as the second launch reads them. -/
theorem ctxV (c : Dev nD) : (W4 m ρ c (Proc.devRef .tc main_v7) : FVec Ideal S4x256x1024 .f32)
    = shapeCast S4x256x1024 (m ((c : Thread nD τ).loc main_arg2) : FVec Ideal S4x1x256x8x128 .f32)
        shapeCasts_S4x1x256x8x128_S4x256x1024 := by
  unfold W4
  after_results
  rw [W3_args m ρ c main_arg2 (by decide)]
  rfl

/-- The windows of the first launch: point `t` is head `t`. -/
theorem idx0 : ∀ t : Fin cfg0.N, win0_0.index t = ![t.val, 0, 0] ∧ win0_1.index t = ![t.val, 0, 0] :=
  (by decide +kernel : ∀ t : Fin grid0.N, _)

/-- The table after the first launch: inside the column window of query column `i 1` the bias, outside it −∞ (the
padding's lanes aside). -/
def tabOf (r : FVec Ideal S8x31x1024 .f32) : FVec Ideal S8x64x1024 .f32 := fun i =>
  if h : col0 (i 1) ≤ (i 2).val % 64 ∧ (i 2).val % 64 < col0 (i 1) + 16
  then r (ix3 (i 0) ⟨(i 2).val % 64 + 15 - (i 1).val, by unfold col0 at h; omega⟩ (i 2)) else ⊥

theorem table (c : Dev nD) : (W4 m ρ c (Proc.devRef .tc main_v5) : FVec Ideal S8x64x1024 .f32)
    = tabOf (W2 m ρ c (Proc.devRef .tc main_v4)) := by
  rw [W4_of m ρ c main_v5 (by decide)]
  refine (W3_arr m ρ c 1).trans ?_
  refine (dat0 (V2 m ρ) c).arrAt_eq_of_covers 1 _ (by decide +kernel) fun t _ y => ?_
  blk_simp
  rw [after0_1, tab_apply]
  unfold tabOf
  have e1 : ((win0_1.blk t).view.emb y 1).val = (y 1).val := by blk_simp [idx0 t]; try omega
  have e2 : ((win0_1.blk t).view.emb y 2).val = (y 2).val := by blk_simp [idx0 t]; try omega
  simp only [e1, e2]
  split
  · blk_ext [iblk0, V2, idx0 t]
  · rfl

end Cert.Attn
-- ==== Proof.Out.lean ====
/- The block that the attention kernel leaves for one head: all 16 rows of 64 queries, read at a query and a channel. -/
module

public import proofs.«01_k».proof.Proof.Gen.LatIdeal.Frame
public import proofs.«01_k».proof.Proof.Row
public import Idealize.ShloMosaic.Lib.Pipeline.ValueKit

@[expose] public section

set_option maxRecDepth 16384

noncomputable section

open Idealize.ShloMosaic

namespace Cert.Attn
open Cert.LatIdeal Cert.LatIdeal.Gen

/-- The first of the 8 latent rows that the queries of latent row `r` attend to. -/
abbrev row0 (r : ℕ) : ℕ := min (r - 4) 8

/-- The attention of one head at query `n` (the query `n % 64` of row `n / 64`) and channel `d`, from the head's queries,
keys and values, the context's keys and values, and the head's bias table `t`, whose lane `64 * a + j` is the bias of a
key in column `j`, `a - 7` rows away from the query. -/
def rowOut (q k v : FVec Ideal S1024x128 .bf16) (kc vc : FVec Ideal S1x256x128 .f32) (t : FVec Ideal S1x64x1024 .f32)
    (n : Fin 1024) (d : Fin 128) : EReal :=
  att (fun j : Fin 512 => (∑ e : Fin 128, q (ix2 n e) * k (ix2 ⟨64 * row0 (n / 64) + j, by unfold row0; omega⟩ e)) * scl
        + t (ix3 0 ⟨n % 64, by omega⟩ ⟨64 * (row0 (n / 64) + 7 - n / 64) + j, by unfold row0; omega⟩))
    (fun c : Fin 256 => (∑ e : Fin 128, q (ix2 n e) * kc (ix3 0 c e)) * scl)
    (fun j => v (ix2 ⟨64 * row0 (n / 64) + j, by unfold row0; omega⟩ d)) (fun c => vc (ix3 0 c d))

/-- One stored piece: the row's payload over the row's queries, the window's keys and values and the window's lanes of
the bias table is the attention at those queries. -/
theorem piece (q k v : FVec Ideal S1024x128 .bf16) (kc vc : FVec Ideal S1x256x128 .f32)
    (t : FVec Ideal S1x64x1024 .f32) (r : ℕ) (hr : r < 16) (a b : ℕ) (ha : a = 64 * row0 r)
    (hb : b = 64 * (row0 r + 7 - r)) (hq : _) (hk : _) (ht : _)
    (x : S64x128.Idx) (n : Fin 1024) (d : Fin 128) (hn : n.val = 64 * r + (x 0).val) (hd : d.val = (x 1).val) :
    k1_pay75 (F := Ideal) (k1_pay2 (View.ld kc r1_0)) (k1_pay3 (View.ld vc r1_0))
        (View.ld q (Rect.unit (s := S1024x128) ![64 * r, 0] S64x128.size hq))
        (View.ld k (Rect.unit (s := S1024x128) ![a, 0] S512x128.size hk))
        (View.ld v (Rect.unit (s := S1024x128) ![a, 0] S512x128.size hk))
        (View.ld t (Rect.unit (s := S1x64x1024) ![0, 0, b] S1x64x512.size ht)) x
      = rowOut q k v kc vc t n d := by
  idx_vars x
  subst ha hb
  obtain rfl : d = x1 := Fin.ext hd
  rw [row_apply]
  unfold rowOut
  have hx := x0.isLt
  have h0 : n.val = 64 * r + x0.val := hn
  have h1 : n.val / 64 = r := by omega
  have h2 : n.val % 64 = x0.val := by omega
  pointwise [k1_pay2, k1_pay3]
  have hn' : n = ⟨64 * r + x0.val, by omega⟩ := Fin.ext h0
  simp only [h1, h2, ← hn']

/-- The block that the kernel leaves for one head, at query `n` and channel `d`. -/
theorem out_apply (q k v : FVec Ideal S1024x128 .bf16) (kc vc : FVec Ideal S1x256x128 .f32)
    (t : FVec Ideal S1x64x1024 .f32) (y : S1024x128.Idx) :
    out1_6 (F := Ideal) q k v kc vc t y = rowOut q k v kc vc t (y 0) (y 1) := by
  unfold_out out1_6
  canon_tiles x h
  case piece0 => exact piece q k v kc vc t 15 (by decide) 512 0 rfl rfl _ _ _ x _ _ (by omega) (by omega)
  case piece1 => exact piece q k v kc vc t 14 (by decide) 512 64 rfl rfl _ _ _ x _ _ (by omega) (by omega)
  case piece2 => exact piece q k v kc vc t 13 (by decide) 512 128 rfl rfl _ _ _ x _ _ (by omega) (by omega)
  case piece3 => exact piece q k v kc vc t 12 (by decide) 512 192 rfl rfl _ _ _ x _ _ (by omega) (by omega)
  case piece4 => exact piece q k v kc vc t 11 (by decide) 448 192 rfl rfl _ _ _ x _ _ (by omega) (by omega)
  case piece5 => exact piece q k v kc vc t 10 (by decide) 384 192 rfl rfl _ _ _ x _ _ (by omega) (by omega)
  case piece6 => exact piece q k v kc vc t 9 (by decide) 320 192 rfl rfl _ _ _ x _ _ (by omega) (by omega)
  case piece7 => exact piece q k v kc vc t 8 (by decide) 256 192 rfl rfl _ _ _ x _ _ (by omega) (by omega)
  case piece8 => exact piece q k v kc vc t 7 (by decide) 192 192 rfl rfl _ _ _ x _ _ (by omega) (by omega)
  case piece9 => exact piece q k v kc vc t 6 (by decide) 128 192 rfl rfl _ _ _ x _ _ (by omega) (by omega)
  case piece10 => exact piece q k v kc vc t 5 (by decide) 64 192 rfl rfl _ _ _ x _ _ (by omega) (by omega)
  case piece11 => exact piece q k v kc vc t 4 (by decide) 0 192 rfl rfl _ _ _ x _ _ (by omega) (by omega)
  case piece12 => exact piece q k v kc vc t 3 (by decide) 0 256 rfl rfl _ _ _ x _ _ (by omega) (by omega)
  case piece13 => exact piece q k v kc vc t 2 (by decide) 0 320 rfl rfl _ _ _ x _ _ (by omega) (by omega)
  case piece14 => exact piece q k v kc vc t 1 (by decide) 0 384 rfl rfl _ _ _ x _ _ (by omega) (by omega)
  case piece15 => exact piece q k v kc vc t 0 (by decide) 0 448 rfl rfl _ _ _ x _ _ (by omega) (by omega)
end Cert.Attn
-- ==== Proof.Final.lean ====
/- The latent attention's result array after the two launches, and the run that leaves it. -/
module

public import proofs.«01_k».proof.Proof.Entry
public import proofs.«01_k».proof.Proof.Out

@[expose] public section

set_option maxRecDepth 16384

noncomputable section

open Idealize.ShloMosaic Idealize.ShloMosaic.TcCoe Idealize.SL.Sem
open Idealize.ShloMosaic.Pipeline (Dat)

namespace Cert.Attn
open Cert.LatIdeal Cert.LatIdeal.Gen

variable (m : (ℓ : Loc nD τ sig) → Buf (Elt Ideal) ℓ) (ρ : Dev nD → PrngReg)

/-- The windows of the second launch: point `t` is head `t % 8` of sequence `t / 8`. -/
theorem idx1 : ∀ t : Fin cfg1.N, win1_0.index t = ![8 + t.val / 8, 8 + t.val % 8]
    ∧ win1_1.index t = ![8 + t.val / 8, 16 + t.val % 8] ∧ win1_2.index t = ![8 + t.val / 8, 24 + t.val % 8]
    ∧ win1_3.index t = ![t.val / 8, 0, t.val % 8] ∧ win1_4.index t = ![t.val / 8, 0, t.val % 8]
    ∧ win1_5.index t = ![t.val % 8, 0, 0] ∧ win1_6.index t = ![t.val / 8, t.val % 8] :=
  (by decide +kernel : ∀ t : Fin grid1.N, _)

/-- Sequence `b`'s rows and head `h`'s columns of one part of the combined projection: the queries (`o = 1`), the keys
(`o = 2`) or the values (`o = 3`). -/
def part (P : FVec Ideal S12288x8192 .bf16) (o b h : ℕ) (ho : o < 4) (hb : b < 4) (hh : h < 8) :
    FVec Ideal S1024x128 .bf16 := fun x =>
  P (ix2 ⟨8192 + 1024 * b + (x 0).val, by have h0 : (x 0).val < 1024 := (x 0).isLt; omega⟩
    ⟨1024 * o + 128 * h + (x 1).val, by have h1 : (x 1).val < 128 := (x 1).isLt; omega⟩)

/-- Sequence `b` and head `h` of the cached context. -/
def ctxPart (k : FVec Ideal S4x256x1024 .f32) (b h : ℕ) (hb : b < 4) (hh : h < 8) : FVec Ideal S1x256x128 .f32 := fun x =>
  k (ix3 ⟨b, hb⟩ (x 1) ⟨128 * h + (x 2).val, by have h1 : (x 2).val < 128 := (x 2).isLt; omega⟩)

/-- Head `h` of the bias table. -/
def tabPart (t : FVec Ideal S8x64x1024 .f32) (h : ℕ) (hh : h < 8) : FVec Ideal S1x64x1024 .f32 := fun x =>
  t (ix3 ⟨h, hh⟩ (x 1) (x 2))

/-- The latent attention at a result row and column, over the window's 512 keys, from the arrays as the second launch
finds them. -/
def latOf (P : FVec Ideal S12288x8192 .bf16) (kc vc : FVec Ideal S4x256x1024 .f32) (t : FVec Ideal S8x64x1024 .f32) :
    FVec Ideal S4096x1024 .bf16 := fun i =>
  have hb : (i 0).val / 1024 < 4 := Nat.div_lt_of_lt_mul (i 0).isLt
  have hh : (i 1).val / 128 < 8 := Nat.div_lt_of_lt_mul (i 1).isLt
  rowOut (part P 1 _ _ (by decide) hb hh) (part P 2 _ _ (by decide) hb hh) (part P 3 _ _ (by decide) hb hh)
    (ctxPart kc _ _ hb hh) (ctxPart vc _ _ hb hh) (tabPart t _ hh)
    ⟨(i 0).val % 1024, by omega⟩ ⟨(i 1).val % 128, by omega⟩

theorem latOf_at (P : FVec Ideal S12288x8192 .bf16) (kc vc : FVec Ideal S4x256x1024 .f32)
    (t : FVec Ideal S8x64x1024 .f32) (i : S4096x1024.Idx) (b h : ℕ) (hb : b < 4) (hh : h < 8) (n : Fin 1024)
    (d : Fin 128) (h0 : (i 0).val = 1024 * b + n.val) (h1 : (i 1).val = 128 * h + d.val) :
    latOf P kc vc t i = rowOut (part P 1 b h (by decide) hb hh) (part P 2 b h (by decide) hb hh)
      (part P 3 b h (by decide) hb hh) (ctxPart kc b h hb hh) (ctxPart vc b h hb hh) (tabPart t h hh) n d := by
  obtain rfl : (i 0).val / 1024 = b := by omega
  obtain rfl : (i 1).val / 128 = h := by omega
  have en : n = ⟨(i 0).val % 1024, by omega⟩ := Fin.ext (by show n.val = (i 0).val % 1024; omega)
  have ed : d = ⟨(i 1).val % 128, by omega⟩ := Fin.ext (by show d.val = (i 1).val % 128; omega)
  rw [en, ed]
  rfl

theorem pt_lt (t : Fin cfg1.N) : t.val / 8 < 4 ∧ t.val % 8 < 8 := by
  have ht : t.val < 32 := t.isLt
  omega

/-- The block of queries at a point of the second launch. -/
theorem blk0 (c : Dev nD) (t : Fin cfg1.N) : iblk1 (V4 m ρ) c 0 t
    = part (m ((c : Thread nD τ).loc main_arg0)) 1 _ _ (by decide) (pt_lt t).1 (pt_lt t).2 := by
  have hP : V4 m ρ c main_arg0 = m ((c : Thread nD τ).loc main_arg0) := W4_args m ρ c main_arg0 (by decide)
  funext x
  unfold part
  rw [← hP]
  blk_ext [iblk1, idx1 t]

/-- The block of keys at a point of the second launch. -/
theorem blk1 (c : Dev nD) (t : Fin cfg1.N) : iblk1 (V4 m ρ) c 1 t
    = part (m ((c : Thread nD τ).loc main_arg0)) 2 _ _ (by decide) (pt_lt t).1 (pt_lt t).2 := by
  have hP : V4 m ρ c main_arg0 = m ((c : Thread nD τ).loc main_arg0) := W4_args m ρ c main_arg0 (by decide)
  funext x
  unfold part
  rw [← hP]
  blk_ext [iblk1, idx1 t]

/-- The block of values at a point of the second launch. -/
theorem blk2 (c : Dev nD) (t : Fin cfg1.N) : iblk1 (V4 m ρ) c 2 t
    = part (m ((c : Thread nD τ).loc main_arg0)) 3 _ _ (by decide) (pt_lt t).1 (pt_lt t).2 := by
  have hP : V4 m ρ c main_arg0 = m ((c : Thread nD τ).loc main_arg0) := W4_args m ρ c main_arg0 (by decide)
  funext x
  unfold part
  rw [← hP]
  blk_ext [iblk1, idx1 t]

/-- The block of the context's keys at a point of the second launch. -/
theorem blk3 (c : Dev nD) (t : Fin cfg1.N) : iblk1 (V4 m ρ) c 3 t
    = ctxPart (W4 m ρ c (Proc.devRef .tc main_v6)) _ _ (pt_lt t).1 (pt_lt t).2 := by
  funext x
  unfold ctxPart
  blk_ext [iblk1, V4, idx1 t]

/-- The block of the context's values at a point of the second launch. -/
theorem blk4 (c : Dev nD) (t : Fin cfg1.N) : iblk1 (V4 m ρ) c 4 t
    = ctxPart (W4 m ρ c (Proc.devRef .tc main_v7)) _ _ (pt_lt t).1 (pt_lt t).2 := by
  funext x
  unfold ctxPart
  blk_ext [iblk1, V4, idx1 t]

/-- The block of the bias table at a point of the second launch. -/
theorem blk5 (c : Dev nD) (t : Fin cfg1.N) : iblk1 (V4 m ρ) c 5 t
    = tabPart (W4 m ρ c (Proc.devRef .tc main_v5)) _ (pt_lt t).2 := by
  funext x
  unfold tabPart
  blk_ext [iblk1, V4, idx1 t]

/-- The result array after the two launches. -/
theorem final (c : Dev nD) : (W5 m ρ c (Proc.devRef .tc main_v8) : FVec Ideal S4096x1024 .bf16)
    = latOf (m ((c : Thread nD τ).loc main_arg0)) (W4 m ρ c (Proc.devRef .tc main_v6))
        (W4 m ρ c (Proc.devRef .tc main_v7)) (W4 m ρ c (Proc.devRef .tc main_v5)) := by
  refine (W5_arr m ρ c 6).trans ?_
  refine (dat1 (V4 m ρ) c).arrAt_eq_of_covers 6 _ (by decide +kernel) fun t _ y => ?_
  blk_simp
  rw [after1_6, out_apply]
  have ht : t.val < 32 := t.isLt
  have hy0 : (y 0).val < 1024 := (y 0).isLt
  have hy1 : (y 1).val < 128 := (y 1).isLt
  have e0 : ((win1_6.blk t).view.emb y 0).val = 1024 * (t.val / 8) + (y 0).val := by blk_simp [idx1 t]; try omega
  have e1 : ((win1_6.blk t).view.emb y 1).val = 128 * (t.val % 8) + (y 1).val := by blk_simp [idx1 t]; try omega
  rw [blk0, blk1, blk2, blk3, blk4, blk5]
  exact (latOf_at _ _ _ _ _ _ _ _ _ _ _ e0 e1).symm

end Cert.Attn
-- ==== Proof.RefBias.lean ====
/- The reference's window mask and relative-offset bias, read at a query and a key of the grid. -/
module

public import proofs.«01_k».proof.Proof.Gen.LatRefIdeal.Read
public import proofs.«01_k».proof.Proof.Row
public import proofs.«01_k».proof.Proof.Out
public import proofs.«01_k».proof.Proof.Bias

@[expose] public section

set_option maxRecDepth 16384

noncomputable section

open Idealize.ShloMosaic

namespace Cert.Attn.Ref
open Cert.LatRefIdeal Cert.LatRefIdeal.Read

/-- The keys that a query of row `r` and column `w` attends to: 8 rows by 16 columns. -/
abbrev inWin (r w k : ℕ) : Prop := (row0 r ≤ k / 64 ∧ k / 64 < row0 r + 8) ∧ col0 w ≤ k % 64 ∧ k % 64 < col0 w + 16

/-- The reference's mask is the window. -/
theorem mask_apply (r : Fin 16) (w : Fin 64) (k : Fin 1024) :
    val_main_v31 (F := Ideal) (ix3 r w k) = BitVec.ofBool (decide (inWin r w k)) := by
  pointwise [val_main_v31, val_main_v30, val_main_v29, val_main_v28, val_main_v27, val_main_v26, val_main_v25,
    val_main_v24, val_main_v23, val_main_v22, val_main_v21, val_main_v20, val_main_v19, val_main_v18, val_main_v17,
    val_main_v16, val_main_v15, val_main_v14, val_main_v13, val_main_v12, val_main_v11, val_main_v10, val_main_c,
    val_main_c_0, val_main_c_1, val_main_c_2, val_main_c_3, val_main_c_4, val_main_c_5, val_main_c_6,
    val_main_call0_v0, val_main_call0_v1, val_main_call0_v2, val_main_call0_v3, val_main_call0_v4,
    val_main_call1_v0, val_main_call1_v1, val_main_call1_v2, val_main_call1_v3, val_main_call1_v4, id]
  rw [(by decide +kernel : ∀ r a : Fin 16, IntOp.andi
        (IntOp.cmpi CmpIPredicate.sge (BitVec.ofNat 32 a.val)
          (IntOp.minsi (8#32) (IntOp.maxsi (0#32) (IntOp.subi (BitVec.ofNat 32 r.val) 4#32))))
        (IntOp.cmpi CmpIPredicate.slt (BitVec.ofNat 32 a.val)
          (IntOp.addi (IntOp.minsi (8#32) (IntOp.maxsi (0#32) (IntOp.subi (BitVec.ofNat 32 r.val) 4#32))) 8#32))
      = BitVec.ofBool (decide (row0 r ≤ a.val ∧ a.val < row0 r + 8))) r ⟨k.val / 64, by omega⟩,
    (by decide +kernel : ∀ w a : Fin 64, IntOp.cmpi CmpIPredicate.sge (BitVec.ofNat 32 a.val)
          (IntOp.minsi (48#32) (IntOp.maxsi (0#32) (IntOp.subi (BitVec.ofNat 32 w.val) 8#32)))
      = BitVec.ofBool (decide (col0 w ≤ a.val))) w ⟨k.val % 64, by omega⟩,
    (by decide +kernel : ∀ w a : Fin 64, IntOp.cmpi CmpIPredicate.slt (BitVec.ofNat 32 a.val)
          (IntOp.addi (IntOp.minsi (48#32) (IntOp.maxsi (0#32) (IntOp.subi (BitVec.ofNat 32 w.val) 8#32))) 16#32)
      = BitVec.ofBool (decide (a.val < col0 w + 16))) w ⟨k.val % 64, by omega⟩,
    (by decide : ∀ a b c : Bool, IntOp.andi (IntOp.andi (BitVec.ofBool a) (BitVec.ofBool b)) (BitVec.ofBool c)
      = BitVec.ofBool (a && (b && c)))]
  simp only [Bool.decide_and]

/-- Within the window, the reference's row distance is the number `k - r + 7`. -/
theorem dr_apply (r k : Fin 16) (h : row0 r ≤ k.val ∧ k.val < row0 r + 8) :
    val_main_v50 (F := Ideal) (ix3 r k 0) = BitVec.ofNat 32 (k.val + 7 - r.val) := by
  pointwise [val_main_v50, val_main_v49, val_main_v48, val_main_v47, val_main_v46, val_main_v45, val_main_v39,
    val_main_v38, val_main_v37, val_main_v36, val_main_v33, val_main_v32, val_main_c_7, val_main_c_8, val_main_c_9,
    val_main_c_13, val_main_c_14, val_main_call2_v0, val_main_call2_v1, val_main_call2_v2, val_main_call2_v3,
    val_main_call2_v4, id]
  revert r k
  decide +kernel

/-- Within the window, the reference's column distance is the number `l - w + 15`. -/
theorem dc_apply (w l : Fin 64) (h : col0 w ≤ l.val ∧ l.val < col0 w + 16) :
    val_main_v57 (F := Ideal) (ix3 w l 0) = BitVec.ofNat 32 (l.val + 15 - w.val) := by
  pointwise [val_main_v57, val_main_v56, val_main_v55, val_main_v54, val_main_v53, val_main_v52, val_main_v43,
    val_main_v42, val_main_v41, val_main_v40, val_main_v35, val_main_v34, val_main_c_10, val_main_c_11, val_main_c_12,
    val_main_c_15, val_main_c_16, val_main_call3_v0, val_main_call3_v1, val_main_call3_v2, val_main_call3_v3,
    val_main_call3_v4, id]
  revert w l
  decide +kernel

variable (bias : FVec Ideal S1x8x15x31 .f32)

/-- The lookup of the bias by row distance. -/
abbrev gr := gather_S8x15x31_S16x16x1_S8x16x16x31_03_1_n_n_1_2_8131
/-- The lookup of the bias by column distance. -/
abbrev gc := gather_S8x16x16x31_S64x64x1_S8x16x16x64x64_012_3_n_n_3_2_816161

/-- A small number read back from its word, clamped to a bound that it respects. -/
theorem clamp_word (n N : ℕ) (hn : n ≤ N) (hN : N < 32) : min (BitVec.ofNat 32 n).toInt.toNat N + 0 + 0 = n := by
  have h := (by decide +kernel : ∀ n : Fin 32, (BitVec.ofNat 32 n.val).toInt.toNat = n.val) ⟨n, by omega⟩
  simp only at h
  omega

/-- The lookup by row distance, at a distance that is in range. -/
theorem gather_rows (x : FVec Ideal S8x15x31 .f32) (y : IVec S16x16x1 32) (h : Fin 8) (r k : Fin 16) (c : Fin 31) (n : Fin 15)
    (hn : y (ix3 r k 0) = BitVec.ofNat 32 n.val) : Host.gather gr x y (ix4 h r k c) = x (ix3 h n c) := by
  refine congrArg x (funext fun a => Fin.ext ?_)
  change gr.start (ix4 h r k c) y a + gr.batchCoord (ix4 h r k c) a + gr.offCoord (ix4 h r k c) a = _
  rw [gr.batchCoord_eq_zero _ _ (by simp [gr, gather_S8x15x31_S16x16x1_S8x16x16x31_03_1_n_n_1_2_8131])]
  unfold GatherDims.start GatherDims.offCoord
  fin_cases a
  · rw [dif_neg (by decide +kernel), dif_pos (by decide +kernel), Nat.zero_add]; rfl
  · rw [dif_pos (by decide +kernel), dif_neg (by decide +kernel)]
    have e : ∀ z, z = ix3 r k 0 → min (y z).toInt.toNat 14 + 0 + 0 = n.val := by
      rintro _ rfl
      rw [hn]
      exact clamp_word n 14 (by omega) (by omega)
    refine e _ ?_
    funext b; fin_cases b <;> rfl
  · rw [dif_neg (by decide +kernel), dif_pos (by decide +kernel), Nat.zero_add]; rfl

/-- The lookup by column distance, at a distance that is in range. -/
theorem gather_cols (x : FVec Ideal S8x16x16x31 .f32) (y : IVec S64x64x1 32) (h : Fin 8) (r k : Fin 16) (w l : Fin 64) (n : Fin 31)
    (hn : y (ix3 w l 0) = BitVec.ofNat 32 n.val) : Host.gather gc x y (ix5 h r k w l) = x (ix4 h r k n) := by
  refine congrArg x (funext fun a => Fin.ext ?_)
  change gc.start (ix5 h r k w l) y a + gc.batchCoord (ix5 h r k w l) a + gc.offCoord (ix5 h r k w l) a = _
  rw [gc.batchCoord_eq_zero _ _ (by simp [gc, gather_S8x16x16x31_S64x64x1_S8x16x16x64x64_012_3_n_n_3_2_816161])]
  unfold GatherDims.start GatherDims.offCoord
  fin_cases a
  · rw [dif_neg (by decide +kernel), dif_pos (by decide +kernel), Nat.zero_add]; rfl
  · rw [dif_neg (by decide +kernel), dif_pos (by decide +kernel), Nat.zero_add]; rfl
  · rw [dif_neg (by decide +kernel), dif_pos (by decide +kernel), Nat.zero_add]; rfl
  · rw [dif_pos (by decide +kernel), dif_neg (by decide +kernel)]
    have e : ∀ z, z = ix3 w l 0 → min (y z).toInt.toNat 30 + 0 + 0 = n.val := by
      rintro _ rfl
      rw [hn]
      exact clamp_word n 30 (by omega) (by omega)
    refine e _ ?_
    funext b; fin_cases b <;> rfl

/-- The reference's bias, inside the window: the entry at the row and column distances. -/
theorem bias_apply (h : Fin 8) (r : Fin 16) (w : Fin 64) (k : Fin 1024) (hk : inWin r w k) :
    val_main_v60 (F := Ideal) bias (ix4 h r w k)
      = bias (ix4 0 h ⟨k.val / 64 + 7 - r.val, by unfold inWin row0 at hk; omega⟩
          ⟨k.val % 64 + 15 - w.val, by unfold inWin col0 at hk; omega⟩) := by
  pointwise [val_main_v60, val_main_v59]
  unfold val_main_v58
  rw [gather_cols _ _ h r ⟨k.val / 64, by omega⟩ w ⟨k.val % 64, by omega⟩
    ⟨k.val % 64 + 15 - w.val, by unfold inWin col0 at hk; omega⟩ (dc_apply w ⟨k.val % 64, by omega⟩ hk.2)]
  unfold val_main_v51
  rw [gather_rows _ _ h r ⟨k.val / 64, by omega⟩ _ ⟨k.val / 64 + 7 - r.val, by unfold inWin row0 at hk; omega⟩
    (dr_apply r ⟨k.val / 64, by omega⟩ hk.1)]
  pointwise [val_main_v44]

end Cert.Attn.Ref
-- ==== Proof.Ref.lean ====
/- The reference's latent attention, read at one sequence, head, query and channel. -/
module

public import proofs.«01_k».proof.Proof.Gen.LatRefIdeal.Read
public import proofs.«01_k».proof.Proof.RefBias
public import proofs.«01_k».proof.Proof.Final

@[expose] public section

set_option maxRecDepth 16384

noncomputable section

open Idealize.ShloMosaic

namespace Cert.Attn.Ref
open Cert.LatRefIdeal Cert.LatRefIdeal.Read

variable (P : FVec Ideal S12288x8192 .bf16) (kc vc : FVec Ideal S4x1x256x8x128 .f32) (bias : FVec Ideal S1x8x15x31 .f32)

/-- The scores of the grid's keys: the scaled product plus the bias inside the window, −∞ outside it. -/
def gridScore (b : Fin 4) (h : Fin 8) (r : Fin 16) (w : Fin 64) (k : Fin 1024) : EReal :=
  if hk : inWin r w k then
    (∑ e : Fin 128, part P 1 b h (by decide) b.isLt h.isLt (ix2 ⟨64 * r.val + w.val, by omega⟩ e)
        * part P 2 b h (by decide) b.isLt h.isLt (ix2 k e)) * scl
      + bias (ix4 0 h ⟨k.val / 64 + 7 - r.val, by unfold inWin row0 at hk; omega⟩
          ⟨k.val % 64 + 15 - w.val, by unfold inWin col0 at hk; omega⟩)
  else ⊥

/-- The scores of the context's keys. -/
def ctxScore (b : Fin 4) (h : Fin 8) (r : Fin 16) (w : Fin 64) (k : Fin 256) : EReal :=
  (∑ e : Fin 128, part P 1 b h (by decide) b.isLt h.isLt (ix2 ⟨64 * r.val + w.val, by omega⟩ e)
      * kc (ix5 b 0 k h e)) * scl

/-- A product of a query and a key, read off the projection. -/
theorem part_apply (o b h : ℕ) (ho : o < 4) (hb : b < 4) (hh : h < 8) (n : Fin 1024) (d : Fin 128)
    (x : Fin 12288) (y : Fin 8192) (hx : x.val = 8192 + 1024 * b + n.val) (hy : y.val = 1024 * o + 128 * h + d.val) :
    P (ix2 x y) = part P o b h ho hb hh (ix2 n d) := by
  unfold part
  have ex : x = ⟨8192 + 1024 * b + n.val, by omega⟩ := Fin.ext hx
  have ey : y = ⟨1024 * o + 128 * h + d.val, by omega⟩ := Fin.ext hy
  rw [ex, ey]
  rfl

theorem grid_apply (b : Fin 4) (h : Fin 8) (r : Fin 16) (w : Fin 64) (k : Fin 1024) :
    val_main_v67 (F := Ideal) P bias (ix5 b h r w k) = gridScore P bias b h r w k := by
  pointwise [val_main_v67, val_main_call4_v1, val_main_call4_v2, val_main_call4_v0, val_main_cst_17, val_main_v66,
    val_main_v65, val_main_v64, val_main_v63, val_main_v62, val_main_cst, val_main_v61, val_main_v5, val_main_v4,
    val_main_v3, val_main_v2, val_main_v1, val_main_v0]
  rw [mask_apply]
  unfold gridScore
  by_cases hk : inWin r w k
  · rw [dif_pos hk, decide_eq_true hk, bias_apply bias h r w k hk]
    refine congrArg (fun z => z * scl + _) (Finset.sum_congr rfl fun e _ => ?_)
    refine congrArg₂ (· * ·) (part_apply P _ _ _ _ _ _ _ _ _ _ ?_ ?_) (part_apply P _ _ _ _ _ _ _ _ _ _ ?_ ?_)
      <;> dsimp only <;> omega
  · rw [dif_neg hk, decide_eq_false hk]
    exact ofBits_neg_inf

theorem ctx_apply (b : Fin 4) (h : Fin 8) (r : Fin 16) (w : Fin 64) (k : Fin 256) :
    val_main_v70 (F := Ideal) P kc (ix5 b h r w k) = ctxScore P kc b h r w k := by
  pointwise [val_main_v70, val_main_v69, val_main_cst_18, val_main_v68, val_main_v8, val_main_v3, val_main_v2,
    val_main_v1, val_main_v0]
  unfold ctxScore
  refine congrArg (fun z => z * scl) (Finset.sum_congr rfl fun e _ => ?_)
  refine congrArg (fun z => z * _) (part_apply P _ _ _ _ _ _ _ _ _ _ ?_ ?_) <;> dsimp only <;> omega

theorem joined (b : Fin 4) (h : Fin 8) (r : Fin 16) (w : Fin 64) (k : Fin 1280) :
    val_main_v71 (F := Ideal) P kc bias (ix5 b h r w k)
      = if hk : k.val < 1024 then gridScore P bias b h r w ⟨k.val, hk⟩ else ctxScore P kc b h r w ⟨k.val - 1024, by omega⟩ := by
  pointwise [val_main_v71]
  simp only [grid_apply, ctx_apply]

/-- The greatest of the joined scores is the greater of the two greatest. -/
theorem sup_joined (s : Fin 1024 → EReal) (u : Fin 256 → EReal) :
    (Finset.univ.sup fun k : Fin 1280 => if hk : k.val < 1024 then s ⟨k.val, hk⟩ else u ⟨k.val - 1024, by omega⟩)
      = max (Finset.univ.sup s) (Finset.univ.sup u) := by
  apply le_antisymm
  · refine Finset.sup_le fun k _ => ?_
    split
    · exact le_max_of_le_left (Finset.le_sup (Finset.mem_univ _))
    · exact le_max_of_le_right (Finset.le_sup (Finset.mem_univ _))
  · refine max_le (Finset.sup_le fun k _ => ?_) (Finset.sup_le fun k _ => ?_)
    · refine le_trans (le_of_eq ?_) (Finset.le_sup (Finset.mem_univ (⟨k.val, by omega⟩ : Fin 1280)))
      rw [dif_pos k.isLt]
    · refine le_trans (le_of_eq ?_) (Finset.le_sup (Finset.mem_univ (⟨1024 + k.val, by omega⟩ : Fin 1280)))
      rw [dif_neg (by simp)]
      exact congrArg u (Fin.ext (by simp))

theorem weight_apply (b : Fin 4) (h : Fin 8) (r : Fin 16) (w : Fin 64) (k : Fin 1280) :
    val_main_v76 (F := Ideal) P kc bias (ix5 b h r w k)
      = Ideal.exp ((if hk : k.val < 1024 then gridScore P bias b h r w ⟨k.val, hk⟩
            else ctxScore P kc b h r w ⟨k.val - 1024, by omega⟩)
          - max (Finset.univ.sup (gridScore P bias b h r w)) (Finset.univ.sup (ctxScore P kc b h r w))) := by
  pointwise [val_main_v76, val_main_v75, val_main_v74, val_main_v73, val_main_v72, val_main_cst_19]
  simp only [joined]
  rw [ofBits_neg_inf, fold_max_bot, sup_joined]

theorem sum_joined (f : Fin 1280 → EReal) :
    ∑ k, f k = (∑ k : Fin 1024, f ⟨k.val, by omega⟩) + ∑ k : Fin 256, f ⟨1024 + k.val, by omega⟩ :=
  Fin.sum_univ_add (a := 1024) (b := 256) f

/-- The weight of one of the grid's keys. -/
theorem weight_grid (b : Fin 4) (h : Fin 8) (r : Fin 16) (w : Fin 64) (k : Fin 1024) (hk : k.val < 1280) :
    val_main_v76 (F := Ideal) P kc bias (ix5 b h r w ⟨k.val, hk⟩)
      = Ideal.exp (gridScore P bias b h r w k
          - max (Finset.univ.sup (gridScore P bias b h r w)) (Finset.univ.sup (ctxScore P kc b h r w))) := by
  rw [weight_apply, dif_pos k.isLt]

/-- The weight of one of the context's keys. -/
theorem weight_ctx (b : Fin 4) (h : Fin 8) (r : Fin 16) (w : Fin 64) (k : Fin 256) (hk : 1024 + k.val < 1280) :
    val_main_v76 (F := Ideal) P kc bias (ix5 b h r w ⟨1024 + k.val, hk⟩)
      = Ideal.exp (ctxScore P kc b h r w k
          - max (Finset.univ.sup (gridScore P bias b h r w)) (Finset.univ.sup (ctxScore P kc b h r w))) := by
  rw [weight_apply, dif_neg (by simp)]
  refine congrArg (fun z => Ideal.exp (ctxScore P kc b h r w z - _)) (Fin.ext ?_)
  simp

theorem zero_init : val_main_cst_20 (F := Ideal) (Shape.Idx.first Gen.h_S_) = (0 : EReal) := by
  change Ideal.ofBits .f32 0x00000000#32 = 0
  simp [Ideal.ofBits, Ideal.ieee]

/-- The reference's result at sequence `b`, query `(r, w)`, head `h` and channel `d`. -/
theorem res_apply (i0 : Fin 4096) (i1 : Fin 1024) (b : Fin 4) (h : Fin 8) (r : Fin 16) (w : Fin 64) (d : Fin 128)
    (h0 : i0.val = 1024 * b + (64 * r + w)) (h1 : i1.val = 128 * h + d) :
    val_main_v88 (F := Ideal) P kc vc bias (ix2 i0 i1)
      = att (gridScore P bias b h r w) (ctxScore P kc b h r w)
          (fun k => part P 3 b h (by decide) b.isLt h.isLt (ix2 k d)) (fun k => vc (ix5 b 0 k h d)) := by
  pointwise [val_main_v88, val_main_v87, val_main_v86, val_main_v85, val_main_v84, val_main_v83, val_main_v82,
    val_main_v81, val_main_v80, val_main_v79, val_main_v78, val_main_v77, val_main_v9, val_main_v7, val_main_v6,
    val_main_v1, val_main_v0]
  have eb : (⟨i0.val / 1024, by omega⟩ : Fin 4) = b := Fin.ext (by dsimp only; omega)
  have eh : (⟨i1.val / 128, by omega⟩ : Fin 8) = h := Fin.ext (by dsimp only; omega)
  have er : (⟨i0.val / 64 % 16, by omega⟩ : Fin 16) = r := Fin.ext (by dsimp only; omega)
  have ew : (⟨i0.val % 64, by omega⟩ : Fin 64) = w := Fin.ext (by dsimp only; omega)
  have ed : (⟨i1.val % 128, by omega⟩ : Fin 128) = d := Fin.ext (by dsimp only; omega)
  simp only [eb, eh, er, ew, ed]
  rw [zero_init]
  simp only [zero_add]
  rw [sum_joined]
  simp only [weight_grid, weight_ctx]
  unfold att
  refine congrArg (fun z => Ideal.div (z + _) _) (Finset.sum_congr rfl fun k _ => ?_)
  refine congrArg (fun z => _ * z) (part_apply P _ _ _ _ _ _ _ _ _ _ ?_ ?_) <;> dsimp only <;> omega

end Cert.Attn.Ref
-- ==== Proof.Tie.lean ====
/- The kernel's latent attention is the reference's: the window holds every key whose score is not −∞. -/
module

public import proofs.«01_k».proof.Proof.Ref
public import proofs.«01_k».proof.Proof.Entry

@[expose] public section

set_option maxRecDepth 16384

noncomputable section

open Idealize.ShloMosaic

namespace Cert.Attn
open Cert.LatIdeal Cert.LatIdeal.Gen

/-- The grid's score at a key of the window's rows is the kernel's: the scaled product plus the table's entry. -/
theorem window_score (P : FVec Ideal S12288x8192 .bf16) (bias : FVec Ideal S1x8x15x31 .f32)
    (p : FVec Ideal S8x31x1024 .f32)
    (hp : ∀ i : S8x31x1024.Idx, ∀ hl : (i 2).val < 960,
      p i = bias (ix4 0 ⟨(i 0).val, (i 0).isLt⟩ ⟨(i 2).val / 64, by omega⟩ ⟨(i 1).val, (i 1).isLt⟩))
    (b : Fin 4) (h : Fin 8) (r : Fin 16) (w : Fin 64) (n : Fin 1024) (hn : n.val = 64 * r + w) (j : Fin 512) :
    Ref.gridScore P bias b h r w ⟨64 * row0 (n / 64) + j, by unfold row0; omega⟩
      = (∑ e : Fin 128, part P 1 b h (by decide) b.isLt h.isLt (ix2 n e)
            * part P 2 b h (by decide) b.isLt h.isLt (ix2 ⟨64 * row0 (n / 64) + j, by unfold row0; omega⟩ e)) * scl
        + tabPart (tabOf p) h h.isLt (ix3 0 ⟨n % 64, by omega⟩
            ⟨64 * (row0 (n / 64) + 7 - n / 64) + j, by unfold row0; omega⟩) := by
  have hr : n.val / 64 = r.val := by omega
  have hw : n.val % 64 = w.val := by omega
  have en : n = ⟨64 * r.val + w.val, by omega⟩ := Fin.ext hn
  unfold Ref.gridScore tabPart tabOf
  by_cases hc : col0 w ≤ j.val % 64 ∧ j.val % 64 < col0 w + 16
  · have hwin : Ref.inWin r w (64 * row0 (n / 64) + j) := by
      rw [hr]; unfold Ref.inWin row0 at *; omega
    rw [dif_pos hwin, dif_pos (by
      show col0 (n.val % 64) ≤ (64 * (row0 (n / 64) + 7 - n / 64) + j.val) % 64
        ∧ (64 * (row0 (n / 64) + 7 - n / 64) + j.val) % 64 < col0 (n.val % 64) + 16
      rw [hw]; omega)]
    rw [hp _ (by show 64 * (row0 (n / 64) + 7 - n / 64) + j.val < 960; unfold row0; omega), ← en]
    refine congrArg (fun z => _ + bias z) ?_
    refine congrArg₂ (fun x y => ix4 0 h x y) (Fin.ext ?_) (Fin.ext ?_)
    · show (64 * row0 (n / 64) + j.val) / 64 + 7 - r.val = (64 * (row0 (n / 64) + 7 - n / 64) + j.val) / 64
      rw [hr]; unfold row0; omega
    · show (64 * row0 (n / 64) + j.val) % 64 + 15 - w.val = (64 * (row0 (n / 64) + 7 - n / 64) + j.val) % 64 + 15 - n.val % 64
      omega
  · have hwin : ¬ Ref.inWin r w (64 * row0 (n / 64) + j) := by
      rw [hr]; unfold Ref.inWin; omega
    rw [dif_neg hwin, dif_neg (by
      show ¬ (col0 (n.val % 64) ≤ (64 * (row0 (n / 64) + 7 - n / 64) + j.val) % 64
        ∧ (64 * (row0 (n / 64) + 7 - n / 64) + j.val) % 64 < col0 (n.val % 64) + 16)
      rw [hw]; omega), EReal.add_bot]

/-- Keys outside the window's rows have the score −∞. -/
theorem outside (P : FVec Ideal S12288x8192 .bf16) (bias : FVec Ideal S1x8x15x31 .f32)
    (b : Fin 4) (h : Fin 8) (r : Fin 16) (w : Fin 64) (f : Fin 512 → Fin 1024)
    (hf : ∀ j, (f j).val = 64 * row0 r + j) (k : Fin 1024) (hk : k ∉ Set.range f) :
    Ref.gridScore P bias b h r w k = ⊥ := by
  unfold Ref.gridScore
  refine dif_neg fun hw => hk ?_
  have h1 : 64 * row0 r ≤ k.val ∧ k.val < 64 * row0 r + 512 := by unfold Ref.inWin at hw; omega
  exact ⟨⟨k.val - 64 * row0 r, by omega⟩, Fin.ext (by rw [hf]; dsimp only; omega)⟩

/-- An entry of the context, by sequence, position, head and channel. -/
theorem ctx_entry (x : FVec Ideal S4x1x256x8x128 .f32) (b : Fin 4) (h : Fin 8) (c : Fin 256) (e : Fin 128) :
    ctxPart (shapeCast S4x256x1024 x shapeCasts_S4x1x256x8x128_S4x256x1024) b h b.isLt h.isLt (ix3 0 c e)
      = x (ix5 b 0 c h e) := by
  unfold ctxPart
  refine (cached x b c ⟨128 * h.val + e.val, by omega⟩).trans (congrArg x ?_)
  refine congrArg₂ (fun y z => ix5 b 0 c y z) (Fin.ext ?_) (Fin.ext ?_) <;> dsimp only <;> omega

theorem att_congr {J C : Type} [Fintype J] [Fintype C] {s s' v v' : J → EReal} {u u' w w' : C → EReal}
    (hs : ∀ j, s j = s' j) (hu : ∀ c, u c = u' c) (hv : ∀ j, v j = v' j) (hw : ∀ c, w c = w' c) :
    att s u v w = att s' u' v' w' := by
  rw [funext hs, funext hu, funext hv, funext hw]

/-- The two results agree at every index. -/
theorem tie (P : FVec Ideal S12288x8192 .bf16) (kc vc : FVec Ideal S4x1x256x8x128 .f32)
    (bias : FVec Ideal S1x8x15x31 .f32) (p : FVec Ideal S8x31x1024 .f32)
    (hp : ∀ i : S8x31x1024.Idx, ∀ hl : (i 2).val < 960,
      p i = bias (ix4 0 ⟨(i 0).val, (i 0).isLt⟩ ⟨(i 2).val / 64, by omega⟩ ⟨(i 1).val, (i 1).isLt⟩)) :
    latOf P (shapeCast S4x256x1024 kc shapeCasts_S4x1x256x8x128_S4x256x1024)
        (shapeCast S4x256x1024 vc shapeCasts_S4x1x256x8x128_S4x256x1024) (tabOf p)
      = Cert.LatRefIdeal.Read.val_main_v88 (F := Ideal) P kc vc bias := by
  funext i
  idx_vars i
  have hb : i0.val / 1024 < 4 := by omega
  have hh : i1.val / 128 < 8 := by omega
  rw [Ref.res_apply P kc vc bias i0 i1 ⟨_, hb⟩ ⟨_, hh⟩ ⟨i0.val % 1024 / 64, by omega⟩ ⟨i0.val % 64, by omega⟩
      ⟨i1.val % 128, by omega⟩ (by dsimp only; omega) (by dsimp only; omega),
    latOf_at _ _ _ _ (ix2 i0 i1) _ _ hb hh ⟨i0.val % 1024, by omega⟩ ⟨i1.val % 128, by omega⟩
      (by show i0.val = _; dsimp only; omega) (by show i1.val = _; dsimp only; omega)]
  rw [att_window (fun j : Fin 512 => (⟨64 * row0 (i0.val % 1024 / 64) + j, by unfold row0; omega⟩ : Fin 1024))
    (fun a c e => Fin.ext (by have := congrArg Fin.val e; dsimp only at this; omega)) _ _ _ _
    (outside P bias _ _ _ _ _ fun _ => rfl)]
  unfold rowOut
  have hs := window_score P bias p hp ⟨_, hb⟩ ⟨_, hh⟩ ⟨i0.val % 1024 / 64, by omega⟩ ⟨i0.val % 64, by omega⟩
    ⟨i0.val % 1024, by omega⟩ (by dsimp only; omega)
  refine att_congr (fun j => (hs j).symm) (fun c => ?_) (fun j => rfl) (fun c => ?_)
  · unfold Ref.ctxScore
    refine congrArg (fun z => z * scl) (Finset.sum_congr rfl fun e _ => ?_)
    refine congrArg₂ (· * ·) (congrArg _ (congrArg (fun n => ix2 n e) (Fin.ext ?_)))
      (ctx_entry kc ⟨_, hb⟩ ⟨_, hh⟩ c e)
    dsimp only; omega
  · exact ctx_entry vc ⟨_, hb⟩ ⟨_, hh⟩ c _

end Cert.Attn
-- ==== Proof.MoeSlots.lean ====
/- The gathering of the experts' rows: the two slots of the scratch array, the sixteen-row blocks a tile's 256 transfers
   land in, what each transfer brings, and the two states of a slot — idle, and with a tile's transfers in flight. -/
module

public import proofs.«01_k».proof.Proof.Gen.MoeIdeal.Launch
public import proofs.«01_k».proof.Proof.Gen.MoeIdeal.Skeleton
public import Idealize.ShloMosaic.Lib.Batch
public import Idealize.ShloMosaic.Lib.Ring
public import Idealize.ShloMosaic.Lib.VecWindow
public import Idealize.ShloMosaic.Lib.ValueLayout
public import Idealize.ShloMosaic.Lib.Pointwise
public import Idealize.ShloMosaic.Lib.Pipeline.ValueKit

@[expose] public section

set_option maxRecDepth 8192

noncomputable section

namespace Cert.MoeIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation cellOf)
open Cert.MoeIdeal Cert.MoeIdeal.Gen

variable {F : FTy → Type} [FloatOps F]

local notation "𝕄" => MT nD τ sig Unit (Elt F) ℕ (Pipeline.UD sig nD τ) ℕ

/-! ## The blocks -/

theorem blk_inb (p : Fin 2) (k : Fin 256) : ∀ a, (![p.val, 16 * k.val, 0] : Fin 3 → ℕ) a + S1x16x128.size a ≤ S2x4096x128.size a := by
  intro a
  have := p.isLt; have := k.isLt
  fin_cases a
  · show p.val + 1 ≤ 2; omega
  · show 16 * k.val + 16 ≤ 4096; omega
  · show 0 + 128 ≤ 128; omega

theorem src_inb (w : Fin 12288) : ∀ a, (![16 * w.val, 0] : Fin 2 → ℕ) a + S16x128.size a ≤ S196608x128.size a := by
  intro a
  have := w.isLt
  fin_cases a
  · show 16 * w.val + 16 ≤ 196608; omega
  · show 0 + 128 ≤ 128; omega

/-- The sixteen rows of slot `p` that row `k` of a tile lands in. -/
def blkm (p : Fin 2) (k : Fin 256) : Memref sig .tc .vmem S16x128 .f32 :=
  ((Memref.whole cc0_scratch0).slice (Rect.unit (s := S2x4096x128) ![p.val, 16 * k.val, 0] S1x16x128.size (blk_inb p k)) (fun _ => rfl)).squeeze S16x128 squeezes_S1x16x128_S16x128

/-- The sixteen rows of the table that hold token `w`. -/
def srcm (w : Fin 12288) : Memref sig .tc .hbm S16x128 .f32 :=
  (Memref.whole main_arg4).slice (Rect.unit (s := S196608x128) ![16 * w.val, 0] S16x128.size (src_inb w)) (fun _ => rfl)

/-- The elements of block `k` of slot `p`. -/
def bset (p : Fin 2) (k : Fin 256) : Finset S2x4096x128.Idx :=
  (Rect.unit (s := S2x4096x128) ![p.val, 16 * k.val, 0] S1x16x128.size (blk_inb p k)).set

/-- The elements of slot `p`. -/
def sset (p : Fin 2) : Finset S2x4096x128.Idx := Finset.univ.filter fun y => (y 0).val = p.val

/-- The elements of token `w`'s rows. -/
def tset (w : Fin 12288) : Finset S196608x128.Idx :=
  (Rect.unit (s := S196608x128) ![16 * w.val, 0] S16x128.size (src_inb w)).set

theorem blkm_set (p : Fin 2) (k : Fin 256) : (blkm p k).view.set = bset p k :=
  (View.set_reshape _ _).trans (View.set_slice_whole _ _)

theorem srcm_set (w : Fin 12288) : (srcm w).view.set = tset w := View.set_slice_whole _ _

theorem mem_bset {p : Fin 2} {k : Fin 256} {y : S2x4096x128.Idx} :
    y ∈ bset p k ↔ (y 0).val = p.val ∧ 16 * k.val ≤ (y 1).val ∧ (y 1).val < 16 * k.val + 16 := by
  rw [bset, Rect.mem_set_unit]
  have h2 := (y 2).isLt
  constructor
  · intro h
    have h0 := h 0; have h1 := h 1
    change p.val ≤ (y 0).val ∧ (y 0).val < p.val + 1 at h0
    change 16 * k.val ≤ (y 1).val ∧ (y 1).val < 16 * k.val + 16 at h1
    omega
  · rintro ⟨h0, h1, h1'⟩ a
    fin_cases a
    · show p.val ≤ (y 0).val ∧ (y 0).val < p.val + 1; omega
    · exact ⟨h1, h1'⟩
    · exact ⟨Nat.zero_le _, by show (y 2).val < 0 + 128; have : (y 2).val < 128 := h2; omega⟩

theorem mem_sset {p : Fin 2} {y : S2x4096x128.Idx} : y ∈ sset p ↔ (y 0).val = p.val := by
  simp [sset]

theorem sset_eq (p : Fin 2) : sset p = Finset.univ.biUnion (bset p) := by
  ext y
  rw [mem_sset, Finset.mem_biUnion]
  constructor
  · intro h
    have h1 : (y 1).val < 4096 := (y 1).isLt
    refine ⟨⟨(y 1).val / 16, by omega⟩, Finset.mem_univ _, mem_bset.2 ⟨h, ?_, ?_⟩⟩ <;> show _ <;> simp only <;> omega
  · rintro ⟨k, -, hk⟩
    exact (mem_bset.1 hk).1

theorem bset_disj (p : Fin 2) : ∀ k ∈ (Finset.univ : Finset (Fin 256)), ∀ k' ∈ (Finset.univ : Finset (Fin 256)), k ≠ k' → Disjoint (bset p k) (bset p k') := by
  intro k _ k' _ hne
  rw [Finset.disjoint_left]
  intro y hy hy'
  have h := mem_bset.1 hy; have h' := mem_bset.1 hy'
  exact hne (Fin.ext (by omega))

theorem sset_disj : Disjoint (sset 0) (sset 1) := by
  rw [Finset.disjoint_left]
  intro y hy hy'
  have h := mem_sset.1 hy; have h' := mem_sset.1 hy'
  rw [h] at h'
  exact absurd h' (by decide)

theorem sset_union : sset 0 ∪ sset 1 = Finset.univ := by
  ext y
  have h : (y 0).val < 2 := (y 0).isLt
  simp only [Finset.mem_union, mem_sset, Finset.mem_univ, iff_true]
  show (y 0).val = 0 ∨ (y 0).val = 1
  omega

/-! ## What lands -/

/-- What a slot holds once a tile's rows have landed: at row `16*k + a`, row `a` of the token of the tile's row `k`. -/
def landed (wd : Fin 256 → Fin 12288) (H : S196608x128.Idx → Elt F .f32) : S2x4096x128.Idx → Elt F .f32 := fun y =>
  H (ix2 (⟨16 * (wd ⟨(y 1).val / 16, by have : (y 1).val < 4096 := (y 1).isLt; omega⟩).val + (y 1).val % 16,
      by have := (wd ⟨(y 1).val / 16, by have : (y 1).val < 4096 := (y 1).isLt; omega⟩).isLt; omega⟩ : Fin 196608) (⟨(y 2).val, (y 2).isLt⟩ : Fin 128))

theorem blkm_numel : S16x128.numel = S1x16x128.numel := by decide

theorem blkm_emb (p : Fin 2) (k : Fin 256) (a : Fin 16) (l : Fin 128) :
    (blkm p k).view.emb (ix2 a l) = (ix3 (⟨p.val, p.isLt⟩ : Fin 2) (⟨16 * k.val + a.val, by omega⟩ : Fin 4096) l : S2x4096x128.Idx) := by
  show ((Rect.unit (s := S2x4096x128) ![p.val, 16 * k.val, 0] S1x16x128.size (blk_inb p k)).emb (Shape.reshapeEquiv _ (ix2 a l)) : S2x4096x128.Idx) = _
  have e : Shape.reshapeEquiv (blkm_numel) (ix2 a l : S16x128.Idx) = (ix3 (0 : Fin 1) a l : S1x16x128.Idx) :=
    Shape.reshapeEquiv_eq_of_rowMajor _ (by
      rw [Shape.rowMajor_val_three, Shape.rowMajor_val_two]
      show (0 * 16 + a.val) * 128 + l.val = a.val * 128 + l.val
      omega)
  refine (congrArg _ e).trans ?_
  funext b
  apply Fin.ext
  rw [ValueKit.rect_emb_unit_val]
  fin_cases b
  · show p.val + 0 = p.val; omega
  · rfl
  · show 0 + l.val = l.val; omega

theorem srcm_emb (w : Fin 12288) (a : Fin 16) (l : Fin 128) :
    (srcm w).view.emb (ix2 a l) = (ix2 (⟨16 * w.val + a.val, by omega⟩ : Fin 196608) l : S196608x128.Idx) := by
  show ((Rect.unit (s := S196608x128) ![16 * w.val, 0] S16x128.size (src_inb w)).emb (ix2 a l) : S196608x128.Idx) = _
  funext b
  apply Fin.ext
  rw [ValueKit.rect_emb_unit_val]
  fin_cases b
  · rfl
  · show 0 + l.val = l.val; omega

/-- The block written by the transfer of the tile's row `k` is the block of what lands. -/
theorem write_landed (p : Fin 2) (wd : Fin 256 → Fin 12288) (k : Fin 256) (H : S196608x128.Idx → Elt F .f32) (f : S2x4096x128.Idx → Elt F .f32) :
    ∀ y ∈ bset p k, (blkm p k).view.write (Elt F) f ((srcm (wd k)).view.read (Elt F) H) Finset.univ y = landed wd H y := by
  intro y hy
  rw [← blkm_set] at hy
  obtain ⟨x, -, rfl⟩ := Finset.mem_map.1 hy
  obtain ⟨a, l, rfl⟩ : ∃ (a : Fin 16) (l : Fin 128), x = ix2 a l := ⟨x 0, x 1, by funext b; fin_cases b <;> rfl⟩
  refine ((blkm p k).view.write_emb_of_mem _ _ (Finset.mem_univ _)).trans ?_
  show H ((srcm (wd k)).view.emb (ix2 a l)) = _
  rw [srcm_emb]
  refine Eq.trans ?_ (congrArg (landed wd H) (blkm_emb p k a l)).symm
  unfold landed
  congr 1
  have e : (⟨(16 * k.val + a.val) / 16, by omega⟩ : Fin 256) = k := Fin.ext (by show (16 * k.val + a.val) / 16 = k.val; omega)
  funext b
  apply Fin.ext
  fin_cases b
  · show 16 * (wd k).val + a.val = 16 * (wd ⟨(16 * k.val + a.val) / 16, _⟩).val + (16 * k.val + a.val) % 16
    rw [e]; omega
  · rfl

/-! ## The transfers of one tile -/

theorem cell_inb (p : Fin 2) : ∀ a, (![p.val] : Fin 1 → ℕ) a + S1.size a ≤ S2.size a := by
  intro a; have := p.isLt; fin_cases a; show p.val + 1 ≤ 2; omega

/-- The semaphore of slot `p`. -/
def cellS (p : Fin 2) : DmaSem sig :=
  ((cc0_scratch1.slice (Rect.unit (s := S2) ![p.val] S1.size (cell_inb p))).squeeze S_ squeezes_S1_S_).sem

/-- What one transfer of sixteen rows adds to the semaphore. -/
abbrev NN : ℕ := 256

theorem blkm_amount (p : Fin 2) (k : Fin 256) (q : DmaSem sig) : (blkm p k).view.amount (.dma q) = NN := by
  rfl

variable (c : Dev nD)

/-- What the transfer of the tile's row `k` hands over: the block it landed in, and the share of the rows it read. -/
def delivery (p : Fin 2) (q : PosShare TreeShare) (wd : Fin 256 → Fin 12288) (H : S196608x128.Idx → Elt F .f32) (k : Fin 256) : sProp 𝕄 :=
  iprop(((c : Thread nD τ).loc cc0_scratch0 ↦[bset p k]{fullShare} landed wd H) ∗ ((c : Thread nD τ).loc main_arg4 ↦[tset (wd k)]{shareTokN q k.val} H))

instance delivery_storable (p : Fin 2) (q : PosShare TreeShare) (wd : Fin 256 → Fin 12288) (H : S196608x128.Idx → Elt F .f32) (k : Fin 256) :
    BI.Storable (upEmb : UEmb _ 𝕄) (delivery c p q wd H k) := by
  unfold delivery; infer_instance

theorem bigSep_star {I : Type} (s : Finset I) (A B : I → sProp 𝕄) :
    bigSep s (fun i => iprop(A i ∗ B i)) = iprop(bigSep s A ∗ bigSep s B) := bigSep_sep s A B

/-- The transfers of a tile into slot `p`, `j` of them issued. -/
abbrev batch (p : Fin 2) (q : PosShare TreeShare) (wd : Fin 256 → Fin 12288) (H : S196608x128.Idx → Elt F .f32) (j : ℕ) : sProp 𝕄 :=
  Batch (Lvl := ℕ) (countersEmb (U := Pipeline.UD sig nD τ)) (c : Thread nD τ) (.dma (cellS p)) () NN (delivery c p q wd H) j 0

/-- Before the transfer of row `j`: `j` issued, and the blocks and the rows of the transfers to come held. -/
def issuing (p : Fin 2) (q : PosShare TreeShare) (wd : Fin 256 → Fin 12288) (H : S196608x128.Idx → Elt F .f32) (f : S2x4096x128.Idx → Elt F .f32) (j : ℕ) : sProp 𝕄 :=
  iprop(batch c p q wd H j
    ∗ bigSep (pending (n := 256) j) (fun k => iprop(((c : Thread nD τ).loc cc0_scratch0 ↦[bset p k]{fullShare} f)
        ∗ ((c : Thread nD τ).loc main_arg4 ↦[tset (wd k)]{shareTokN q k.val} H))))

/-- What is kept of the rows' share while a tile's transfers are in flight. -/
def kept (q : PosShare TreeShare) (wd : Fin 256 → Fin 12288) (H : S196608x128.Idx → Elt F .f32) : sProp 𝕄 :=
  iprop(((c : Thread nD τ).loc main_arg4 ↦{shareDrop q 256} H)
    ∗ bigSep (Finset.univ : Finset (Fin 256)) (fun k => ((c : Thread nD τ).loc main_arg4 ↦[(tset (wd k))ᶜ]{shareTokN q k.val} H)))

/-- A slot with nothing in flight. -/
def idle (p : Fin 2) (q : PosShare TreeShare) (H : S196608x128.Idx → Elt F .f32) : sProp 𝕄 :=
  iprop(semVal ((c : Thread nD τ), SemLoc.dma (cellS p)) 0 ∗ (∃ f, (c : Thread nD τ).loc cc0_scratch0 ↦[sset p]{fullShare} f)
    ∗ ((c : Thread nD τ).loc main_arg4 ↦{q} H))

/-- A slot with a tile's transfers in flight. -/
def busy (p : Fin 2) (q : PosShare TreeShare) (wd : Fin 256 → Fin 12288) (H : S196608x128.Idx → Elt F .f32) : sProp 𝕄 :=
  iprop(batch c p q wd H 256 ∗ kept c q wd H)

/-- The rows' share dealt to the transfers of a tile: each its own rows, the rest kept. -/
theorem deal (q : PosShare TreeShare) (wd : Fin 256 → Fin 12288) (H : S196608x128.Idx → Elt F .f32) :
    ((c : Thread nD τ).loc main_arg4 ↦{q} H : sProp 𝕄)
      ⊣⊢ iprop(kept c q wd H ∗ bigSep (Finset.univ : Finset (Fin 256)) (fun k => ((c : Thread nD τ).loc main_arg4 ↦[tset (wd k)]{shareTokN q k.val} H))) := by
  have e : ∀ k : Fin 256, ((c : Thread nD τ).loc main_arg4 ↦{shareTokN q k.val} H : sProp 𝕄)
      ⊣⊢ iprop(((c : Thread nD τ).loc main_arg4 ↦[(tset (wd k))ᶜ]{shareTokN q k.val} H) ∗ ((c : Thread nD τ).loc main_arg4 ↦[tset (wd k)]{shareTokN q k.val} H)) := by
    intro k
    have h := pointsTo_union (Ix := Unit) (Name := ℕ) (U := Pipeline.UD sig nD τ) (Lvl := ℕ) (ℓ := (c : Thread nD τ).loc main_arg4) (q := shareTokN q k.val) (f := H) (disjoint_compl_left (a := tset (wd k)))
    rw [show (tset (wd k))ᶜ ∪ tset (wd k) = (Finset.univ : Finset S196608x128.Idx) from Finset.union_comm _ _ |>.trans (Finset.union_compl _)] at h
    exact h
  unfold kept
  constructor
  · iintro H
    ihave H := (pointsTo_toks_split q 256) $$ H
    icases H with ⟨Hd, Ht⟩
    ihave Ht := (show bigSep (Finset.univ : Finset (Fin 256)) (fun k => ((c : Thread nD τ).loc main_arg4 ↦{shareTokN q k.val} H))
      ⊢ iprop(bigSep (Finset.univ : Finset (Fin 256)) (fun k => ((c : Thread nD τ).loc main_arg4 ↦[(tset (wd k))ᶜ]{shareTokN q k.val} H))
        ∗ bigSep (Finset.univ : Finset (Fin 256)) (fun k => ((c : Thread nD τ).loc main_arg4 ↦[tset (wd k)]{shareTokN q k.val} H))) from
      (bigSep_mono fun k _ => (e k).1).trans (Entails.of_eq (bigSep_star _ _ _))) $$ Ht
    icases Ht with ⟨Hc, Ht⟩
    isplitr [Ht]
    · isplitl [Hd]; · iexact Hd
      iexact Hc
    · iexact Ht
  · iintro ⟨⟨Hd, Hc⟩, Ht⟩
    iapply (pointsTo_toks_join q 256)
    isplitl [Hd]; · iexact Hd
    iapply (show iprop(bigSep (Finset.univ : Finset (Fin 256)) (fun k => ((c : Thread nD τ).loc main_arg4 ↦[(tset (wd k))ᶜ]{shareTokN q k.val} H))
        ∗ bigSep (Finset.univ : Finset (Fin 256)) (fun k => ((c : Thread nD τ).loc main_arg4 ↦[tset (wd k)]{shareTokN q k.val} H)))
      ⊢ bigSep (Finset.univ : Finset (Fin 256)) (fun k => ((c : Thread nD τ).loc main_arg4 ↦{shareTokN q k.val} H)) from
      (Entails.of_eq (bigSep_star _ _ _).symm).trans (bigSep_mono fun k _ => (e k).2))
    isplitl [Hc]; · iexact Hc
    iexact Ht

theorem slot_blocks (p : Fin 2) (f : S2x4096x128.Idx → Elt F .f32) :
    ((c : Thread nD τ).loc cc0_scratch0 ↦[sset p]{fullShare} f : sProp 𝕄)
      = bigSep (Finset.univ : Finset (Fin 256)) (fun k => ((c : Thread nD τ).loc cc0_scratch0 ↦[bset p k]{fullShare} f)) := by
  rw [sset_eq]
  exact pointsTo_biUnion (ℓ := (c : Thread nD τ).loc cc0_scratch0) Finset.univ (bset p) (bset_disj p)

/-- An idle slot is ready to issue a tile's transfers. -/
theorem idle_issuing (p : Fin 2) (q : PosShare TreeShare) (wd : Fin 256 → Fin 12288) (H : S196608x128.Idx → Elt F .f32) :
    idle c p q H ⊢ iprop(|={Set.univ}=> ∃ f, issuing c p q wd H f 0 ∗ kept c q wd H) := by
  unfold idle issuing
  iintro ⟨Hv, ⟨%f, Hf⟩, Ht⟩
  ihave Ht := (deal c q wd H).1 $$ Ht
  icases Ht with ⟨Hk, Ht⟩
  imod (batch_alloc' (Lvl := ℕ) (countersEmb (U := Pipeline.UD sig nD τ)) (c : Thread nD τ) () NN (delivery c p q wd H) (sm := .dma (cellS p)) (E := Set.univ)) $$ Hv with HB
  imodintro
  iexists f
  isplitr [Hk]
  · isplitl [HB]; · iexact HB
    rw [pending_zero, bigSep_star, ← slot_blocks]
    isplitl [Hf]; · iexact Hf
    iexact Ht
  · iexact Hk

/-- All of a tile's transfers issued, the slot is busy. -/
theorem issuing_busy (p : Fin 2) (q : PosShare TreeShare) (wd : Fin 256 → Fin 12288) (H : S196608x128.Idx → Elt F .f32) (f : S2x4096x128.Idx → Elt F .f32) :
    iprop(issuing c p q wd H f 256 ∗ kept c q wd H) ⊢ busy c p q wd H := by
  unfold issuing busy
  iintro ⟨⟨HB, -⟩, Hk⟩
  isplitl [HB]; · iexact HB
  iexact Hk

/-- All of a tile's transfers landed: the slot holds the tile's rows, and the share is whole again. -/
theorem landed_all (p : Fin 2) (q : PosShare TreeShare) (wd : Fin 256 → Fin 12288) (H : S196608x128.Idx → Elt F .f32) :
    iprop(bigSep (Finset.univ : Finset (Fin 256)) (delivery c p q wd H) ∗ kept c q wd H)
      ⊢ iprop(((c : Thread nD τ).loc cc0_scratch0 ↦[sset p]{fullShare} landed wd H) ∗ ((c : Thread nD τ).loc main_arg4 ↦{q} H)) := by
  have e : bigSep (Finset.univ : Finset (Fin 256)) (delivery c p q wd H)
      = iprop(bigSep (Finset.univ : Finset (Fin 256)) (fun k => ((c : Thread nD τ).loc cc0_scratch0 ↦[bset p k]{fullShare} landed wd H))
        ∗ bigSep (Finset.univ : Finset (Fin 256)) (fun k => ((c : Thread nD τ).loc main_arg4 ↦[tset (wd k)]{shareTokN q k.val} H))) := bigSep_star _ _ _
  rw [e, slot_blocks]
  iintro ⟨⟨Hb, Ht⟩, Hk⟩
  isplitl [Hb]; · iexact Hb
  iapply (deal c q wd H).2
  isplitl [Hk]; · iexact Hk
  iexact Ht

theorem srcm_eq {w : Fin 12288} {offs : Fin 2 → ℕ} (hs : offs = ![16 * w.val, 0]) (inbs : ∀ a, offs a + S16x128.size a ≤ S196608x128.size a) :
    (Memref.whole main_arg4).slice (Rect.unit (s := S196608x128) offs S16x128.size inbs) (fun _ => rfl) = srcm w := by
  subst hs; rfl

theorem blkm_eq {p : Fin 2} {k : Fin 256} {offd : Fin 3 → ℕ} (hd : offd = ![p.val, 16 * k.val, 0]) (inbd : ∀ a, offd a + S1x16x128.size a ≤ S2x4096x128.size a) :
    ((Memref.whole cc0_scratch0).slice (Rect.unit (s := S2x4096x128) offd S1x16x128.size inbd) (fun _ => rfl)).squeeze S16x128 squeezes_S1x16x128_S16x128 = blkm p k := by
  subst hd; rfl

theorem cellS_eq {p : Fin 2} {off : Fin 1 → ℕ} (hp : off = ![p.val]) (inb : ∀ a, off a + S1.size a ≤ S2.size a) :
    ((cc0_scratch1.slice (Rect.unit (s := S2) off S1.size inb)).squeeze S_ squeezes_S1_S_).sem = cellS p := by
  subst hp; rfl

theorem srcPt_eq (w : Fin 12288) (q : PosShare TreeShare) (H : S196608x128.Idx → Elt F .f32) :
    ((srcm w).view.loc (c : Thread nD τ) ↦[(srcm w).view.set]{q} H : sProp 𝕄) = ((c : Thread nD τ).loc main_arg4 ↦[tset w]{q} H) := by
  rw [srcm_set]; rfl

theorem dstPt_eq (p : Fin 2) (k : Fin 256) (S : Finset S2x4096x128.Idx) (q : PosShare TreeShare) (f : S2x4096x128.Idx → Elt F .f32) :
    ((blkm p k).view.loc (c : Thread nD τ) ↦[S]{q} f : sProp 𝕄) = ((c : Thread nD τ).loc cc0_scratch0 ↦[S]{q} f) := rfl

/-- What a landing hands over is the delivery. -/
theorem delivery_intro (p : Fin 2) (q : PosShare TreeShare) (wd : Fin 256 → Fin 12288) (H : S196608x128.Idx → Elt F .f32) (f : S2x4096x128.Idx → Elt F .f32) (k : Fin 256) :
    iprop(((blkm p k).view.loc (c : Thread nD τ) ↦[bset p k]{fullShare} (blkm p k).view.write (Elt F) f ((ReadAs.same : ReadAs (Elt F) S16x128 .f32 S16x128 .f32).apply ((srcm (wd k)).view.read (Elt F) H)) Finset.univ)
        ∗ ((srcm (wd k)).view.loc (c : Thread nD τ) ↦[(srcm (wd k)).view.set]{shareTokN q k.val} H))
      ⊢ delivery c p q wd H k := by
  exact BIClass.sep_mono (Entails.of_eq (pointsTo_congr (ℓ := (c : Thread nD τ).loc cc0_scratch0) (q := fullShare) (write_landed p wd k H f)))
    (Entails.of_eq (srcPt_eq c (wd k) (shareTokN q k.val) H))

set_option maxHeartbeats 1000000 in
/-- One transfer of a tile issued. -/
theorem issue_one {α : Type} {𝒱 : Variants} {bd : Option 𝒱.V} {Q : α → sProp 𝕄} (p : Fin 2) (q : PosShare TreeShare) (wd : Fin 256 → Fin 12288) (H : S196608x128.Idx → Elt F .f32)
    (f : S2x4096x128.Idx → Elt F .f32) (k : Fin 256)
    {sm : DmaSem sig} (hsm : sm = cellS p)
    {src : Memref sig .tc .hbm S16x128 .f32} (hsrc : src = srcm (wd k))
    {dst : Memref sig .tc .vmem S16x128 .f32} (hdst : dst = blkm p k)
    {w1 : src.view.WordExact} {w2 : dst.view.WordExact} {w3 : DmaTarget.Typed (nD := nD) (τ := τ) .hbm (.dma sm) (.here (p := Proc.tc) dst)}
    {kk : PUnit → Prog (TpuEff nD τ sig (Elt F) Λ₀ .tc) α} :
    issuing c p q wd H f k.val
      ⊢ iprop((issuing c p q wd H f (k.val + 1) -∗ wp frame (wpE defs₀ 𝒱 (c : Thread nD τ) bd) Set.univ (kk ⟨⟩) Q)
          -∗ wp frame (wpE defs₀ 𝒱 (c : Thread nD τ) bd) Set.univ (.op (.enqueueDma src (.here dst) (.dma sm) w1 w2 w3) kk) Q) := by
  subst hsm hsrc hdst
  have R := wp_dmaBatch (Q := Q) (countersEmb (U := Pipeline.UD sig nD τ)) 𝒱 (c : Thread nD τ) bd (Name := ℕ) (Lvl := ℕ) (defs := defs₀ (F := F)) (D := delivery c p q wd H) (j := k.val) (u := 0) (via := .same) (src := srcm (wd k)) (dst := blkm p k)
    (hsrc := w1) (hdst := w2) (hsem := w3) (k := kk) (q := shareTokN q k.val) (fs := H) (fd := f) (Sd := bset p k) () NN (blkm_amount p k _) (blkm_set p k).subset k.isLt (Nat.zero_le _) (delivery_intro c p q wd H f k)
  rw [srcPt_eq, dstPt_eq] at R
  unfold issuing
  rw [bigSep_pending_step _ k.val k.isLt]
  iintro ⟨HB, ⟨Hd, Hs⟩, Hp⟩ Hk
  iapply R $$ [Hs Hd HB] [Hk Hp]
  · isplitl [Hs]; · iexact Hs
    isplitl [Hd]; · iexact Hd
    iexact HB
  · iintro HB
    iapply Hk
    isplitl [HB]; · iexact HB
    iexact Hp

end Cert.MoeIdeal.Hand
-- ==== Proof.MoeLoops.lean ====
/- The two issuing loops: each trip reads a token's number and starts the transfer of its rows. -/
module

public import proofs.«01_k».proof.Proof.MoeSlots
public import proofs.«01_k».proof.Proof.Gen.MoeIdeal.Loops

@[expose] public section

set_option maxRecDepth 8192

noncomputable section

namespace Cert.MoeIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation cellOf)
open Cert.MoeIdeal Cert.MoeIdeal.Gen

variable {F : FTy → Type} [FloatOps F]

local notation "𝕄" => MT nD τ sig Unit (Elt F) ℕ (Pipeline.UD sig nD τ) ℕ

variable (c : Dev nD)

theorem trips1 : k0_t1_loop.trips = 256 := by decide +kernel
theorem trips2 : k0_t2_loop.trips = 256 := by decide +kernel

/-- The token of row `j` of the tables, as a number. -/
def word (T : S18432.Idx → BitVec 32) (j : ℕ) : BitVec 32 := T (ix1 (⟨j % 18432, Nat.mod_lt _ (by omega)⟩ : Fin 18432))

/-- The slot that the rows of tile `t` land in. -/
def slot (t : ℕ) : Fin 2 := ⟨t % 2, Nat.mod_lt _ (by omega)⟩

theorem off6_eq : ∀ i : grid0.Coords, k0_off6 i = ![((i 0).val + 1) % 2] := by decide +kernel
theorem off9_eq : ∀ i : grid0.Coords, k0_off9 i = ![(i 0).val % 2] := by decide +kernel
theorem off10_eq : ∀ i : grid0.Coords, k0_off10 i = ![(i 0).val % 2, 0, 0] := by decide +kernel

theorem mul16 (v : BitVec 32) (h : v.toNat < 12288) : (Scalar.muli v 16#32).toNat = 16 * v.toNat := by
  show (v * 16#32).toNat = _
  rw [BitVec.toNat_mul]
  show v.toNat * 16 % 2 ^ 32 = _
  omega

theorem off4_eq (v : BitVec 32) (h : v.toNat < 12288) : k0_off4 v = ![16 * v.toNat, 0] := by
  show ![(Scalar.muli v 16#32).toNat, 0] = _
  rw [mul16 v h]

theorem off8_eq (v : BitVec 32) (h : v.toNat < 12288) : k0_off8 v = ![16 * v.toNat, 0] := off4_eq v h

theorem iv_toNat : ∀ k : Fin k0_t2_loop.trips, (Scf.iv 0#32 1#32 k.val).toNat = k.val := by decide +kernel
theorem iv16_toNat : ∀ k : Fin k0_t2_loop.trips, (Scalar.muli (Scf.iv 0#32 1#32 k.val) 16#32).toNat = 16 * k.val := by decide +kernel
theorem base_toNat : ∀ i : grid0.Coords, (Scalar.muli (Scalar.addi (BitVec.ofNat 32 (i 0).val) 1#32) 256#32).toNat = 256 * ((i 0).val + 1) := by decide +kernel

theorem off7_eq (i : grid0.Coords) (k : Fin k0_t2_loop.trips) : k0_off7 i k = ![((i 0).val + 1) % 2, 16 * k.val, 0] := by
  funext a
  fin_cases a
  · exact congrFun (off6_eq i) 0
  · exact iv16_toNat k
  · rfl

theorem off5_eq (i : grid0.Coords) (k : Fin k0_t2_loop.trips) : k0_off5 i k = ![256 * ((i 0).val + 1) + k.val] := by
  funext a
  fin_cases a
  show (Scalar.muli (Scalar.addi (BitVec.ofNat 32 (i 0).val) 1#32) 256#32 + Scf.iv 0#32 1#32 k.val).toNat = 256 * ((i 0).val + 1) + k.val
  have hi : (i 0).val < 72 := (i 0).isLt
  have hk : k.val < 256 := lt_of_lt_of_eq k.isLt trips2
  rw [BitVec.toNat_add, iv_toNat, base_toNat]
  omega

theorem src_ok (w : ℕ) (h : w < 12288) : ∀ a, (![16 * w, 0] : Fin 2 → ℕ) a + S16x128.size a ≤ S196608x128.size a := src_inb ⟨w, h⟩

theorem chk1_ok (i : grid0.Coords) (v : BitVec 32) (h : v.toNat < 12288) : k0_chk1 i v := by
  refine ⟨fun _ => ?_, fun _ => ?_⟩
  · show 16 ∣ (Scalar.muli v 16#32).toNat
    rw [mul16 v h]; exact ⟨_, rfl⟩
  · rw [off4_eq v h]; exact src_ok _ h

theorem chk3_ok (i : grid0.Coords) (v0 v : BitVec 32) (h : v.toNat < 12288) : k0_chk3 i v0 v := by
  refine ⟨fun _ => ?_, fun _ => ?_⟩
  · show 16 ∣ (Scalar.muli v 16#32).toNat
    rw [mul16 v h]; exact ⟨_, rfl⟩
  · rw [off8_eq v h]; exact src_ok _ h

section
variable (i : grid0.Coords)
  (a6 : Memref sig .tc .vmem S1x2048x512 .bf16) (ha6 : a6.IsWhole) (a7 : Memref sig .tc .vmem S1x2048x512 .bf16) (ha7 : a7.IsWhole)
  (a8 : Memref sig .tc .vmem S1x512x2048 .bf16) (ha8 : a8.IsWhole) (a9 : Memref sig .tc .vmem S1x2048x512 .bf16) (ha9 : a9.IsWhole)
  (a10 : Memref sig .tc .vmem S1x2048x512 .bf16) (ha10 : a10.IsWhole) (a11 : Memref sig .tc .vmem S1x512x2048 .bf16) (ha11 : a11.IsWhole)
  (a12 : Memref sig .tc .vmem S2048x128 .bf16) (ha12 : a12.IsWhole) (a13 : Memref sig .tc .vmem S1x128 .f32) (ha13 : a13.IsWhole)
  (a14 : Memref sig .tc .vmem S4096x128 .f32) (ha14 : a14.IsWhole)

/-- A trip of the first loop, on the arrays of the launch. -/
abbrev body1 (h1 : k0_cond1 i = 1#1) := k0_t1_body (F := F) i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _)
  a6 ha6 a7 ha7 a8 ha8 a9 ha9 a10 ha10 a11 ha11 a12 ha12 a13 ha13 a14 ha14 (Memref.whole cc0_scratch0) (Memref.isWhole_whole _) cc0_scratch1 h1

/-- A trip of the second loop, on the arrays of the launch. -/
abbrev body2 (v0 : Elt F .i32) (hw : k0_chk2 i v0) (h2 : k0_cond2 i v0 = 1#1) := k0_t2_body (F := F) i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _)
  a6 ha6 a7 ha7 a8 ha8 a9 ha9 a10 ha10 a11 ha11 a12 ha12 a13 ha13 a14 ha14 (Memref.whole cc0_scratch0) (Memref.isWhole_whole _) cc0_scratch1 v0 hw h2

set_option maxHeartbeats 1000000 in
theorem trip1 (h1 : k0_cond1 i = 1#1) {𝒱 : Variants} {bd : Option 𝒱.V}
    (q qs : PosShare TreeShare) (wd : Fin 256 → Fin 12288) (H : S196608x128.Idx → Elt F .f32)
    (f : S2x4096x128.Idx → Elt F .f32) (T : S18432.Idx → BitVec 32) (hT : ∀ k : Fin 256, (word T k.val).toNat = (wd k).val) (k : Fin k0_t1_loop.trips) (acc : Unit) :
    iprop(issuing c 0 q wd H f k.val ∗ ((Memref.whole main_arg3).view.loc (c : Thread nD τ) ↦{qs} T))
      ⊢ wp frame (wpE defs₀ 𝒱 (c : Thread nD τ) bd) Set.univ (body1 i a6 ha6 a7 ha7 a8 ha8 a9 ha9 a10 ha10 a11 ha11 a12 ha12 a13 ha13 a14 ha14 h1 k acc)
        (fun _ => iprop(issuing c 0 q wd H f (k.val + 1) ∗ ((Memref.whole main_arg3).view.loc (c : Thread nD τ) ↦{qs} T))) := by
  unfold body1 k0_t1_body
  iintro ⟨HI, HT⟩
  have hk : k.val < 256 := lt_of_lt_of_eq k.isLt trips1
  have hw : ∀ inb h, (View.readAt (Elt F) (Memref.whole main_arg3).view (Rect.unit (s := S18432) (k0_off2 k) S1.size inb) T) (Shape.Idx.first h) = word T k.val := by
    intro inb h
    show T _ = _
    unfold word
    congr 1
    funext a
    apply Fin.ext
    fin_cases a
    show (k0_off2 k) 0 + 0 = k.val % 18432
    rw [k0_off2_eq]
    show k.val + 0 = _
    omega
  sl_exec
  sl_unfold_run_names
  rw [hw]
  have hv : (word T k.val).toNat < 12288 := lt_of_eq_of_lt (hT ⟨k.val, hk⟩) (wd ⟨k.val, hk⟩).isLt
  sl_exec (disch := first | exact chk1_ok i _ hv)
  iapply (issue_one c 0 q wd H f ⟨k.val, hk⟩ (cellS_eq (p := 0) rfl _) (srcm_eq ((off4_eq _ hv).trans (by rw [hT ⟨k.val, hk⟩])) _) (blkm_eq (p := 0) (k := ⟨k.val, hk⟩) (k0_off3_eq k) _)) $$ HI
  iintro HI
  sl_step
  isplitl [HI]; · iexact HI
  iexact HT

set_option maxHeartbeats 1000000 in
theorem trip2 (v0 : Elt F .i32) (hw2 : k0_chk2 i v0) (h2 : k0_cond2 i v0 = 1#1) {𝒱 : Variants} {bd : Option 𝒱.V}
    (q qs : PosShare TreeShare) (wd : Fin 256 → Fin 12288) (H : S196608x128.Idx → Elt F .f32)
    (f : S2x4096x128.Idx → Elt F .f32) (T : S18432.Idx → BitVec 32) (hi : (i 0).val + 1 < 72)
    (hT : ∀ k : Fin 256, (word T (256 * ((i 0).val + 1) + k.val)).toNat = (wd k).val) (k : Fin k0_t2_loop.trips) (acc : Unit) :
    iprop(issuing c (slot ((i 0).val + 1)) q wd H f k.val ∗ ((Memref.whole main_arg3).view.loc (c : Thread nD τ) ↦{qs} T))
      ⊢ wp frame (wpE defs₀ 𝒱 (c : Thread nD τ) bd) Set.univ (body2 i a6 ha6 a7 ha7 a8 ha8 a9 ha9 a10 ha10 a11 ha11 a12 ha12 a13 ha13 a14 ha14 v0 hw2 h2 k acc)
        (fun _ => iprop(issuing c (slot ((i 0).val + 1)) q wd H f (k.val + 1) ∗ ((Memref.whole main_arg3).view.loc (c : Thread nD τ) ↦{qs} T))) := by
  unfold body2 k0_t2_body
  iintro ⟨HI, HT⟩
  have hk : k.val < 256 := lt_of_lt_of_eq k.isLt trips2
  have hw : ∀ inb h, (View.readAt (Elt F) (Memref.whole main_arg3).view (Rect.unit (s := S18432) (k0_off5 i k) S1.size inb) T) (Shape.Idx.first h) = word T (256 * ((i 0).val + 1) + k.val) := by
    intro inb h
    show T _ = _
    unfold word
    congr 1
    funext a
    apply Fin.ext
    fin_cases a
    show (k0_off5 i k) 0 + 0 = (256 * ((i 0).val + 1) + k.val) % 18432
    rw [off5_eq]
    show 256 * ((i 0).val + 1) + k.val + 0 = _
    omega
  sl_exec
  sl_unfold_run_names
  rw [hw]
  have hv : (word T (256 * ((i 0).val + 1) + k.val)).toNat < 12288 := lt_of_eq_of_lt (hT ⟨k.val, hk⟩) (wd ⟨k.val, hk⟩).isLt
  sl_exec (disch := first | exact chk3_ok i _ _ hv)
  iapply (issue_one c (slot ((i 0).val + 1)) q wd H f ⟨k.val, hk⟩ (cellS_eq (p := slot ((i 0).val + 1)) (off6_eq i) _) (srcm_eq ((off8_eq _ hv).trans (by rw [hT ⟨k.val, hk⟩])) _) (blkm_eq (p := slot ((i 0).val + 1)) (k := ⟨k.val, hk⟩) (off7_eq i k) _)) $$ HI
  iintro HI
  sl_step
  isplitl [HI]; · iexact HI
  iexact HT

/-- The first loop fills slot 0. -/
theorem loop1 (h1 : k0_cond1 i = 1#1) {𝒱 : Variants} {bd : Option 𝒱.V} {α : Type} {kk : Unit → Prog (TpuEff nD τ sig (Elt F) Λ₀ .tc) α} {Q : α → sProp 𝕄}
    (q qs : PosShare TreeShare) (wd : Fin 256 → Fin 12288) (H : S196608x128.Idx → Elt F .f32)
    (T : S18432.Idx → BitVec 32) (hT : ∀ k : Fin 256, (word T k.val).toNat = (wd k).val) :
    iprop(idle c 0 q H ∗ ((Memref.whole main_arg3).view.loc (c : Thread nD τ) ↦{qs} T))
      ⊢ iprop((iprop(busy c 0 q wd H ∗ ((Memref.whole main_arg3).view.loc (c : Thread nD τ) ↦{qs} T)) -∗ wp frame (wpE defs₀ 𝒱 (c : Thread nD τ) bd) Set.univ (kk ⟨⟩) Q)
        -∗ wp frame (wpE defs₀ 𝒱 (c : Thread nD τ) bd) Set.univ (Scf.Loop.for k0_t1_loop (k0_t1_ok i h1) ⟨⟩ (body1 i a6 ha6 a7 ha7 a8 ha8 a9 ha9 a10 ha10 a11 ha11 a12 ha12 a13 ha13 a14 ha14 h1) >>= kk) Q) := by
  iintro ⟨HI, HT⟩ HK
  imod (idle_issuing c 0 q wd H) $$ HI with ⟨%f, HI, Hk⟩
  iapply (Scf.wp_for_bind _ _ _ _ _ _ _ _ _ (fun j (_ : Unit) => iprop(issuing c 0 q wd H f j ∗ ((Memref.whole main_arg3).view.loc (c : Thread nD τ) ↦{qs} T)))
    (fun k acc => trip1 c i a6 ha6 a7 ha7 a8 ha8 a9 ha9 a10 ha10 a11 ha11 a12 ha12 a13 ha13 a14 ha14 h1 q qs wd H f T hT k acc)) $$ [HI HT] [HK Hk]
  · isplitl [HI]; · iexact HI
    iexact HT
  · iintro %acc
    rw [show Scf.trips k0_t1_loop.lb k0_t1_loop.ub k0_t1_loop.st = 256 from trips1]
    iintro ⟨HI, HT⟩
    iapply HK
    isplitr [HT]
    · iapply (issuing_busy c 0 q wd H f)
      isplitl [HI]; · iexact HI
      iexact Hk
    · iexact HT

/-- The second loop fills the next tile's slot. -/
theorem loop2 (v0 : Elt F .i32) (hw2 : k0_chk2 i v0) (h2 : k0_cond2 i v0 = 1#1) {𝒱 : Variants} {bd : Option 𝒱.V} {α : Type} {kk : Unit → Prog (TpuEff nD τ sig (Elt F) Λ₀ .tc) α} {Q : α → sProp 𝕄}
    (q qs : PosShare TreeShare) (wd : Fin 256 → Fin 12288) (H : S196608x128.Idx → Elt F .f32)
    (T : S18432.Idx → BitVec 32) (hi : (i 0).val + 1 < 72) (hT : ∀ k : Fin 256, (word T (256 * ((i 0).val + 1) + k.val)).toNat = (wd k).val) :
    iprop(idle c (slot ((i 0).val + 1)) q H ∗ ((Memref.whole main_arg3).view.loc (c : Thread nD τ) ↦{qs} T))
      ⊢ iprop((iprop(busy c (slot ((i 0).val + 1)) q wd H ∗ ((Memref.whole main_arg3).view.loc (c : Thread nD τ) ↦{qs} T)) -∗ wp frame (wpE defs₀ 𝒱 (c : Thread nD τ) bd) Set.univ (kk ⟨⟩) Q)
        -∗ wp frame (wpE defs₀ 𝒱 (c : Thread nD τ) bd) Set.univ (Scf.Loop.for k0_t2_loop k0_t2_ok ⟨⟩ (body2 i a6 ha6 a7 ha7 a8 ha8 a9 ha9 a10 ha10 a11 ha11 a12 ha12 a13 ha13 a14 ha14 v0 hw2 h2) >>= kk) Q) := by
  iintro ⟨HI, HT⟩ HK
  imod (idle_issuing c (slot ((i 0).val + 1)) q wd H) $$ HI with ⟨%f, HI, Hk⟩
  iapply (Scf.wp_for_bind _ _ _ _ _ _ _ _ _ (fun j (_ : Unit) => iprop(issuing c (slot ((i 0).val + 1)) q wd H f j ∗ ((Memref.whole main_arg3).view.loc (c : Thread nD τ) ↦{qs} T)))
    (fun k acc => trip2 c i a6 ha6 a7 ha7 a8 ha8 a9 ha9 a10 ha10 a11 ha11 a12 ha12 a13 ha13 a14 ha14 v0 hw2 h2 q qs wd H f T hi hT k acc)) $$ [HI HT] [HK Hk]
  · isplitl [HI]; · iexact HI
    iexact HT
  · iintro %acc
    rw [show Scf.trips k0_t2_loop.lb k0_t2_loop.ub k0_t2_loop.st = 256 from trips2]
    iintro ⟨HI, HT⟩
    iapply HK
    isplitr [HT]
    · iapply (issuing_busy c (slot ((i 0).val + 1)) q wd H f)
      isplitl [HI]; · iexact HI
      iexact Hk
    · iexact HT
end

end Cert.MoeIdeal.Hand
-- ==== Proof.MoeTile.lean ====
/- A tile's product: the wait for the tile's rows, and what the body computes of them and stores. -/
module

public import proofs.«01_k».proof.Proof.MoeLoops

@[expose] public section

set_option maxRecDepth 8192

noncomputable section

namespace Cert.MoeIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation cellOf)
open Cert.MoeIdeal Cert.MoeIdeal.Gen

variable {F : FTy → Type} [FloatOps F]

local notation "𝕄" => MT nD τ sig Unit (Elt F) ℕ (Pipeline.UD sig nD τ) ℕ

variable (c : Dev nD)

/-- The whole of slot `p`, as the wait names it. -/
theorem slot_inb (p : Fin 2) : ∀ a, (![p.val, 0, 0] : Fin 3 → ℕ) a + S1x4096x128.size a ≤ S2x4096x128.size a := by
  intro a; have := p.isLt
  fin_cases a
  · show p.val + 1 ≤ 2; omega
  · show 0 + 4096 ≤ 4096; omega
  · show 0 + 128 ≤ 128; omega

set_option maxHeartbeats 1000000 in
/-- The wait for a tile's rows. -/
theorem drain {α : Type} {𝒱 : Variants} {bd : Option 𝒱.V} {Q : α → sProp 𝕄} (p : Fin 2) (q : PosShare TreeShare) (wd : Fin 256 → Fin 12288) (H : S196608x128.Idx → Elt F .f32)
    {W : Waits sig Unit} {sm : DmaSem sig} (hsm : sm = cellS p)
    {m1 : Memref sig .tc .vmem S4096x128 .f32} {m2 : Memref sig .tc .vmem S4096x128 .f32} (hJ : m2.view.dmaCredit = NN * 256)
    {w1 : m1.view.WordExact} {w2 : m2.view.WordExact}
    {kk : PUnit → Prog (TpuEff nD τ sig (Elt F) Λ₀ .tc) α} :
    iprop(busy c p q wd H ∗ owes (c : Thread nD τ) 0 W)
      ⊢ iprop((iprop(((Memref.whole cc0_scratch0).view.loc (c : Thread nD τ) ↦[sset p]{fullShare} landed wd H) ∗ ((c : Thread nD τ).loc main_arg4 ↦{q} H)
            ∗ semVal ((c : Thread nD τ), SemLoc.dma (cellS p)) 0 ∗ owes (c : Thread nD τ) 0 (insert (SemLoc.dma (cellS p), ()) W))
          -∗ wp frame (wpE defs₀ 𝒱 (c : Thread nD τ) bd) Set.univ (kk ⟨⟩) Q)
        -∗ wp frame (wpE defs₀ 𝒱 (c : Thread nD τ) bd) Set.univ (.op (.waitDma2 sm m1 m2 w1 w2) kk) Q) := by
  subst hsm
  have R := wp_waitBatchAll (Q := Q) (countersEmb (U := Pipeline.UD sig nD τ)) 𝒱 (c : Thread nD τ) bd (Name := ℕ) (Lvl := ℕ) (defs := defs₀ (F := F)) (D := delivery c p q wd H) (u := 0)
    (sem := cellS p) (srcw := m1) (dstw := m2) (hsrc := w1) (hdst := w2) (k := kk) (W := W) () (N := NN) hJ (by decide) (by rw [Nat.zero_add])
  unfold busy
  iintro ⟨⟨HB, Hk⟩, HO⟩ HK
  iapply R $$ [HB HO] [HK Hk]
  · isplitl [HB]; · iexact HB
    iexact HO
  · iintro ⟨HD, Hv, HO⟩
    iapply HK
    ihave HD := (landed_all c p q wd H) $$ [HD Hk]
    · isplitl [HD]; · iexact HD
      iexact Hk
    icases HD with ⟨Hs, Ht⟩
    isplitl [Hs]; · iexact Hs
    isplitl [Ht]; · iexact Ht
    isplitl [Hv]; · iexact Hv
    iexact HO

section
variable (i : grid0.Coords) (arg1 : Memref sig .tc .smem S72 .i32) (harg1 : arg1.IsWhole) (arg2 : Memref sig .tc .smem S72 .i32) (harg2 : arg2.IsWhole) (arg3 : Memref sig .tc .smem S1 .i32) (harg3 : arg3.IsWhole) (arg4 : Memref sig .tc .smem S18432 .i32) (harg4 : arg4.IsWhole) (arg5 : Memref sig .tc .hbm S196608x128 .f32) (harg5 : arg5.IsWhole) (arg6 : Memref sig .tc .vmem S1x2048x512 .bf16) (harg6 : arg6.IsWhole) (arg7 : Memref sig .tc .vmem S1x2048x512 .bf16) (harg7 : arg7.IsWhole) (arg8 : Memref sig .tc .vmem S1x512x2048 .bf16) (harg8 : arg8.IsWhole) (arg9 : Memref sig .tc .vmem S1x2048x512 .bf16) (harg9 : arg9.IsWhole) (arg10 : Memref sig .tc .vmem S1x2048x512 .bf16) (harg10 : arg10.IsWhole) (arg11 : Memref sig .tc .vmem S1x512x2048 .bf16) (harg11 : arg11.IsWhole) (arg12 : Memref sig .tc .vmem S2048x128 .bf16) (harg12 : arg12.IsWhole) (arg13 : Memref sig .tc .vmem S1x128 .f32) (harg13 : arg13.IsWhole) (arg14 : Memref sig .tc .vmem S4096x128 .f32) (harg14 : arg14.IsWhole) (arg15 : Memref sig .tc .vmem S2x4096x128 .f32) (harg15 : arg15.IsWhole) (arg16 : DmaSems sig S2)

/-- The steps of a tile's product. -/
def tileProg : Prog (TpuEff nD τ sig (Elt F) Λ₀ .tc) PUnit := do
  let arg0 : BitVec 32 := BitVec.ofNat 32 (i 0).val
  let ⟨v23, v32, v35, v38, v41, v44, v47⟩ : Σ' (v23 : BitVec 32) (v32 : FVec F S256x128 .f32) (v35 : FVec F S256x128 .f32) (v38 : FVec F S256x128 .f32) (v41 : FVec F S256x128 .f32) (v44 : FVec F S256x128 .f32), FVec F S256x128 .f32 ← k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0
  let ⟨v79, v84, v85⟩ : Σ' (v79 : FVec F S256x2048 .bf16) (v84 : FVec F S256x128 .f32), IVec S256x128 32 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v23 v32 v35 v38 v41 v44 v47
  let ⟨v89, v123, v129⟩ : Σ' (v89 : Elt F .i32) (v123 : FVec F S256x1 .f32), FVec F S256 .f32 ← k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v84 v85
  let ⟨v147, v162, v165⟩ : Σ' (v147 : FVec F S256x1 .f32) (v162 : FVec F S256x2048 .f32), FVec F S256x512 .f32 ← k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v79 v84 v85 v89 v123 v129
  let ⟨v178, v195⟩ : Σ' (v178 : FVec F S256x2048 .f32), FVec F S256x128 .f32 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v79 v147 v162 v165
  let v196 : Vec F S256x128 .f32 ← Prog.lift (.load arg14 (⟨![8, 0], S256x128.size, ![16, 1], inb_S4096x128_S256x128_8_0_s_16_1⟩ : LoadRect S4096x128) (View.loadsAt_vmem h_S256x128))
  Prog.lift (.store arg14 ⟨(⟨![8, 0], S256x128.size, ![16, 1], inb_S4096x128_S256x128_8_0_s_16_1⟩ : LoadRect S4096x128), spos_16_1⟩ v195 Finset.univ (View.stores_vmem_bits_univ h_S256x128 rfl) (.inl rfl))
  let v198 : Vec F S256x128 .f32 ← Prog.lift (.load arg14 (⟨![9, 0], S256x128.size, ![16, 1], inb_S4096x128_S256x128_9_0_s_16_1⟩ : LoadRect S4096x128) (View.loadsAt_vmem h_S256x128))
  Prog.lift (.store arg14 ⟨(⟨![9, 0], S256x128.size, ![16, 1], inb_S4096x128_S256x128_9_0_s_16_1⟩ : LoadRect S4096x128), spos_16_1⟩ (k0_pay2 v178) Finset.univ (View.stores_vmem_bits_univ h_S256x128 rfl) (.inl rfl))
  let v200 : Vec F S256x128 .f32 ← Prog.lift (.load arg14 (⟨![10, 0], S256x128.size, ![16, 1], inb_S4096x128_S256x128_10_0_s_16_1⟩ : LoadRect S4096x128) (View.loadsAt_vmem h_S256x128))
  Prog.lift (.store arg14 ⟨(⟨![10, 0], S256x128.size, ![16, 1], inb_S4096x128_S256x128_10_0_s_16_1⟩ : LoadRect S4096x128), spos_16_1⟩ (k0_pay3 v178) Finset.univ (View.stores_vmem_bits_univ h_S256x128 rfl) (.inl rfl))
  let v202 : Vec F S256x128 .f32 ← Prog.lift (.load arg14 (⟨![11, 0], S256x128.size, ![16, 1], inb_S4096x128_S256x128_11_0_s_16_1⟩ : LoadRect S4096x128) (View.loadsAt_vmem h_S256x128))
  Prog.lift (.store arg14 ⟨(⟨![11, 0], S256x128.size, ![16, 1], inb_S4096x128_S256x128_11_0_s_16_1⟩ : LoadRect S4096x128), spos_16_1⟩ (k0_pay4 v178) Finset.univ (View.stores_vmem_bits_univ h_S256x128 rfl) (.inl rfl))
  let v204 : Vec F S256x128 .f32 ← Prog.lift (.load arg14 (⟨![12, 0], S256x128.size, ![16, 1], inb_S4096x128_S256x128_12_0_s_16_1⟩ : LoadRect S4096x128) (View.loadsAt_vmem h_S256x128))
  Prog.lift (.store arg14 ⟨(⟨![12, 0], S256x128.size, ![16, 1], inb_S4096x128_S256x128_12_0_s_16_1⟩ : LoadRect S4096x128), spos_16_1⟩ (k0_pay5 v178) Finset.univ (View.stores_vmem_bits_univ h_S256x128 rfl) (.inl rfl))
  let v206 : Vec F S256x128 .f32 ← Prog.lift (.load arg14 (⟨![13, 0], S256x128.size, ![16, 1], inb_S4096x128_S256x128_13_0_s_16_1⟩ : LoadRect S4096x128) (View.loadsAt_vmem h_S256x128))
  Prog.lift (.store arg14 ⟨(⟨![13, 0], S256x128.size, ![16, 1], inb_S4096x128_S256x128_13_0_s_16_1⟩ : LoadRect S4096x128), spos_16_1⟩ (k0_pay6 v178) Finset.univ (View.stores_vmem_bits_univ h_S256x128 rfl) (.inl rfl))
  let v208 : Vec F S256x128 .f32 ← Prog.lift (.load arg14 (⟨![14, 0], S256x128.size, ![16, 1], inb_S4096x128_S256x128_14_0_s_16_1⟩ : LoadRect S4096x128) (View.loadsAt_vmem h_S256x128))
  Prog.lift (.store arg14 ⟨(⟨![14, 0], S256x128.size, ![16, 1], inb_S4096x128_S256x128_14_0_s_16_1⟩ : LoadRect S4096x128), spos_16_1⟩ (k0_pay7 v178) Finset.univ (View.stores_vmem_bits_univ h_S256x128 rfl) (.inl rfl))
  let v210 : Vec F S256x128 .f32 ← Prog.lift (.load arg14 (⟨![15, 0], S256x128.size, ![16, 1], inb_S4096x128_S256x128_15_0_s_16_1⟩ : LoadRect S4096x128) (View.loadsAt_vmem h_S256x128))
  Prog.lift (.store arg14 ⟨(⟨![15, 0], S256x128.size, ![16, 1], inb_S4096x128_S256x128_15_0_s_16_1⟩ : LoadRect S4096x128), spos_16_1⟩ (k0_pay8 v178) Finset.univ (View.stores_vmem_bits_univ h_S256x128 rfl) (.inl rfl))
  pure ⟨⟩

end

theorem off27_eq : ∀ i : grid0.Coords, k0_off27 i = ![(i 0).val] := by decide +kernel
theorem off11_eq : ∀ i : grid0.Coords, k0_off11 i = ![(i 0).val % 2, 0, 0] := by decide +kernel
theorem off12_eq : ∀ i : grid0.Coords, k0_off12 i = ![(i 0).val % 2, 1, 0] := by decide +kernel
theorem off13_eq : ∀ i : grid0.Coords, k0_off13 i = ![(i 0).val % 2, 2, 0] := by decide +kernel
theorem off14_eq : ∀ i : grid0.Coords, k0_off14 i = ![(i 0).val % 2, 3, 0] := by decide +kernel
theorem off15_eq : ∀ i : grid0.Coords, k0_off15 i = ![(i 0).val % 2, 4, 0] := by decide +kernel
theorem off16_eq : ∀ i : grid0.Coords, k0_off16 i = ![(i 0).val % 2, 5, 0] := by decide +kernel
theorem off17_eq : ∀ i : grid0.Coords, k0_off17 i = ![(i 0).val % 2, 6, 0] := by decide +kernel
theorem off18_eq : ∀ i : grid0.Coords, k0_off18 i = ![(i 0).val % 2, 7, 0] := by decide +kernel
theorem off19_eq : ∀ i : grid0.Coords, k0_off19 i = ![(i 0).val % 2, 8, 0] := by decide +kernel
theorem off20_eq : ∀ i : grid0.Coords, k0_off20 i = ![(i 0).val % 2, 9, 0] := by decide +kernel
theorem off21_eq : ∀ i : grid0.Coords, k0_off21 i = ![(i 0).val % 2, 10, 0] := by decide +kernel
theorem off22_eq : ∀ i : grid0.Coords, k0_off22 i = ![(i 0).val % 2, 11, 0] := by decide +kernel
theorem off23_eq : ∀ i : grid0.Coords, k0_off23 i = ![(i 0).val % 2, 12, 0] := by decide +kernel
theorem off24_eq : ∀ i : grid0.Coords, k0_off24 i = ![(i 0).val % 2, 13, 0] := by decide +kernel
theorem off25_eq : ∀ i : grid0.Coords, k0_off25 i = ![(i 0).val % 2, 14, 0] := by decide +kernel
theorem off26_eq : ∀ i : grid0.Coords, k0_off26 i = ![(i 0).val % 2, 15, 0] := by decide +kernel

/-! ## What a tile's product is -/

/-- Piece `j` of the tile's rows: of each row's sixteen pieces of 128, the `j`-th. -/
def gath (wd : Fin 256 → Fin 12288) (H : S196608x128.Idx → Elt F .f32) (j : Fin 16) : Vec F S1x256x128 .f32 := fun x =>
  H (ix2 (⟨16 * (wd ⟨(x 1).val, (x 1).isLt⟩).val + j.val, by have := (wd ⟨(x 1).val, (x 1).isLt⟩).isLt; have := j.isLt; omega⟩ : Fin 196608) (⟨(x 2).val, (x 2).isLt⟩ : Fin 128))

/-- The tile's rows. -/
def tileX (wd : Fin 256 → Fin 12288) (H : S196608x128.Idx → Elt F .f32) : FVec F S256x2048 .bf16 :=
  k0_pay15 (k0_pay9 (gath wd H 0)) (k0_pay10 (gath wd H 1)) (k0_pay11 (gath wd H 2)) (k0_pay12 (gath wd H 3)) (k0_pay13 (gath wd H 4)) (k0_pay14 (gath wd H 5)) (gath wd H 6) (gath wd H 7) (gath wd H 8) (gath wd H 9) (gath wd H 10) (gath wd H 11) (gath wd H 12) (gath wd H 13) (gath wd H 14) (gath wd H 15)

/-- The routing logits of the tile's rows. -/
def tileL (wd : Fin 256 → Fin 12288) (H : S196608x128.Idx → Elt F .f32) (x12 : Vec F S2048x128 .bf16) (x13 : Vec F S1x128 .f32) : FVec F S256x128 .f32 :=
  k0_pay16 (k0_pay9 (gath wd H 0)) (k0_pay10 (gath wd H 1)) (k0_pay11 (gath wd H 2)) (k0_pay12 (gath wd H 3)) (k0_pay13 (gath wd H 4)) (k0_pay14 (gath wd H 5)) (gath wd H 6) (gath wd H 7) (gath wd H 8) (gath wd H 9) (gath wd H 10) (gath wd H 11) (gath wd H 12) (gath wd H 13) (gath wd H 14) (gath wd H 15) x12 x13

/-- The lane numbers. -/
def lanes : IVec S256x128 32 := iota .tc S256x128 32 [1] iota_S256x128_d1_w32

/-- The tile's product, from its rows, its two expert numbers and the blocks. -/
def tileY (wd : Fin 256 → Fin 12288) (H : S196608x128.Idx → Elt F .f32) (ea eb : BitVec 32)
    (x6 x7 : Vec F S1x2048x512 .bf16) (x8 : Vec F S1x512x2048 .bf16) (x9 x10 : Vec F S1x2048x512 .bf16) (x11 : Vec F S1x512x2048 .bf16)
    (x12 : Vec F S2048x128 .bf16) (x13 : Vec F S1x128 .f32) : FVec F S256x2048 .f32 :=
  k0_pay24 (tileX wd H)
    (k0_pay21 (tileL wd H x12 x13) lanes eb (k0_pay17 (tileL wd H x12 x13) lanes ea) (k0_pay18 (tileL wd H x12 x13) lanes ea))
    (k0_pay22 (tileX wd H) (tileL wd H x12 x13) lanes eb (k0_pay17 (tileL wd H x12 x13) lanes ea) (k0_pay18 (tileL wd H x12 x13) lanes ea) x6 x7 x8)
    (k0_pay23 (tileX wd H) x9) x10 x11

/-- A block of 256 rows of 2048 as 4096 rows of 128. -/
def spread (y : FVec F S256x2048 .f32) : FVec F S4096x128 .f32 := fun z =>
  y (ix2 (⟨(z 0).val / 16, by have : (z 0).val < 4096 := (z 0).isLt; omega⟩ : Fin 256) (⟨128 * ((z 0).val % 16) + (z 1).val, by have : (z 1).val < 128 := (z 1).isLt; omega⟩ : Fin 2048))

theorem gath_eq {p : Fin 2} {off : Fin 3 → ℕ} (j : Fin 16) (ho : off = ![p.val, j.val, 0]) (inb : ∀ a, S1x256x128.size a = 0 ∨ off a + (![1, 16, 1] : Fin 3 → Nat) a * (S1x256x128.size a - 1) < S2x4096x128.size a)
    (wd : Fin 256 → Fin 12288) (H : S196608x128.Idx → Elt F .f32) :
    View.readAt (Elt F) (Memref.whole cc0_scratch0).view (⟨off, S1x256x128.size, ![1, 16, 1], inb⟩ : LoadRect S2x4096x128) (landed wd H) = gath wd H j := by
  subst ho
  funext x
  have h1 : (x 1).val < 256 := (x 1).isLt
  have hj := j.isLt
  have e1 : j.val + 16 * (x 1).val = 16 * (x 1).val + j.val := by omega
  have e2 : (j.val + 16 * (x 1).val) / 16 = (x 1).val := by omega
  have e3 : (j.val + 16 * (x 1).val) % 16 = j.val := by omega
  show H _ = H _
  congr 1
  funext a
  apply Fin.ext
  fin_cases a
  · show 16 * (wd ⟨(j.val + 16 * (x 1).val) / 16, _⟩).val + (j.val + 16 * (x 1).val) % 16 = 16 * (wd ⟨(x 1).val, _⟩).val + j.val
    rw [e3]
    simp only [e2]
  · show 0 + 1 * (x 2).val = (x 2).val
    omega

/-- A store of piece `j` stores the rows of the whole at place `j` of every sixteen. -/
theorem piece_spread (y : FVec F S256x2048 .f32) (j : ℕ) (hj : j < 16) (w : FVec F S256x128 .f32) (hs : S256x2048.Slices ![0, 128 * j] S256x128) (hw : w = extractStridedSlice S256x128 ![0, 128 * j] y hs)
    (inb : ∀ a, S256x128.size a = 0 ∨ (![j, 0] : Fin 2 → ℕ) a + (![16, 1] : Fin 2 → ℕ) a * (S256x128.size a - 1) < S4096x128.size a)
    (pos : ∀ a, 0 < (![16, 1] : Fin 2 → ℕ) a) (x : S256x128.Idx) :
    w x = spread y ((⟨(⟨![j, 0], S256x128.size, ![16, 1], inb⟩ : LoadRect S4096x128), pos⟩ : Rect S4096x128).emb x) := by
  subst hw
  have h0 : (x 0).val < 256 := (x 0).isLt
  have h1 : (x 1).val < 128 := (x 1).isLt
  show y _ = y _
  congr 1
  funext a
  apply Fin.ext
  fin_cases a
  · show 0 + (x 0).val = (j + 16 * (x 0).val) / 16
    omega
  · show 128 * j + (x 1).val = 128 * ((j + 16 * (x 0).val) % 16) + (0 + 1 * (x 1).val)
    omega

theorem mem_piece (j : ℕ) (z : S4096x128.Idx) (h : (z 0).val % 16 = j)
    (inb : ∀ a, S256x128.size a = 0 ∨ (![j, 0] : Fin 2 → ℕ) a + (![16, 1] : Fin 2 → ℕ) a * (S256x128.size a - 1) < S4096x128.size a) (pos : ∀ a, 0 < (![16, 1] : Fin 2 → ℕ) a) :
    z ∈ (⟨(⟨![j, 0], S256x128.size, ![16, 1], inb⟩ : LoadRect S4096x128), pos⟩ : Rect S4096x128).set := by
  rw [LoadRect.mem_set]
  have h0 : (z 0).val < 4096 := (z 0).isLt
  have h1 : (z 1).val < 128 := (z 1).isLt
  intro a
  fin_cases a
  · exact ⟨(z 0).val / 16, (by omega : (z 0).val / 16 < 256), (by omega : (z 0).val = j + 16 * ((z 0).val / 16))⟩
  · exact ⟨(z 1).val, h1, (by omega : (z 1).val = 0 + 1 * (z 1).val)⟩

/-- The sixteen strided stores together leave the whole. -/
theorem spread_all {κ : Kind} {sp : Space} (v : View sig κ sp S4096x128 .f32) (f : v.ty.Contents (Elt F)) (y : FVec F S256x2048 .f32) (w0 w1 w2 w3 w4 w5 w6 w7 w8 w9 w10 w11 w12 w13 w14 w15 : FVec F S256x128 .f32)
    (h0 : w0 = extractStridedSlice S256x128 ![0, 0] y slices_S256x2048_o0_0_S256x128) (h1 : w1 = extractStridedSlice S256x128 ![0, 128] y slices_S256x2048_o0_128_S256x128) (h2 : w2 = extractStridedSlice S256x128 ![0, 256] y slices_S256x2048_o0_256_S256x128) (h3 : w3 = extractStridedSlice S256x128 ![0, 384] y slices_S256x2048_o0_384_S256x128) (h4 : w4 = extractStridedSlice S256x128 ![0, 512] y slices_S256x2048_o0_512_S256x128) (h5 : w5 = extractStridedSlice S256x128 ![0, 640] y slices_S256x2048_o0_640_S256x128) (h6 : w6 = extractStridedSlice S256x128 ![0, 768] y slices_S256x2048_o0_768_S256x128) (h7 : w7 = extractStridedSlice S256x128 ![0, 896] y slices_S256x2048_o0_896_S256x128) (h8 : w8 = extractStridedSlice S256x128 ![0, 1024] y slices_S256x2048_o0_1024_S256x128) (h9 : w9 = extractStridedSlice S256x128 ![0, 1152] y slices_S256x2048_o0_1152_S256x128) (h10 : w10 = extractStridedSlice S256x128 ![0, 1280] y slices_S256x2048_o0_1280_S256x128) (h11 : w11 = extractStridedSlice S256x128 ![0, 1408] y slices_S256x2048_o0_1408_S256x128) (h12 : w12 = extractStridedSlice S256x128 ![0, 1536] y slices_S256x2048_o0_1536_S256x128) (h13 : w13 = extractStridedSlice S256x128 ![0, 1664] y slices_S256x2048_o0_1664_S256x128) (h14 : w14 = extractStridedSlice S256x128 ![0, 1792] y slices_S256x2048_o0_1792_S256x128) (h15 : w15 = extractStridedSlice S256x128 ![0, 1920] y slices_S256x2048_o0_1920_S256x128) :
    v.read (Elt F) (v.writes (Elt F) f [⟨⟨(⟨![15, 0], S256x128.size, ![16, 1], inb_S4096x128_S256x128_15_0_s_16_1⟩ : LoadRect S4096x128), spos_16_1⟩, w15⟩, ⟨⟨(⟨![14, 0], S256x128.size, ![16, 1], inb_S4096x128_S256x128_14_0_s_16_1⟩ : LoadRect S4096x128), spos_16_1⟩, w14⟩, ⟨⟨(⟨![13, 0], S256x128.size, ![16, 1], inb_S4096x128_S256x128_13_0_s_16_1⟩ : LoadRect S4096x128), spos_16_1⟩, w13⟩, ⟨⟨(⟨![12, 0], S256x128.size, ![16, 1], inb_S4096x128_S256x128_12_0_s_16_1⟩ : LoadRect S4096x128), spos_16_1⟩, w12⟩, ⟨⟨(⟨![11, 0], S256x128.size, ![16, 1], inb_S4096x128_S256x128_11_0_s_16_1⟩ : LoadRect S4096x128), spos_16_1⟩, w11⟩, ⟨⟨(⟨![10, 0], S256x128.size, ![16, 1], inb_S4096x128_S256x128_10_0_s_16_1⟩ : LoadRect S4096x128), spos_16_1⟩, w10⟩, ⟨⟨(⟨![9, 0], S256x128.size, ![16, 1], inb_S4096x128_S256x128_9_0_s_16_1⟩ : LoadRect S4096x128), spos_16_1⟩, w9⟩, ⟨⟨(⟨![8, 0], S256x128.size, ![16, 1], inb_S4096x128_S256x128_8_0_s_16_1⟩ : LoadRect S4096x128), spos_16_1⟩, w8⟩, ⟨⟨(⟨![7, 0], S256x128.size, ![16, 1], inb_S4096x128_S256x128_7_0_s_16_1⟩ : LoadRect S4096x128), spos_16_1⟩, w7⟩, ⟨⟨(⟨![6, 0], S256x128.size, ![16, 1], inb_S4096x128_S256x128_6_0_s_16_1⟩ : LoadRect S4096x128), spos_16_1⟩, w6⟩, ⟨⟨(⟨![5, 0], S256x128.size, ![16, 1], inb_S4096x128_S256x128_5_0_s_16_1⟩ : LoadRect S4096x128), spos_16_1⟩, w5⟩, ⟨⟨(⟨![4, 0], S256x128.size, ![16, 1], inb_S4096x128_S256x128_4_0_s_16_1⟩ : LoadRect S4096x128), spos_16_1⟩, w4⟩, ⟨⟨(⟨![3, 0], S256x128.size, ![16, 1], inb_S4096x128_S256x128_3_0_s_16_1⟩ : LoadRect S4096x128), spos_16_1⟩, w3⟩, ⟨⟨(⟨![2, 0], S256x128.size, ![16, 1], inb_S4096x128_S256x128_2_0_s_16_1⟩ : LoadRect S4096x128), spos_16_1⟩, w2⟩, ⟨⟨(⟨![1, 0], S256x128.size, ![16, 1], inb_S4096x128_S256x128_1_0_s_16_1⟩ : LoadRect S4096x128), spos_16_1⟩, w1⟩, ⟨⟨(⟨![0, 0], S256x128.size, ![16, 1], inb_S4096x128_S256x128_0_0_s_16_1⟩ : LoadRect S4096x128), spos_16_1⟩, w0⟩]) = spread y := by
  funext z
  refine View.read_writes_apply_of_pieces (Val := Elt F) v f (spread y) _ ?_ z ?_
  · intro pc hpc x
    simp only [List.mem_cons, List.not_mem_nil, or_false] at hpc
    rcases hpc with rfl | rfl | rfl | rfl | rfl | rfl | rfl | rfl | rfl | rfl | rfl | rfl | rfl | rfl | rfl | rfl
    · exact piece_spread y 15 (by decide) w15 slices_S256x2048_o0_1920_S256x128 h15 _ _ x
    · exact piece_spread y 14 (by decide) w14 slices_S256x2048_o0_1792_S256x128 h14 _ _ x
    · exact piece_spread y 13 (by decide) w13 slices_S256x2048_o0_1664_S256x128 h13 _ _ x
    · exact piece_spread y 12 (by decide) w12 slices_S256x2048_o0_1536_S256x128 h12 _ _ x
    · exact piece_spread y 11 (by decide) w11 slices_S256x2048_o0_1408_S256x128 h11 _ _ x
    · exact piece_spread y 10 (by decide) w10 slices_S256x2048_o0_1280_S256x128 h10 _ _ x
    · exact piece_spread y 9 (by decide) w9 slices_S256x2048_o0_1152_S256x128 h9 _ _ x
    · exact piece_spread y 8 (by decide) w8 slices_S256x2048_o0_1024_S256x128 h8 _ _ x
    · exact piece_spread y 7 (by decide) w7 slices_S256x2048_o0_896_S256x128 h7 _ _ x
    · exact piece_spread y 6 (by decide) w6 slices_S256x2048_o0_768_S256x128 h6 _ _ x
    · exact piece_spread y 5 (by decide) w5 slices_S256x2048_o0_640_S256x128 h5 _ _ x
    · exact piece_spread y 4 (by decide) w4 slices_S256x2048_o0_512_S256x128 h4 _ _ x
    · exact piece_spread y 3 (by decide) w3 slices_S256x2048_o0_384_S256x128 h3 _ _ x
    · exact piece_spread y 2 (by decide) w2 slices_S256x2048_o0_256_S256x128 h2 _ _ x
    · exact piece_spread y 1 (by decide) w1 slices_S256x2048_o0_128_S256x128 h1 _ _ x
    · exact piece_spread y 0 (by decide) w0 slices_S256x2048_o0_0_S256x128 h0 _ _ x
  · have h : (z 0).val % 16 < 16 := Nat.mod_lt _ (by decide)
    obtain hz | hz | hz | hz | hz | hz | hz | hz | hz | hz | hz | hz | hz | hz | hz | hz : (z 0).val % 16 = 0 ∨ (z 0).val % 16 = 1 ∨ (z 0).val % 16 = 2 ∨ (z 0).val % 16 = 3 ∨ (z 0).val % 16 = 4 ∨ (z 0).val % 16 = 5 ∨ (z 0).val % 16 = 6 ∨ (z 0).val % 16 = 7 ∨ (z 0).val % 16 = 8 ∨ (z 0).val % 16 = 9 ∨ (z 0).val % 16 = 10 ∨ (z 0).val % 16 = 11 ∨ (z 0).val % 16 = 12 ∨ (z 0).val % 16 = 13 ∨ (z 0).val % 16 = 14 ∨ (z 0).val % 16 = 15 := by omega
    · exact ⟨_, List.mem_of_getElem? (i := 15) rfl, mem_piece 0 z hz _ _⟩
    · exact ⟨_, List.mem_of_getElem? (i := 14) rfl, mem_piece 1 z hz _ _⟩
    · exact ⟨_, List.mem_of_getElem? (i := 13) rfl, mem_piece 2 z hz _ _⟩
    · exact ⟨_, List.mem_of_getElem? (i := 12) rfl, mem_piece 3 z hz _ _⟩
    · exact ⟨_, List.mem_of_getElem? (i := 11) rfl, mem_piece 4 z hz _ _⟩
    · exact ⟨_, List.mem_of_getElem? (i := 10) rfl, mem_piece 5 z hz _ _⟩
    · exact ⟨_, List.mem_of_getElem? (i := 9) rfl, mem_piece 6 z hz _ _⟩
    · exact ⟨_, List.mem_of_getElem? (i := 8) rfl, mem_piece 7 z hz _ _⟩
    · exact ⟨_, List.mem_of_getElem? (i := 7) rfl, mem_piece 8 z hz _ _⟩
    · exact ⟨_, List.mem_of_getElem? (i := 6) rfl, mem_piece 9 z hz _ _⟩
    · exact ⟨_, List.mem_of_getElem? (i := 5) rfl, mem_piece 10 z hz _ _⟩
    · exact ⟨_, List.mem_of_getElem? (i := 4) rfl, mem_piece 11 z hz _ _⟩
    · exact ⟨_, List.mem_of_getElem? (i := 3) rfl, mem_piece 12 z hz _ _⟩
    · exact ⟨_, List.mem_of_getElem? (i := 2) rfl, mem_piece 13 z hz _ _⟩
    · exact ⟨_, List.mem_of_getElem? (i := 1) rfl, mem_piece 14 z hz _ _⟩
    · exact ⟨_, List.mem_of_getElem? (i := 0) rfl, mem_piece 15 z hz _ _⟩

section
variable (i : grid0.Coords)
  (a6 : Memref sig .tc .vmem S1x2048x512 .bf16) (ha6 : a6.IsWhole) (a7 : Memref sig .tc .vmem S1x2048x512 .bf16) (ha7 : a7.IsWhole)
  (a8 : Memref sig .tc .vmem S1x512x2048 .bf16) (ha8 : a8.IsWhole) (a9 : Memref sig .tc .vmem S1x2048x512 .bf16) (ha9 : a9.IsWhole)
  (a10 : Memref sig .tc .vmem S1x2048x512 .bf16) (ha10 : a10.IsWhole) (a11 : Memref sig .tc .vmem S1x512x2048 .bf16) (ha11 : a11.IsWhole)
  (a12 : Memref sig .tc .vmem S2048x128 .bf16) (ha12 : a12.IsWhole) (a13 : Memref sig .tc .vmem S1x128 .f32) (ha13 : a13.IsWhole)
  (a14 : Memref sig .tc .vmem S4096x128 .f32) (ha14 : a14.IsWhole)

/-- The steps of a tile's product, on the arrays of the launch. -/
abbrev tile := tileProg (F := F) i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _)
  a6 ha6 a7 ha7 a8 ha8 a9 ha9 a10 ha10 a11 ha11 a12 ha12 a13 ha13 a14 ha14 (Memref.whole cc0_scratch0) (Memref.isWhole_whole _) cc0_scratch1

/-- The word of a tile in a table of tiles. -/
def tword (T : S72.Idx → BitVec 32) (i : grid0.Coords) : BitVec 32 := T (ix1 (i 0))

/-- Slot `p` of the scratch. -/
def slotm (p : Fin 2) : Memref sig .tc .vmem S1x4096x128 .f32 :=
  (Memref.whole cc0_scratch0 : Memref sig .tc .vmem S2x4096x128 .f32).slice (Rect.unit (s := S2x4096x128) ![p.val, 0, 0] S1x4096x128.size (slot_inb p)) (fun _ => rfl)

theorem slotm_set (p : Fin 2) : (slotm p).view.set = sset p := by
  refine Finset.ext fun (y : S2x4096x128.Idx) => Iff.trans ?_ (mem_sset (p := p) (y := y)).symm
  constructor
  · intro hy
    obtain ⟨x, -, hxy⟩ := Finset.mem_map.mp hy
    have h0 : (x 0).val < 1 := (x 0).isLt
    have e : (y 0).val = p.val + 1 * (x 0).val := by rw [← hxy]; rfl
    omega
  · intro hy
    have h1 : (y 1).val < 4096 := (y 1).isLt
    have h2 : (y 2).val < 128 := (y 2).isLt
    refine Finset.mem_map.mpr ⟨ix3 ⟨0, by decide⟩ ⟨(y 1).val, h1⟩ ⟨(y 2).val, h2⟩, Finset.mem_univ _, ?_⟩
    funext a
    apply Fin.ext
    fin_cases a
    · show p.val + 1 * 0 = (y 0).val; omega
    · show 0 + 1 * (y 1).val = (y 1).val; omega
    · show 0 + 1 * (y 2).val = (y 2).val; omega

theorem slotPt_eq (p : Fin 2) (q : PosShare TreeShare) (f : S2x4096x128.Idx → Elt F .f32) :
    ((slotm p).view.loc (c : Thread nD τ) ↦[(slotm p).view.set]{q} f : sProp 𝕄) = ((Memref.whole cc0_scratch0).view.loc (c : Thread nD τ) ↦[sset p]{q} f) := by
  rw [slotm_set]; rfl

/-- The rows at place `j` of every group of sixteen, of slot `p`, lie in the slot. -/
theorem load_sub {p : Fin 2} {off : Fin 3 → ℕ} (j : ℕ) (ho : off = ![p.val, j, 0]) (inb : ∀ a, S1x256x128.size a = 0 ∨ off a + (![1, 16, 1] : Fin 3 → Nat) a * (S1x256x128.size a - 1) < S2x4096x128.size a) :
    (Memref.whole cc0_scratch0 : Memref sig .tc .vmem S2x4096x128 .f32).view.setOn (⟨off, S1x256x128.size, ![1, 16, 1], inb⟩ : LoadRect S2x4096x128).set ⊆ (slotm p).view.set := by
  intro (y : S2x4096x128.Idx) hy
  subst ho
  rw [slotm_set]
  refine (mem_sset (p := p) (y := y)).mpr ?_
  have hy' : y ∈ (⟨![p.val, j, 0], S1x256x128.size, ![1, 16, 1], inb⟩ : LoadRect S2x4096x128).set := by
    obtain ⟨x, hx, hxy⟩ := Finset.mem_map.mp hy
    exact hxy ▸ hx
  rw [LoadRect.mem_set] at hy'
  obtain ⟨k, hk, e⟩ := hy' 0
  have hk' : k < 1 := hk
  have e' : (y 0).val = p.val + 1 * k := e
  omega

set_option maxHeartbeats 8000000 in
theorem tile_run {𝒱 : Variants} {bd : Option 𝒱.V} {α : Type} {kk : Unit → Prog (TpuEff nD τ sig (Elt F) Λ₀ .tc) α} {Q : α → sProp 𝕄}
    (q qa qb : PosShare TreeShare) (wd : Fin 256 → Fin 12288) (H : S196608x128.Idx → Elt F .f32) (ta tb : S72.Idx → BitVec 32)
    (x6 x7 : Vec F S1x2048x512 .bf16) (x8 : Vec F S1x512x2048 .bf16) (x9 x10 : Vec F S1x2048x512 .bf16) (x11 : Vec F S1x512x2048 .bf16)
    (x12 : Vec F S2048x128 .bf16) (x13 : Vec F S1x128 .f32) {W : Waits sig Unit} :
    iprop(busy c (slot (i 0).val) q wd H ∗ owes (c : Thread nD τ) 0 W ∗ ((Memref.whole main_arg0).view.loc (c : Thread nD τ) ↦{qa} ta) ∗ ((Memref.whole main_arg1).view.loc (c : Thread nD τ) ↦{qb} tb)
        ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11
        ∗ owns (c : Thread nD τ) a12 fullShare x12 ∗ owns (c : Thread nD τ) a13 fullShare x13 ∗ (∃ d, owns (c : Thread nD τ) a14 fullShare d))
      ⊢ iprop((iprop(idle c (slot (i 0).val) q H ∗ owes (c : Thread nD τ) 0 (insert (SemLoc.dma (cellS (slot (i 0).val)), ()) W) ∗ ((Memref.whole main_arg0).view.loc (c : Thread nD τ) ↦{qa} ta) ∗ ((Memref.whole main_arg1).view.loc (c : Thread nD τ) ↦{qb} tb)
        ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11
        ∗ owns (c : Thread nD τ) a12 fullShare x12 ∗ owns (c : Thread nD τ) a13 fullShare x13 ∗ owns (c : Thread nD τ) a14 fullShare (spread (tileY wd H (tword ta i) (tword tb i) x6 x7 x8 x9 x10 x11 x12 x13)))
          -∗ wp frame (wpE defs₀ 𝒱 (c : Thread nD τ) bd) Set.univ (kk ⟨⟩) Q)
        -∗ wp frame (wpE defs₀ 𝒱 (c : Thread nD τ) bd) Set.univ (tile i a6 ha6 a7 ha7 a8 ha8 a9 ha9 a10 ha10 a11 ha11 a12 ha12 a13 ha13 a14 ha14 >>= kk) Q) := by
  unfold owns
  iintro ⟨HB, HO, Ta, Tb, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%x14, %f14, %hf14, H14⟩⟩ HK
  obtain rfl := ha6.eq_unread hf6
  obtain rfl := ha7.eq_unread hf7
  obtain rfl := ha8.eq_unread hf8
  obtain rfl := ha9.eq_unread hf9
  obtain rfl := ha10.eq_unread hf10
  obtain rfl := ha11.eq_unread hf11
  obtain rfl := ha12.eq_unread hf12
  obtain rfl := ha13.eq_unread hf13
  obtain rfl := ha14.eq_unread hf14
  have hw0 : ∀ inb h, (View.readAt (Elt F) (Memref.whole main_arg0).view (Rect.unit (s := S72) (k0_off27 i) S1.size inb) ta) (Shape.Idx.first h) = tword ta i := by
    intro inb h
    show ta _ = _
    unfold tword
    congr 1
    funext a
    apply Fin.ext
    fin_cases a
    show (k0_off27 i) 0 + 0 = (i 0).val
    rw [off27_eq]; rfl
  have hw1 : ∀ inb h, (View.readAt (Elt F) (Memref.whole main_arg1).view (Rect.unit (s := S72) (k0_off27 i) S1.size inb) tb) (Shape.Idx.first h) = tword tb i := by
    intro inb h
    show tb _ = _
    unfold tword
    congr 1
    funext a
    apply Fin.ext
    fin_cases a
    show (k0_off27 i) 0 + 0 = (i 0).val
    rw [off27_eq]; rfl
  unfold tile tileProg
  rw [k0_part1_eq_skeleton, k0_part2_eq_skeleton, k0_part3_eq_skeleton, k0_part4_eq_skeleton, k0_part5_eq_skeleton]
  unfold k0_part1_skel
  sl_exec
  iapply (drain c (slot (i 0).val) q wd H (cellS_eq (p := slot (i 0).val) (off9_eq i) _) rfl) $$ [HB HO]
  · isplitl [HB]; · iexact HB
    iexact HO
  rw [← slotPt_eq]
  iintro ⟨HS, HH, Hv, HO⟩
  have l0 := load_sub (p := slot (i 0).val) 0 (off11_eq i) (k0_off11_inb i)
  have l1 := load_sub (p := slot (i 0).val) 1 (off12_eq i) (k0_off12_inb i)
  have l2 := load_sub (p := slot (i 0).val) 2 (off13_eq i) (k0_off13_inb i)
  have l3 := load_sub (p := slot (i 0).val) 3 (off14_eq i) (k0_off14_inb i)
  have l4 := load_sub (p := slot (i 0).val) 4 (off15_eq i) (k0_off15_inb i)
  have l5 := load_sub (p := slot (i 0).val) 5 (off16_eq i) (k0_off16_inb i)
  have l6 := load_sub (p := slot (i 0).val) 6 (off17_eq i) (k0_off17_inb i)
  have l7 := load_sub (p := slot (i 0).val) 7 (off18_eq i) (k0_off18_inb i)
  have l8 := load_sub (p := slot (i 0).val) 8 (off19_eq i) (k0_off19_inb i)
  have l9 := load_sub (p := slot (i 0).val) 9 (off20_eq i) (k0_off20_inb i)
  have l10 := load_sub (p := slot (i 0).val) 10 (off21_eq i) (k0_off21_inb i)
  have l11 := load_sub (p := slot (i 0).val) 11 (off22_eq i) (k0_off22_inb i)
  have l12 := load_sub (p := slot (i 0).val) 12 (off23_eq i) (k0_off23_inb i)
  have l13 := load_sub (p := slot (i 0).val) 13 (off24_eq i) (k0_off24_inb i)
  have l14 := load_sub (p := slot (i 0).val) 14 (off25_eq i) (k0_off25_inb i)
  have l15 := load_sub (p := slot (i 0).val) 15 (off26_eq i) (k0_off26_inb i)
  unfold slotm at l0 l1 l2 l3 l4 l5 l6 l7 l8 l9 l10 l11 l12 l13 l14 l15 ⊢
  sl_exec
  have r6 := View.readAt_full a6.view (ha6.unread x6) (off := ![0, 0, 0]) inb_S1x2048x512_S1x2048x512_0_0_0
  have r7 := View.readAt_full a7.view (ha7.unread x7) (off := ![0, 0, 0]) inb_S1x2048x512_S1x2048x512_0_0_0
  have r8 := View.readAt_full a8.view (ha8.unread x8) (off := ![0, 0, 0]) inb_S1x512x2048_S1x512x2048_0_0_0
  have r9 := View.readAt_full a9.view (ha9.unread x9) (off := ![0, 0, 0]) inb_S1x2048x512_S1x2048x512_0_0_0
  have r10 := View.readAt_full a10.view (ha10.unread x10) (off := ![0, 0, 0]) inb_S1x2048x512_S1x2048x512_0_0_0
  have r11 := View.readAt_full a11.view (ha11.unread x11) (off := ![0, 0, 0]) inb_S1x512x2048_S1x512x2048_0_0_0
  have r12 := View.readAt_full a12.view (ha12.unread x12) (off := ![0, 0]) inb_S2048x128_S2048x128_0_0
  have r13 := View.readAt_full a13.view (ha13.unread x13) (off := ![0, 0]) inb_S1x128_S1x128_0_0
  rw [ha6.read_unread] at r6
  rw [ha7.read_unread] at r7
  rw [ha8.read_unread] at r8
  rw [ha9.read_unread] at r9
  rw [ha10.read_unread] at r10
  rw [ha11.read_unread] at r11
  rw [ha12.read_unread] at r12
  rw [ha13.read_unread] at r13
  have g0 := gath_eq (F := F) (p := slot (i 0).val) (⟨0, by decide⟩ : Fin 16) (off11_eq i) (k0_off11_inb i) wd H
  have g1 := gath_eq (F := F) (p := slot (i 0).val) (⟨1, by decide⟩ : Fin 16) (off12_eq i) (k0_off12_inb i) wd H
  have g2 := gath_eq (F := F) (p := slot (i 0).val) (⟨2, by decide⟩ : Fin 16) (off13_eq i) (k0_off13_inb i) wd H
  have g3 := gath_eq (F := F) (p := slot (i 0).val) (⟨3, by decide⟩ : Fin 16) (off14_eq i) (k0_off14_inb i) wd H
  have g4 := gath_eq (F := F) (p := slot (i 0).val) (⟨4, by decide⟩ : Fin 16) (off15_eq i) (k0_off15_inb i) wd H
  have g5 := gath_eq (F := F) (p := slot (i 0).val) (⟨5, by decide⟩ : Fin 16) (off16_eq i) (k0_off16_inb i) wd H
  have g6 := gath_eq (F := F) (p := slot (i 0).val) (⟨6, by decide⟩ : Fin 16) (off17_eq i) (k0_off17_inb i) wd H
  have g7 := gath_eq (F := F) (p := slot (i 0).val) (⟨7, by decide⟩ : Fin 16) (off18_eq i) (k0_off18_inb i) wd H
  have g8 := gath_eq (F := F) (p := slot (i 0).val) (⟨8, by decide⟩ : Fin 16) (off19_eq i) (k0_off19_inb i) wd H
  have g9 := gath_eq (F := F) (p := slot (i 0).val) (⟨9, by decide⟩ : Fin 16) (off20_eq i) (k0_off20_inb i) wd H
  have g10 := gath_eq (F := F) (p := slot (i 0).val) (⟨10, by decide⟩ : Fin 16) (off21_eq i) (k0_off21_inb i) wd H
  have g11 := gath_eq (F := F) (p := slot (i 0).val) (⟨11, by decide⟩ : Fin 16) (off22_eq i) (k0_off22_inb i) wd H
  have g12 := gath_eq (F := F) (p := slot (i 0).val) (⟨12, by decide⟩ : Fin 16) (off23_eq i) (k0_off23_inb i) wd H
  have g13 := gath_eq (F := F) (p := slot (i 0).val) (⟨13, by decide⟩ : Fin 16) (off24_eq i) (k0_off24_inb i) wd H
  have g14 := gath_eq (F := F) (p := slot (i 0).val) (⟨14, by decide⟩ : Fin 16) (off25_eq i) (k0_off25_inb i) wd H
  have g15 := gath_eq (F := F) (p := slot (i 0).val) (⟨15, by decide⟩ : Fin 16) (off26_eq i) (k0_off26_inb i) wd H
  sl_unfold_run_names
  iapply HK
  isplitl [HS Hv HH]
  · unfold idle
    isplitl [Hv]; · iexact Hv
    isplitl [HS]; · iexists (landed wd H); iapply (show _ ⊢ _ from (BIBase.BiEntails.of_eq (slotPt_eq c (slot (i 0).val) fullShare (landed wd H))).1); iexact HS
    iexact HH
  isplitl [HO]; · iexact HO
  isplitl [Ta]; · iexact Ta
  isplitl [Tb]; · iexact Tb
  isplitl [H6]; · iexists _; isplitr; · ipureintro; exact ha6.read_unread _
                  iexact H6
  isplitl [H7]; · iexists _; isplitr; · ipureintro; exact ha7.read_unread _
                  iexact H7
  isplitl [H8]; · iexists _; isplitr; · ipureintro; exact ha8.read_unread _
                  iexact H8
  isplitl [H9]; · iexists _; isplitr; · ipureintro; exact ha9.read_unread _
                  iexact H9
  isplitl [H10]; · iexists _; isplitr; · ipureintro; exact ha10.read_unread _
                   iexact H10
  isplitl [H11]; · iexists _; isplitr; · ipureintro; exact ha11.read_unread _
                   iexact H11
  isplitl [H12]; · iexists _; isplitr; · ipureintro; exact ha12.read_unread _
                   iexact H12
  isplitl [H13]; · iexists _; isplitr; · ipureintro; exact ha13.read_unread _
                   iexact H13
  iexists _
  isplitr
  swap
  · iexact H14
  ipureintro
  simp only [hw0, hw1, r6, r7, r8, r9, r10, r11, r12, r13, g0, g1, g2, g3, g4, g5, g6, g7, g8, g9, g10, g11, g12, g13, g14, g15]
  refine spread_all a14.view (ha14.unread x14) (tileY wd H (tword ta i) (tword tb i) x6 x7 x8 x9 x10 x11 x12 x13) _ _ _ _ _ _ _ _ _ _ _ _ _ _ _ _ ?_ ?_ ?_ ?_ ?_ ?_ ?_ ?_ ?_ ?_ ?_ ?_ ?_ ?_ ?_ ?_ <;> rfl

end

end Cert.MoeIdeal.Hand
-- ==== Proof.MoeBody.lean ====
/- The whole body of the grouped products' kernel at a grid point. -/
module

public import proofs.«01_k».proof.Proof.MoeTile

@[expose] public section

set_option maxRecDepth 8192

noncomputable section

namespace Cert.MoeIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation cellOf)
open Cert.MoeIdeal Cert.MoeIdeal.Gen

variable {F : FTy → Type} [FloatOps F]

local notation "𝕄" => MT nD τ sig Unit (Elt F) ℕ (Pipeline.UD sig nD τ) ℕ

variable (c : Dev nD)

/-! ## The conditions -/

theorem ne_ext (b : BitVec 1) : Scalar.cmpi .ne (Scalar.extui b : BitVec 32) 0#32 = b := by
  revert b; decide

theorem cond1_iff : ∀ i : grid0.Coords, k0_cond1 i = 1#1 ↔ (i 0).val = 0 := by decide +kernel

theorem slt_iff (a b : BitVec 32) (ha : a.toNat < 2 ^ 31) (hb : b.toNat < 2 ^ 31) : Scalar.cmpi .slt a b = 1#1 ↔ a.toNat < b.toNat := by
  show BitVec.ofBool (BitVec.slt a b) = 1#1 ↔ _
  have h : BitVec.slt a b = decide (a.toNat < b.toNat) := by
    rw [BitVec.slt_eq_decide, BitVec.toInt_eq_toNat_of_lt (by omega), BitVec.toInt_eq_toNat_of_lt (by omega)]
    simp
  rw [h]
  by_cases hh : a.toNat < b.toNat <;> simp [hh]

theorem sge_iff (a b : BitVec 32) (ha : a.toNat < 2 ^ 31) (hb : b.toNat < 2 ^ 31) : Scalar.cmpi .sge a b = 1#1 ↔ b.toNat ≤ a.toNat := by
  show BitVec.ofBool (BitVec.sle b a) = 1#1 ↔ _
  have h : BitVec.sle b a = decide (b.toNat ≤ a.toNat) := by
    rw [BitVec.sle_eq_decide, BitVec.toInt_eq_toNat_of_lt (by omega), BitVec.toInt_eq_toNat_of_lt (by omega)]
    simp
  rw [h]
  by_cases hh : b.toNat ≤ a.toNat <;> simp [hh]

theorem point_lt (i : grid0.Coords) : (i 0).val < 72 := (i 0).isLt

theorem point_word (i : grid0.Coords) : (BitVec.ofNat 32 (i 0).val).toNat = (i 0).val := by
  have := point_lt i
  rw [BitVec.toNat_ofNat]
  omega

theorem cond2_iff (i : grid0.Coords) (v : BitVec 32) (hv : v.toNat ≤ 72) : k0_cond2 i v = 1#1 ↔ (i 0).val + 1 < v.toNat := by
  have := point_lt i
  have e : (Scalar.addi (BitVec.ofNat 32 (i 0).val) 1#32).toNat = (i 0).val + 1 := by
    show (BitVec.ofNat 32 (i 0).val + 1#32).toNat = _
    rw [BitVec.toNat_add, point_word]
    show ((i 0).val + 1) % 2 ^ 32 = _
    omega
  show Scalar.cmpi .ne (Scalar.extui (Scalar.cmpi .slt (Scalar.addi (BitVec.ofNat 32 (i 0).val) 1#32) v) : BitVec 32) 0#32 = 1#1 ↔ _
  rw [ne_ext, slt_iff _ _ (by omega) (by omega), e]

theorem cond3_iff (i : grid0.Coords) (v : BitVec 32) (hv : v.toNat ≤ 72) : k0_cond3 i v = 1#1 ↔ v.toNat ≤ (i 0).val := by
  have := point_lt i
  have e := point_word i
  show Scalar.cmpi .ne (Scalar.extui (Scalar.cmpi .sge (BitVec.ofNat 32 (i 0).val) v) : BitVec 32) 0#32 = 1#1 ↔ _
  rw [ne_ext, sge_iff _ _ (by omega) (by omega), e]

theorem cond4_iff (i : grid0.Coords) (v : BitVec 32) (hv : v.toNat ≤ 72) : k0_cond4 i v = 1#1 ↔ (i 0).val < v.toNat := by
  have := point_lt i
  have e := point_word i
  show Scalar.cmpi .ne (Scalar.extui (Scalar.cmpi .slt (BitVec.ofNat 32 (i 0).val) v) : BitVec 32) 0#32 = 1#1 ↔ _
  rw [ne_ext, slt_iff _ _ (by omega) (by omega), e]

theorem chk2_ok (i : grid0.Coords) (v : BitVec 32) (hv : v.toNat ≤ 72) : k0_chk2 i v := by
  intro k h a
  have h2 := (cond2_iff i v hv).mp h
  have hk : k.val < 256 := lt_of_lt_of_eq k.isLt trips2
  rw [off5_eq]
  fin_cases a
  show 256 * ((i 0).val + 1) + k.val + 1 ≤ 18432
  omega

/-! ## The slots between grid points -/

/-- The rows of tile `t` in the table of rows. -/
def wdOf (T : S18432.Idx → BitVec 32) (t : ℕ) : Fin 256 → Fin 12288 := fun k => ⟨(word T (256 * t + k.val)).toNat % 12288, Nat.mod_lt _ (by decide)⟩

/-- Slot `p` before point `t`, of `n` tiles: in flight with tile `t`'s rows if it is the tile's slot, else idle. -/
def st (qs : Fin 2 → PosShare TreeShare) (T : S18432.Idx → BitVec 32) (H : S196608x128.Idx → Elt F .f32) (n t : ℕ) (p : Fin 2) : sProp 𝕄 :=
  if t % 2 = p.val ∧ 1 ≤ t ∧ t < n then busy c p (qs p) (wdOf T t) H else idle c p (qs p) H

theorem st_other (qs : Fin 2 → PosShare TreeShare) (T : S18432.Idx → BitVec 32) (H : S196608x128.Idx → Elt F .f32) (n t : ℕ) :
    st c qs T H n t (slot (t + 1)) = idle c (slot (t + 1)) (qs (slot (t + 1))) H :=
  if_neg (by rintro ⟨h, -⟩; have h' : t % 2 = (t + 1) % 2 := h; omega)

theorem st_done (qs : Fin 2 → PosShare TreeShare) (T : S18432.Idx → BitVec 32) (H : S196608x128.Idx → Elt F .f32) (n t : ℕ) :
    st c qs T H n (t + 1) (slot t) = idle c (slot t) (qs (slot t)) H :=
  if_neg (by rintro ⟨h, -⟩; have h' : (t + 1) % 2 = t % 2 := h; omega)

theorem st_busy (qs : Fin 2 → PosShare TreeShare) (T : S18432.Idx → BitVec 32) (H : S196608x128.Idx → Elt F .f32) (n t : ℕ) (h1 : 1 ≤ t) (h2 : t < n) :
    st c qs T H n t (slot t) = busy c (slot t) (qs (slot t)) (wdOf T t) H :=
  if_pos ⟨rfl, h1, h2⟩

theorem st_idle (qs : Fin 2 → PosShare TreeShare) (T : S18432.Idx → BitVec 32) (H : S196608x128.Idx → Elt F .f32) (n t : ℕ) (p : Fin 2) (h : ¬ (1 ≤ t ∧ t < n)) :
    st c qs T H n t p = idle c p (qs p) H :=
  if_neg (fun h' => h h'.2)

section
variable (i : grid0.Coords) (arg1 : Memref sig .tc .smem S72 .i32) (harg1 : arg1.IsWhole) (arg2 : Memref sig .tc .smem S72 .i32) (harg2 : arg2.IsWhole) (arg3 : Memref sig .tc .smem S1 .i32) (harg3 : arg3.IsWhole) (arg4 : Memref sig .tc .smem S18432 .i32) (harg4 : arg4.IsWhole) (arg5 : Memref sig .tc .hbm S196608x128 .f32) (harg5 : arg5.IsWhole) (arg6 : Memref sig .tc .vmem S1x2048x512 .bf16) (harg6 : arg6.IsWhole) (arg7 : Memref sig .tc .vmem S1x2048x512 .bf16) (harg7 : arg7.IsWhole) (arg8 : Memref sig .tc .vmem S1x512x2048 .bf16) (harg8 : arg8.IsWhole) (arg9 : Memref sig .tc .vmem S1x2048x512 .bf16) (harg9 : arg9.IsWhole) (arg10 : Memref sig .tc .vmem S1x2048x512 .bf16) (harg10 : arg10.IsWhole) (arg11 : Memref sig .tc .vmem S1x512x2048 .bf16) (harg11 : arg11.IsWhole) (arg12 : Memref sig .tc .vmem S2048x128 .bf16) (harg12 : arg12.IsWhole) (arg13 : Memref sig .tc .vmem S1x128 .f32) (harg13 : arg13.IsWhole) (arg14 : Memref sig .tc .vmem S4096x128 .f32) (harg14 : arg14.IsWhole) (arg15 : Memref sig .tc .vmem S2x4096x128 .f32) (harg15 : arg15.IsWhole) (arg16 : DmaSems sig S2)

/-- The body, its last branch a parameter. -/
def moeProg (P : Prog (TpuEff nD τ sig (Elt F) Λ₀ .tc) PUnit) : Prog (TpuEff nD τ sig (Elt F) Λ₀ .tc) PUnit := do
  let arg0 : BitVec 32 := BitVec.ofNat 32 (i 0).val
  let v0 : Elt F .i32 ← smemLoad arg3 (Rect.unit (s := S1) ![0] S1.size inb_S1_S1_0) numel1_S1 rfl
  have k0_hw2 : k0_chk2 i v0 := (← Prog.lift (TpuEff.assume (k0_chk2 i v0) (k0_chk2.dec i v0))).down
  if k0_h1 : k0_cond1 i = 1#1 then do
    Scf.Loop.for k0_t1_loop (k0_t1_ok i k0_h1) ⟨⟩ (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1)
    pure ⟨⟩
  else do
    pure ⟨⟩
  if k0_h2 : k0_cond2 i v0 = 1#1 then do
    Scf.Loop.for k0_t2_loop k0_t2_ok ⟨⟩ (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v0 k0_hw2 k0_h2)
    pure ⟨⟩
  else do
    pure ⟨⟩
  if k0_h3 : k0_cond3 i v0 = 1#1 then do
    let v15 : Vec F S4096x128 .f32 ← Prog.lift (.load arg14 (Rect.unit (s := S4096x128) ![0, 0] S4096x128.size inb_S4096x128_S4096x128_0_0).toLoadRect (View.loadsAt_vmem h_S4096x128))
    Prog.lift (.store arg14 (Rect.unit (s := S4096x128) ![0, 0] S4096x128.size inb_S4096x128_S4096x128_0_0) (k0_pay1 (F := F)) Finset.univ (View.stores_vmem_bits_univ h_S4096x128 rfl) (.inl rfl))
    pure ⟨⟩
  else do
    pure ⟨⟩
  if k0_h4 : k0_cond4 i v0 = 1#1 then P
  else do
    pure ⟨⟩
  pure ⟨⟩

end

set_option maxRecDepth 65536 in
theorem moeProg_eq (i : grid0.Coords) (arg1 : Memref sig .tc .smem S72 .i32) (harg1 : arg1.IsWhole) (arg2 : Memref sig .tc .smem S72 .i32) (harg2 : arg2.IsWhole) (arg3 : Memref sig .tc .smem S1 .i32) (harg3 : arg3.IsWhole) (arg4 : Memref sig .tc .smem S18432 .i32) (harg4 : arg4.IsWhole) (arg5 : Memref sig .tc .hbm S196608x128 .f32) (harg5 : arg5.IsWhole) (arg6 : Memref sig .tc .vmem S1x2048x512 .bf16) (harg6 : arg6.IsWhole) (arg7 : Memref sig .tc .vmem S1x2048x512 .bf16) (harg7 : arg7.IsWhole) (arg8 : Memref sig .tc .vmem S1x512x2048 .bf16) (harg8 : arg8.IsWhole) (arg9 : Memref sig .tc .vmem S1x2048x512 .bf16) (harg9 : arg9.IsWhole) (arg10 : Memref sig .tc .vmem S1x2048x512 .bf16) (harg10 : arg10.IsWhole) (arg11 : Memref sig .tc .vmem S1x512x2048 .bf16) (harg11 : arg11.IsWhole) (arg12 : Memref sig .tc .vmem S2048x128 .bf16) (harg12 : arg12.IsWhole) (arg13 : Memref sig .tc .vmem S1x128 .f32) (harg13 : arg13.IsWhole) (arg14 : Memref sig .tc .vmem S4096x128 .f32) (harg14 : arg14.IsWhole) (arg15 : Memref sig .tc .vmem S2x4096x128 .f32) (harg15 : arg15.IsWhole) (arg16 : DmaSems sig S2) :
    cc0_moe (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 = moeProg (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 (tileProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16) := rfl

section
variable (i : grid0.Coords)
  (a6 : Memref sig .tc .vmem S1x2048x512 .bf16) (ha6 : a6.IsWhole) (a7 : Memref sig .tc .vmem S1x2048x512 .bf16) (ha7 : a7.IsWhole)
  (a8 : Memref sig .tc .vmem S1x512x2048 .bf16) (ha8 : a8.IsWhole) (a9 : Memref sig .tc .vmem S1x2048x512 .bf16) (ha9 : a9.IsWhole)
  (a10 : Memref sig .tc .vmem S1x2048x512 .bf16) (ha10 : a10.IsWhole) (a11 : Memref sig .tc .vmem S1x512x2048 .bf16) (ha11 : a11.IsWhole)
  (a12 : Memref sig .tc .vmem S2048x128 .bf16) (ha12 : a12.IsWhole) (a13 : Memref sig .tc .vmem S1x128 .f32) (ha13 : a13.IsWhole)
  (a14 : Memref sig .tc .vmem S4096x128 .f32) (ha14 : a14.IsWhole)

/-- The body, on the arrays of the launch. -/
abbrev bodyOf := cc0_moe (F := F) i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _)
  a6 ha6 a7 ha7 a8 ha8 a9 ha9 a10 ha10 a11 ha11 a12 ha12 a13 ha13 a14 ha14 (Memref.whole cc0_scratch0) (Memref.isWhole_whole _) cc0_scratch1

/-- What the body leaves in the output's block. -/
def bodyOut (ta tb : S72.Idx → BitVec 32) (tn : S1.Idx → BitVec 32) (ts : S18432.Idx → BitVec 32) (H : S196608x128.Idx → Elt F .f32) (i : grid0.Coords)
    (x6 x7 : Vec F S1x2048x512 .bf16) (x8 : Vec F S1x512x2048 .bf16) (x9 x10 : Vec F S1x2048x512 .bf16) (x11 : Vec F S1x512x2048 .bf16)
    (x12 : Vec F S2048x128 .bf16) (x13 : Vec F S1x128 .f32) : Vec F S4096x128 .f32 :=
  if (i 0).val < (tn (ix1 0)).toNat then spread (tileY (wdOf ts (i 0).val) H (tword ta i) (tword tb i) x6 x7 x8 x9 x10 x11 x12 x13) else k0_pay1

set_option maxHeartbeats 1000000 in
/-- The body at a point, given the run of the tile's product. -/
theorem body_core {𝒱 : Variants} {bd : Option 𝒱.V} (qs : Fin 2 → PosShare TreeShare) (qt : Fin 4 → PosShare TreeShare)
    (ta tb : S72.Idx → BitVec 32) (tn : S1.Idx → BitVec 32) (ts : S18432.Idx → BitVec 32) (H : S196608x128.Idx → Elt F .f32)
    (hn : 1 ≤ (tn (ix1 0)).toNat ∧ (tn (ix1 0)).toNat ≤ 72) (hs : ∀ j, (word ts j).toNat < 12288)
    (OW : sProp 𝕄) (y : Vec F S4096x128 .f32) (P : Prog (TpuEff nD τ sig (Elt F) Λ₀ .tc) PUnit) {W : Waits sig Unit} {K : PUnit → sProp 𝕄}
    (hP : ∀ (kk : PUnit → Prog (TpuEff nD τ sig (Elt F) Λ₀ .tc) PUnit) (W : Waits sig Unit),
      iprop(busy c (slot (i 0).val) (qs (slot (i 0).val)) (wdOf ts (i 0).val) H ∗ owes (c : Thread nD τ) 0 W ∗ ((Memref.whole main_arg0).view.loc (c : Thread nD τ) ↦{qt 0} ta) ∗ ((Memref.whole main_arg1).view.loc (c : Thread nD τ) ↦{qt 1} tb) ∗ OW ∗ (∃ d, owns (c : Thread nD τ) a14 fullShare d))
        ⊢ iprop((iprop(idle c (slot (i 0).val) (qs (slot (i 0).val)) H ∗ owes (c : Thread nD τ) 0 (insert (SemLoc.dma (cellS (slot (i 0).val)), ()) W) ∗ ((Memref.whole main_arg0).view.loc (c : Thread nD τ) ↦{qt 0} ta) ∗ ((Memref.whole main_arg1).view.loc (c : Thread nD τ) ↦{qt 1} tb) ∗ OW ∗ owns (c : Thread nD τ) a14 fullShare y)
            -∗ wp frame (wpE defs₀ 𝒱 (c : Thread nD τ) bd) Set.univ (kk ⟨⟩) K)
          -∗ wp frame (wpE defs₀ 𝒱 (c : Thread nD τ) bd) Set.univ (P >>= kk) K)) :
    iprop(st c qs ts H (tn (ix1 0)).toNat (i 0).val (slot (i 0).val) ∗ st c qs ts H (tn (ix1 0)).toNat (i 0).val (slot ((i 0).val + 1)) ∗ owes (c : Thread nD τ) 0 W
        ∗ ((Memref.whole main_arg0).view.loc (c : Thread nD τ) ↦{qt 0} ta) ∗ ((Memref.whole main_arg1).view.loc (c : Thread nD τ) ↦{qt 1} tb)
        ∗ ((Memref.whole main_arg2).view.loc (c : Thread nD τ) ↦{qt 2} tn) ∗ ((Memref.whole main_arg3).view.loc (c : Thread nD τ) ↦{qt 3} ts)
        ∗ OW ∗ (∃ d, owns (c : Thread nD τ) a14 fullShare d)
        ∗ (iprop(st c qs ts H (tn (ix1 0)).toNat ((i 0).val + 1) (slot (i 0).val) ∗ st c qs ts H (tn (ix1 0)).toNat ((i 0).val + 1) (slot ((i 0).val + 1)) ∗ (∃ W', owes (c : Thread nD τ) 0 W')
        ∗ ((Memref.whole main_arg0).view.loc (c : Thread nD τ) ↦{qt 0} ta) ∗ ((Memref.whole main_arg1).view.loc (c : Thread nD τ) ↦{qt 1} tb)
        ∗ ((Memref.whole main_arg2).view.loc (c : Thread nD τ) ↦{qt 2} tn) ∗ ((Memref.whole main_arg3).view.loc (c : Thread nD τ) ↦{qt 3} ts)
        ∗ OW ∗ owns (c : Thread nD τ) a14 fullShare (if (i 0).val < (tn (ix1 0)).toNat then y else k0_pay1)) -∗ K ⟨⟩))
      ⊢ wp frame (wpE defs₀ 𝒱 (c : Thread nD τ) bd) Set.univ (moeProg i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) a6 ha6 a7 ha7 a8 ha8 a9 ha9 a10 ha10 a11 ha11 a12 ha12 a13 ha13 a14 ha14 (Memref.whole cc0_scratch0) (Memref.isWhole_whole _) cc0_scratch1 P) K := by
  unfold moeProg
  have hwn : ∀ inb h, (View.readAt (Elt F) (Memref.whole main_arg2).view (Rect.unit (s := S1) ![0] S1.size inb) tn) (Shape.Idx.first h) = tn (ix1 0) := by
    intro inb h
    show tn _ = _
    congr 1
    funext a
    apply Fin.ext
    fin_cases a
    rfl
  have hi := point_lt i
  have hT1 : ∀ k : Fin 256, (word ts k.val).toNat = (wdOf ts 0 k).val := by
    intro k
    show _ = (word ts (256 * 0 + k.val)).toNat % 12288
    rw [show 256 * 0 + k.val = k.val by omega, Nat.mod_eq_of_lt (hs _)]
  have hT2 : ∀ k : Fin 256, (word ts (256 * ((i 0).val + 1) + k.val)).toNat = (wdOf ts ((i 0).val + 1) k).val :=
    fun k => (Nat.mod_eq_of_lt (hs _)).symm
  by_cases ht : (i 0).val < (tn (ix1 0)).toNat
  · have h3 : ¬ (k0_cond3 i (tn (ix1 0)) = 1#1) := fun h => absurd ((cond3_iff i _ hn.2).mp h) (by omega)
    have h4 : k0_cond4 i (tn (ix1 0)) = 1#1 := (cond4_iff i _ hn.2).mpr ht
    rw [if_pos ht]
    by_cases h0 : (i 0).val = 0
    · have h1 : k0_cond1 i = 1#1 := (cond1_iff i).mpr h0
      have es : slot (i 0).val = 0 := by rw [h0]; rfl
      rw [st_other, show st c qs ts H (tn (ix1 0)).toNat (i 0).val (slot (i 0).val) = idle c 0 (qs 0) H from (st_idle c qs ts H _ _ _ (by omega)).trans (by rw [es])]
      iintro ⟨HA, HB, HO, Ta, Tb, Tn, Ts, HW, H14, HK⟩
      sl_exec
      sl_unfold_run_names
      rw [hwn]
      sl_exec (disch := first | exact chk2_ok i _ hn.2 | exact h1)
      iapply (loop1 c i a6 ha6 a7 ha7 a8 ha8 a9 ha9 a10 ha10 a11 ha11 a12 ha12 a13 ha13 a14 ha14 h1 (qs 0) (qt 3) (wdOf ts 0) H ts hT1) $$ [HA Ts]
      · isplitl [HA]; · iexact HA
        iexact Ts
      rw [show busy c 0 (qs 0) (wdOf ts 0) H = busy c (slot (i 0).val) (qs (slot (i 0).val)) (wdOf ts (i 0).val) H by rw [es, h0]]
      iintro ⟨HA, Ts⟩
      by_cases h2' : (i 0).val + 1 < (tn (ix1 0)).toNat
      · have h2 : k0_cond2 i (tn (ix1 0)) = 1#1 := (cond2_iff i _ hn.2).mpr h2'
        sl_exec (disch := first | exact h2)
        iapply (loop2 c i a6 ha6 a7 ha7 a8 ha8 a9 ha9 a10 ha10 a11 ha11 a12 ha12 a13 ha13 a14 ha14 (tn (ix1 0)) (chk2_ok i _ hn.2) h2 (qs (slot ((i 0).val + 1))) (qt 3) (wdOf ts ((i 0).val + 1)) H ts (by omega) hT2) $$ [HB Ts]
        · isplitl [HB]; · iexact HB
          iexact Ts
        iintro ⟨HB, Ts⟩
        sl_exec (disch := first | exact h2 | exact h3 | exact h4)
        iapply (hP _ _) $$ [HA HO Ta Tb HW H14]
        · isplitl [HA]; · iexact HA
          isplitl [HO]; · iexact HO
          isplitl [Ta]; · iexact Ta
          isplitl [Tb]; · iexact Tb
          isplitl [HW]; · iexact HW
          iexact H14
        iintro ⟨HA, HO, Ta, Tb, HW, H14⟩
        sl_step
        iapply HK
        rw [st_done]
        isplitl [HA]; · iexact HA
        isplitl [HB]; · rw [st_busy c qs ts H _ _ (by omega) h2']; iexact HB
        isplitl [HO]; · iexists _; iexact HO
        isplitl [Ta]; · iexact Ta
        isplitl [Tb]; · iexact Tb
        isplitl [Tn]; · iexact Tn
        isplitl [Ts]; · iexact Ts
        isplitl [HW]; · iexact HW
        iexact H14
      · have h2 : ¬ (k0_cond2 i (tn (ix1 0)) = 1#1) := fun h => h2' ((cond2_iff i _ hn.2).mp h)
        sl_exec (disch := first | exact h2 | exact h3 | exact h4)
        iapply (hP _ _) $$ [HA HO Ta Tb HW H14]
        · isplitl [HA]; · iexact HA
          isplitl [HO]; · iexact HO
          isplitl [Ta]; · iexact Ta
          isplitl [Tb]; · iexact Tb
          isplitl [HW]; · iexact HW
          iexact H14
        iintro ⟨HA, HO, Ta, Tb, HW, H14⟩
        sl_step
        iapply HK
        rw [st_done]
        isplitl [HA]; · iexact HA
        isplitl [HB]; · rw [st_idle c qs ts H _ _ _ (by omega)]; iexact HB
        isplitl [HO]; · iexists _; iexact HO
        isplitl [Ta]; · iexact Ta
        isplitl [Tb]; · iexact Tb
        isplitl [Tn]; · iexact Tn
        isplitl [Ts]; · iexact Ts
        isplitl [HW]; · iexact HW
        iexact H14
    · have h1 : ¬ (k0_cond1 i = 1#1) := fun h => h0 ((cond1_iff i).mp h)
      rw [st_other, st_busy c qs ts H _ _ (by omega) ht]
      iintro ⟨HA, HB, HO, Ta, Tb, Tn, Ts, HW, H14, HK⟩
      sl_exec
      sl_unfold_run_names
      rw [hwn]
      by_cases h2' : (i 0).val + 1 < (tn (ix1 0)).toNat
      · have h2 : k0_cond2 i (tn (ix1 0)) = 1#1 := (cond2_iff i _ hn.2).mpr h2'
        sl_exec (disch := first | exact chk2_ok i _ hn.2 | exact h1 | exact h2)
        iapply (loop2 c i a6 ha6 a7 ha7 a8 ha8 a9 ha9 a10 ha10 a11 ha11 a12 ha12 a13 ha13 a14 ha14 (tn (ix1 0)) (chk2_ok i _ hn.2) h2 (qs (slot ((i 0).val + 1))) (qt 3) (wdOf ts ((i 0).val + 1)) H ts (by omega) hT2) $$ [HB Ts]
        · isplitl [HB]; · iexact HB
          iexact Ts
        iintro ⟨HB, Ts⟩
        sl_exec (disch := first | exact chk2_ok i _ hn.2 | exact h1 | exact h2 | exact h3 | exact h4)
        iapply (hP _ _) $$ [HA HO Ta Tb HW H14]
        · isplitl [HA]; · iexact HA
          isplitl [HO]; · iexact HO
          isplitl [Ta]; · iexact Ta
          isplitl [Tb]; · iexact Tb
          isplitl [HW]; · iexact HW
          iexact H14
        iintro ⟨HA, HO, Ta, Tb, HW, H14⟩
        sl_step
        iapply HK
        rw [st_done]
        isplitl [HA]; · iexact HA
        isplitl [HB]; · rw [st_busy c qs ts H _ _ (by omega) h2']; iexact HB
        isplitl [HO]; · iexists _; iexact HO
        isplitl [Ta]; · iexact Ta
        isplitl [Tb]; · iexact Tb
        isplitl [Tn]; · iexact Tn
        isplitl [Ts]; · iexact Ts
        isplitl [HW]; · iexact HW
        iexact H14
      · have h2 : ¬ (k0_cond2 i (tn (ix1 0)) = 1#1) := fun h => h2' ((cond2_iff i _ hn.2).mp h)
        sl_exec (disch := first | exact chk2_ok i _ hn.2 | exact h1 | exact h2 | exact h3 | exact h4)
        iapply (hP _ _) $$ [HA HO Ta Tb HW H14]
        · isplitl [HA]; · iexact HA
          isplitl [HO]; · iexact HO
          isplitl [Ta]; · iexact Ta
          isplitl [Tb]; · iexact Tb
          isplitl [HW]; · iexact HW
          iexact H14
        iintro ⟨HA, HO, Ta, Tb, HW, H14⟩
        sl_step
        iapply HK
        rw [st_done]
        isplitl [HA]; · iexact HA
        isplitl [HB]; · rw [st_idle c qs ts H _ _ _ (by omega)]; iexact HB
        isplitl [HO]; · iexists _; iexact HO
        isplitl [Ta]; · iexact Ta
        isplitl [Tb]; · iexact Tb
        isplitl [Tn]; · iexact Tn
        isplitl [Ts]; · iexact Ts
        isplitl [HW]; · iexact HW
        iexact H14
  · have h0 : ¬ (i 0).val = 0 := by omega
    have h1 : ¬ (k0_cond1 i = 1#1) := fun h => h0 ((cond1_iff i).mp h)
    have h2 : ¬ (k0_cond2 i (tn (ix1 0)) = 1#1) := fun h => absurd ((cond2_iff i _ hn.2).mp h) (by omega)
    have h3 : k0_cond3 i (tn (ix1 0)) = 1#1 := (cond3_iff i _ hn.2).mpr (by omega)
    have h4 : ¬ (k0_cond4 i (tn (ix1 0)) = 1#1) := fun h => ht ((cond4_iff i _ hn.2).mp h)
    rw [st_other, st_idle c qs ts H _ _ _ (by omega), if_neg ht]
    unfold owns
    iintro ⟨HA, HB, HO, Ta, Tb, Tn, Ts, HW, ⟨%d14, %f14, %hf14, H14⟩, HK⟩
    sl_exec
    sl_unfold_run_names
    rw [hwn]
    sl_exec (disch := first | exact chk2_ok i _ hn.2 | exact h1 | exact h2 | exact h3 | exact h4)
    sl_step
    iapply HK
    rw [st_done]
    isplitl [HA]; · iexact HA
    isplitl [HB]; · rw [st_idle c qs ts H _ _ _ (by omega)]; iexact HB
    isplitl [HO]; · iexists _; iexact HO
    isplitl [Ta]; · iexact Ta
    isplitl [Tb]; · iexact Tb
    isplitl [Tn]; · iexact Tn
    isplitl [Ts]; · iexact Ts
    isplitl [HW]; · iexact HW
    iexists _
    isplitr
    swap
    · iexact H14
    ipureintro
    exact View.read_writes_full a14.view f14 (off := ![0, 0]) _ _ _

/-- The eight blocks the body reads. -/
def blocks (x6 x7 : Vec F S1x2048x512 .bf16) (x8 : Vec F S1x512x2048 .bf16) (x9 x10 : Vec F S1x2048x512 .bf16) (x11 : Vec F S1x512x2048 .bf16)
    (x12 : Vec F S2048x128 .bf16) (x13 : Vec F S1x128 .f32) : sProp 𝕄 := iprop(owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13)

/-- The body at a point: the slots move one point on, and the output's block is the tile's product, or zeros past the last tile. -/
theorem body_run {𝒱 : Variants} {bd : Option 𝒱.V} (qs : Fin 2 → PosShare TreeShare) (qt : Fin 4 → PosShare TreeShare)
    (ta tb : S72.Idx → BitVec 32) (tn : S1.Idx → BitVec 32) (ts : S18432.Idx → BitVec 32) (H : S196608x128.Idx → Elt F .f32)
    (hn : 1 ≤ (tn (ix1 0)).toNat ∧ (tn (ix1 0)).toNat ≤ 72) (hs : ∀ j, (word ts j).toNat < 12288)
    (x6 x7 : Vec F S1x2048x512 .bf16) (x8 : Vec F S1x512x2048 .bf16) (x9 x10 : Vec F S1x2048x512 .bf16) (x11 : Vec F S1x512x2048 .bf16)
    (x12 : Vec F S2048x128 .bf16) (x13 : Vec F S1x128 .f32) {W : Waits sig Unit} {K : PUnit → sProp 𝕄} :
    iprop(st c qs ts H (tn (ix1 0)).toNat (i 0).val (slot (i 0).val) ∗ st c qs ts H (tn (ix1 0)).toNat (i 0).val (slot ((i 0).val + 1)) ∗ owes (c : Thread nD τ) 0 W
        ∗ ((Memref.whole main_arg0).view.loc (c : Thread nD τ) ↦{qt 0} ta) ∗ ((Memref.whole main_arg1).view.loc (c : Thread nD τ) ↦{qt 1} tb)
        ∗ ((Memref.whole main_arg2).view.loc (c : Thread nD τ) ↦{qt 2} tn) ∗ ((Memref.whole main_arg3).view.loc (c : Thread nD τ) ↦{qt 3} ts)
        ∗ blocks c a6 a7 a8 a9 a10 a11 a12 a13 x6 x7 x8 x9 x10 x11 x12 x13 ∗ (∃ d, owns (c : Thread nD τ) a14 fullShare d)
        ∗ (iprop(st c qs ts H (tn (ix1 0)).toNat ((i 0).val + 1) (slot (i 0).val) ∗ st c qs ts H (tn (ix1 0)).toNat ((i 0).val + 1) (slot ((i 0).val + 1)) ∗ (∃ W', owes (c : Thread nD τ) 0 W')
        ∗ ((Memref.whole main_arg0).view.loc (c : Thread nD τ) ↦{qt 0} ta) ∗ ((Memref.whole main_arg1).view.loc (c : Thread nD τ) ↦{qt 1} tb)
        ∗ ((Memref.whole main_arg2).view.loc (c : Thread nD τ) ↦{qt 2} tn) ∗ ((Memref.whole main_arg3).view.loc (c : Thread nD τ) ↦{qt 3} ts)
        ∗ blocks c a6 a7 a8 a9 a10 a11 a12 a13 x6 x7 x8 x9 x10 x11 x12 x13 ∗ owns (c : Thread nD τ) a14 fullShare (bodyOut ta tb tn ts H i x6 x7 x8 x9 x10 x11 x12 x13)) -∗ K ⟨⟩))
      ⊢ wp frame (wpE defs₀ 𝒱 (c : Thread nD τ) bd) Set.univ (bodyOf i a6 ha6 a7 ha7 a8 ha8 a9 ha9 a10 ha10 a11 ha11 a12 ha12 a13 ha13 a14 ha14) K := by
  unfold bodyOf bodyOut
  rw [moeProg_eq]
  refine body_core c i a6 ha6 a7 ha7 a8 ha8 a9 ha9 a10 ha10 a11 ha11 a12 ha12 a13 ha13 a14 ha14 qs qt ta tb tn ts H hn hs
    (blocks c a6 a7 a8 a9 a10 a11 a12 a13 x6 x7 x8 x9 x10 x11 x12 x13) (spread (tileY (wdOf ts (i 0).val) H (tword ta i) (tword tb i) x6 x7 x8 x9 x10 x11 x12 x13)) _ ?_
  intro kk W
  unfold blocks
  iintro ⟨HB, HO, Ta, Tb, ⟨H6, H7, H8, H9, H10, H11, H12, H13⟩, H14⟩ HK
  iapply (tile_run c i a6 ha6 a7 ha7 a8 ha8 a9 ha9 a10 ha10 a11 ha11 a12 ha12 a13 ha13 a14 ha14 (qs (slot (i 0).val)) (qt 0) (qt 1) (wdOf ts (i 0).val) H ta tb x6 x7 x8 x9 x10 x11 x12 x13) $$ [HB HO Ta Tb H6 H7 H8 H9 H10 H11 H12 H13 H14]
  · isplitl [HB]; · iexact HB
    isplitl [HO]; · iexact HO
    isplitl [Ta]; · iexact Ta
    isplitl [Tb]; · iexact Tb
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iintro ⟨HB, HO, Ta, Tb, H6, H7, H8, H9, H10, H11, H12, H13, H14⟩
  iapply HK
  isplitl [HB]; · iexact HB
  isplitl [HO]; · iexact HO
  isplitl [Ta]; · iexact Ta
  isplitl [Tb]; · iexact Tb
  isplitl [H6 H7 H8 H9 H10 H11 H12 H13]
  · isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iexact H14

end

end Cert.MoeIdeal.Hand
-- ==== Proof.MoeFrame.lean ====
/- The tile product's run, point by point: what each buffer holds, and the launch. -/
module

public import proofs.«01_k».proof.Proof.MoeBody
public import proofs.«01_k».proof.Proof.Gen.MoeIdeal.Launch
public import Idealize.ShloMosaic.Lib.Pipeline.FrameBody
public import Idealize.ShloMosaic.Lib.Claim

@[expose] public section

set_option maxRecDepth 16384

noncomputable section

namespace Cert.MoeIdeal.Hand

open Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev V (c : Dev nD) (b : Ref sig .tc) : Buf (Elt F) ((c : Thread nD τ).loc b) := m ((c : Thread nD τ).loc b)

/-- The tables of the launch, as words. -/
abbrev tEa (a : (pcfg0 (F := F)).Adm) : S72.Idx → BitVec 32 := a.1 0
abbrev tEb (a : (pcfg0 (F := F)).Adm) : S72.Idx → BitVec 32 := a.1 1
abbrev tNt (a : (pcfg0 (F := F)).Adm) : S1.Idx → BitVec 32 := a.1 2
abbrev tSrc (a : (pcfg0 (F := F)).Adm) : S18432.Idx → BitVec 32 := a.1 3

/-- The range the tables keep to: between 1 and 72 tiles, every row in the array. -/
def InRange (a : (pcfg0 (F := F)).Adm) : Prop :=
  (1 ≤ (tNt a (ix1 0)).toNat ∧ (tNt a (ix1 0)).toNat ≤ 72) ∧ ∀ j, (word (tSrc a) j).toNat < 12288

variable (a : (pcfg0 (F := F)).Adm)

/-- A window's block at a point, read off the array as launched. -/
def iblk (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V m c (Pipeline.arrRef spec0 w))

/-- The halves of the gathered array's share, one per slot. -/
def qs : Fin 2 → PosShare TreeShare := fun p => if p = 0 then fullShare.left else fullShare.right
/-- The body's share of every table. -/
def qt : Fin 4 → PosShare TreeShare := fun _ => fullShare.right

/-- The gathered rows' array as launched. -/
abbrev rows (c : Dev nD) : S196608x128.Idx → Elt F .f32 := V m c main_arg4

/-- The tables as the body holds them. -/
def tables (c : Dev nD) : sProp 𝕄 :=
  iprop(((Memref.whole main_arg0).view.loc (c : Thread nD τ) ↦{qt 0} tEa a) ∗ ((Memref.whole main_arg1).view.loc (c : Thread nD τ) ↦{qt 1} tEb a)
    ∗ ((Memref.whole main_arg2).view.loc (c : Thread nD τ) ↦{qt 2} tNt a) ∗ ((Memref.whole main_arg3).view.loc (c : Thread nD τ) ↦{qt 3} tSrc a))

/-- What the body keeps from point to point: the two slots, the generator register, the tables. -/
def keepAt (c : Dev nD) (n : ℕ) : sProp 𝕄 :=
  iprop((st c qs (tSrc a) (rows m c) (tNt a (ix1 0)).toNat n 0 ∗ st c qs (tSrc a) (rows m c) (tNt a (ix1 0)).toNat n 1) ∗ (∃ r, prngReg c r) ∗ tables a c)

/-- The two slots, the point's own first. -/
theorem slots_swap (c : Dev nD) (k n : ℕ) :
    iprop(st c qs (tSrc a) (rows m c) (tNt a (ix1 0)).toNat n 0 ∗ st c qs (tSrc a) (rows m c) (tNt a (ix1 0)).toNat n 1)
      ⊣⊢ (iprop(st c qs (tSrc a) (rows m c) (tNt a (ix1 0)).toNat n (slot k) ∗ st c qs (tSrc a) (rows m c) (tNt a (ix1 0)).toNat n (slot (k + 1))) : sProp 𝕄) := by
  rcases Nat.mod_two_eq_zero_or_one k with h | h
  · rw [show slot k = 0 from Fin.ext h, show slot (k + 1) = 1 from Fin.ext (by show (k + 1) % 2 = 1; omega)]
  · rw [show slot k = 1 from Fin.ext h, show slot (k + 1) = 0 from Fin.ext (by show (k + 1) % 2 = 0; omega)]
    constructor
    · iintro ⟨A, B⟩; isplitl [B]; · iexact B
      iexact A
    · iintro ⟨A, B⟩; isplitl [B]; · iexact B
      iexact A

/-- What the output's block holds after a point. -/
def outBlk (c : Dev nD) (t : Fin (cfg0 a).N) : Vec F S4096x128 .f32 :=
  bodyOut (tEa a) (tEb a) (tNt a) (tSrc a) (rows m c) (grid0.coords t) (iblk m a c 0 t) (iblk m a c 1 t) (iblk m a c 2 t) (iblk m a c 3 t)
    (iblk m a c 4 t) (iblk m a c 5 t) (iblk m a c 6 t) (iblk m a c 7 t)

/-- The proof data: the arrays as launched, each input's block in place, the tile's rows in the output. -/
def dats (_ : Fin 1) (c : Dev nD) : Dat τ (Elt F) Unit ℕ (Pipeline.UD sig nD τ) ℕ (cfg0 a) c where
  A w := V m c (Pipeline.arrRef spec0 w)
  after w t := match w with
    | ⟨0, _⟩ => iblk m a c 0 t
    | ⟨1, _⟩ => iblk m a c 1 t
    | ⟨2, _⟩ => iblk m a c 2 t
    | ⟨3, _⟩ => iblk m a c 3 t
    | ⟨4, _⟩ => iblk m a c 4 t
    | ⟨5, _⟩ => iblk m a c 5 t
    | ⟨6, _⟩ => iblk m a c 6 t
    | ⟨7, _⟩ => iblk m a c 7 t
    | ⟨8, _⟩ => outBlk m a c t
  Φ t := keepAt m a c t.val
  q w := Pipeline.shareOf spec0 w
  owed _ := 0

theorem A_eq (c : Dev nD) (w : Fin (cfg0 a).W) : (dats m a 0 c).A w = V m c (Pipeline.arrRef spec0 w) := by
  dsimp only [dats]

theorem after0_0 (c : Dev nD) (t : Fin (cfg0 a).N) : (dats m a 0 c).after 0 t = iblk m a c 0 t := rfl
theorem after0_1 (c : Dev nD) (t : Fin (cfg0 a).N) : (dats m a 0 c).after 1 t = iblk m a c 1 t := rfl
theorem after0_2 (c : Dev nD) (t : Fin (cfg0 a).N) : (dats m a 0 c).after 2 t = iblk m a c 2 t := rfl
theorem after0_3 (c : Dev nD) (t : Fin (cfg0 a).N) : (dats m a 0 c).after 3 t = iblk m a c 3 t := rfl
theorem after0_4 (c : Dev nD) (t : Fin (cfg0 a).N) : (dats m a 0 c).after 4 t = iblk m a c 4 t := rfl
theorem after0_5 (c : Dev nD) (t : Fin (cfg0 a).N) : (dats m a 0 c).after 5 t = iblk m a c 5 t := rfl
theorem after0_6 (c : Dev nD) (t : Fin (cfg0 a).N) : (dats m a 0 c).after 6 t = iblk m a c 6 t := rfl
theorem after0_7 (c : Dev nD) (t : Fin (cfg0 a).N) : (dats m a 0 c).after 7 t = iblk m a c 7 t := rfl
theorem after0_8 (c : Dev nD) (t : Fin (cfg0 a).N) : (dats m a 0 c).after 8 t = outBlk m a c t := rfl

theorem before0_0 (c : Dev nD) (t : Fin (cfg0 a).N) (d) : (dats m a 0 c).before 0 t d = iblk m a c 0 t :=
  ((dats m a 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfg0 a).N) (d) : (dats m a 0 c).before 1 t d = iblk m a c 1 t :=
  ((dats m a 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfg0 a).N) (d) : (dats m a 0 c).before 2 t d = iblk m a c 2 t :=
  ((dats m a 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin (cfg0 a).N) (d) : (dats m a 0 c).before 3 t d = iblk m a c 3 t :=
  ((dats m a 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin (cfg0 a).N) (d) : (dats m a 0 c).before 4 t d = iblk m a c 4 t :=
  ((dats m a 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin (cfg0 a).N) (d) : (dats m a 0 c).before 5 t d = iblk m a c 5 t :=
  ((dats m a 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin (cfg0 a).N) (d) : (dats m a 0 c).before 6 t d = iblk m a c 6 t :=
  ((dats m a 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin (cfg0 a).N) (d) : (dats m a 0 c).before 7 t d = iblk m a c 7 t :=
  ((dats m a 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)

/-- The body at a point, on the buffers the pipeline hands it. -/
abbrev bodyAt (t : Fin (cfg0 a).N) : Prog (TpuEff nD τ sig (Elt F) Λ₀ .tc) PUnit :=
  bodyOf (grid0.coords t) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8))

/-- What the body is called with at point `t`, and what it returns. -/
def bodyPre (c : Dev nD) (t : Fin (cfg0 a).N) : sProp 𝕄 :=
  iprop((dats m a 0 c).Φ t.castSucc ∗ (dats m a 0 c).owesAt () t.castSucc
    ∗ (∃ d, owns (c : Thread nD τ) (spec0_0.stage ((cfg0 a).slots t 0)) fullShare ((dats m a 0 c).before 0 t d))
    ∗ (∃ d, owns (c : Thread nD τ) (spec0_1.stage ((cfg0 a).slots t 1)) fullShare ((dats m a 0 c).before 1 t d))
    ∗ (∃ d, owns (c : Thread nD τ) (spec0_2.stage ((cfg0 a).slots t 2)) fullShare ((dats m a 0 c).before 2 t d))
    ∗ (∃ d, owns (c : Thread nD τ) (spec0_3.stage ((cfg0 a).slots t 3)) fullShare ((dats m a 0 c).before 3 t d))
    ∗ (∃ d, owns (c : Thread nD τ) (spec0_4.stage ((cfg0 a).slots t 4)) fullShare ((dats m a 0 c).before 4 t d))
    ∗ (∃ d, owns (c : Thread nD τ) (spec0_5.stage ((cfg0 a).slots t 5)) fullShare ((dats m a 0 c).before 5 t d))
    ∗ (∃ d, owns (c : Thread nD τ) (spec0_6.stage ((cfg0 a).slots t 6)) fullShare ((dats m a 0 c).before 6 t d))
    ∗ (∃ d, owns (c : Thread nD τ) (spec0_7.stage ((cfg0 a).slots t 7)) fullShare ((dats m a 0 c).before 7 t d))
    ∗ (∃ d, owns (c : Thread nD τ) (spec0_8.stage ((cfg0 a).slots t 8)) fullShare ((dats m a 0 c).before 8 t d)))

def bodyPost (c : Dev nD) (t : Fin (cfg0 a).N) : sProp 𝕄 :=
  iprop((dats m a 0 c).Φ t.succ ∗ (dats m a 0 c).owesAt () t.succ
    ∗ (dats m a 0 c).leavesExact 0 t
    ∗ (dats m a 0 c).leavesExact 1 t
    ∗ (dats m a 0 c).leavesExact 2 t
    ∗ (dats m a 0 c).leavesExact 3 t
    ∗ (dats m a 0 c).leavesExact 4 t
    ∗ (dats m a 0 c).leavesExact 5 t
    ∗ (dats m a 0 c).leavesExact 6 t
    ∗ (dats m a 0 c).leavesExact 7 t
    ∗ (dats m a 0 c).leavesExact 8 t)

/-- A window live at a point is left at what the proof data says. -/
theorem leaves_live (c : Dev nD) (w : Fin (cfg0 a).W) (t : Fin (cfg0 a).N) (X) (hl : (cfg0 a).idle w ((cfg0 a).grid.coords t) = false) (hX : X = (dats m a 0 c).after w t) :
    owns (c : Thread nD τ) (((cfg0 a).win w).stage ((cfg0 a).slots t w)) fullShare X ⊢ ((dats m a 0 c).leavesExact w t : sProp 𝕄) := by
  unfold Dat.leavesExact
  rw [hl, hX]

/-- The count of tiles, as the pipeline names it. -/
theorem count_eq : a.1.atD 2 ![0] = tNt a (ix1 0) := by
  have hk : ∀ x : Fin 1, (![0] : Fin 1 → ℕ) x + 1 ≤ S1.size x := by decide
  refine (dif_pos hk).trans ?_
  show tNt a _ = _
  congr 1
  funext x
  apply Fin.ext
  fin_cases x
  rfl

/-- The output is stored at every point. -/
theorem out_live (h : InRange a) (t : Fin (cfg0 a).N) : (cfg0 a).idle 8 ((cfg0 a).grid.coords t) = false := by
  show (!(k0_cond3 (grid0.coords t) (a.1.atD 2 ![0]) == 1#1) && !(k0_cond4 (grid0.coords t) (a.1.atD 2 ![0]) == 1#1)) = false
  rw [count_eq]
  by_cases ht : ((grid0.coords t) 0).val < (tNt a (ix1 0)).toNat
  · rw [(cond4_iff (grid0.coords t) _ h.1.2).mpr ht]; simp
  · rw [(cond3_iff (grid0.coords t) _ h.1.2).mpr (by omega)]; simp

/-- A point's coordinate is its number. -/
theorem coord_eq : ∀ t : Fin grid0.N, ((grid0.coords t) 0).val = t.val := by decide +kernel

set_option maxHeartbeats 1600000 in
/-- The body at any point. -/
theorem sound_body (h : InRange a) (c : Dev nD) (t : Fin (cfg0 a).N) :
    bodyPre m a c t ⊢ wp frame (wpE (defs₀ (F := F)) Variants.none c none) Set.univ (bodyAt a t) (fun _ => bodyPost m a c t) := by
  have ec : ((grid0.coords t) 0).val = t.val := coord_eq t
  unfold bodyPre bodyPost
  simp only [before0_0, before0_1, before0_2, before0_3, before0_4, before0_5, before0_6, before0_7]
  rw [show (dats m a 0 c).Φ t.castSucc = keepAt m a c t.val from rfl, show (dats m a 0 c).Φ t.succ = keepAt m a c (t.val + 1) from rfl]
  unfold Dat.owesAt Pipeline.owesWithin
  rw [show (dats m a 0 c).owed t.castSucc = 0 from rfl, show (dats m a 0 c).owed t.succ = 0 from rfl]
  unfold keepAt tables
  iintro ⟨⟨HS, Hg, Ta, Tb, Tn, Ts⟩, ⟨%W, -, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HS := (slots_swap m a c t.val t.val).1 $$ HS
  icases HS with ⟨HA, HB⟩
  iapply (body_run c (grid0.coords t) _ _ _ _ _ _ _ _ _ _ _ _ _ _ _ _ _ _ qs qt (tEa a) (tEb a) (tNt a) (tSrc a) (rows m c) h.1 h.2
    (iblk m a c 0 t) (iblk m a c 1 t) (iblk m a c 2 t) (iblk m a c 3 t) (iblk m a c 4 t) (iblk m a c 5 t) (iblk m a c 6 t) (iblk m a c 7 t))
  rw [ec]
  isplitl [HA]; · iexact HA
  isplitl [HB]; · iexact HB
  isplitl [HO]; · iexact HO
  isplitl [Ta]; · iexact Ta
  isplitl [Tb]; · iexact Tb
  isplitl [Tn]; · iexact Tn
  isplitl [Ts]; · iexact Ts
  unfold blocks
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexists _; iexact H8
  iintro ⟨HA, HB, ⟨%W', HO⟩, Ta, Tb, Tn, Ts, ⟨H0, H1, H2, H3, H4, H5, H6, H7⟩, H8⟩
  isplitl [HA HB Hg Ta Tb Tn Ts]
  · isplitl [HA HB]
    · iapply (slots_swap m a c t.val (t.val + 1)).2
      isplitl [HA]; · iexact HA
      iexact HB
    isplitl [Hg]; · iexact Hg
    isplitl [Ta]; · iexact Ta
    isplitl [Tb]; · iexact Tb
    isplitl [Tn]; · iexact Tn
    iexact Ts
  isplitl [HO]
  · iexists W'
    isplitr
    · ipureintro; exact fun _ _ => Or.inl trivial
    iexact HO
  isplitl [H0]; · iapply (leaves_live m a c 0 t _ rfl (after0_0 m a c t).symm); iexact H0
  isplitl [H1]; · iapply (leaves_live m a c 1 t _ rfl (after0_1 m a c t).symm); iexact H1
  isplitl [H2]; · iapply (leaves_live m a c 2 t _ rfl (after0_2 m a c t).symm); iexact H2
  isplitl [H3]; · iapply (leaves_live m a c 3 t _ rfl (after0_3 m a c t).symm); iexact H3
  isplitl [H4]; · iapply (leaves_live m a c 4 t _ rfl (after0_4 m a c t).symm); iexact H4
  isplitl [H5]; · iapply (leaves_live m a c 5 t _ rfl (after0_5 m a c t).symm); iexact H5
  isplitl [H6]; · iapply (leaves_live m a c 6 t _ rfl (after0_6 m a c t).symm); iexact H6
  isplitl [H7]; · iapply (leaves_live m a c 7 t _ rfl (after0_7 m a c t).symm); iexact H7
  iapply (leaves_live m a c 8 t _ (out_live a h t) (after0_8 m a c t).symm)
  iexact H8

/-- The body table's row at a point is the body. -/
theorem defs₀_row (t : Fin (cfg0 a).N) : defs₀ (F := F) .tc (cfg0 a).body ((cfg0 a).bodyArgs t ((cfg0 a).slots t)) = bodyAt a t := by
  unfold defs₀; rw [Defs.onTc_tc]

/-- The library's body obligation. -/
theorem body_obligation (h : InRange a) (c : Dev nD) : BodyObligation (dats (F := F) m a 0 c) (defs₀ (F := F)) Variants.none () Set.univ := fun t => by
  rw [bigSep_W0, bigSep_W0, defs₀_row]
  exact triple_restated (sound_body m a h c t) rfl .rfl fun _ => .rfl

/-! ## The launch -/

/-- The two cells of the gather. -/
abbrev osem0 : Fin 2 → SemLoc sig := fun j => (![SemLoc.dma 16, SemLoc.dma 17] : Fin 2 → SemLoc sig) j

theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (cellS 0)) 0 ∗ semVal ((c : Thread nD τ), SemLoc.dma (cellS 1)) 0) := by
  rw [Pipeline.ownSems0_eq_of_list c osem0 [0, 1] (by decide) (by decide)]; rfl

/-- The array the gather reads. -/
def H0 : Finset (Ref sig .tc) := {main_arg4}

theorem H0_sub : H0 ⊆ Pipeline.restRefsP sig pre0 spec0 := by decide

theorem rowsPt_eq (c : Dev nD) :
    (bigSep H0 (fun b => ((c : Thread nD τ).loc b) ↦{fullShare} V m c b) : sProp 𝕄) = iprop(((c : Thread nD τ).loc main_arg4) ↦{fullShare} rows m c) := by
  rw [BI.bigSep_eq_bigSepL_of_eq [main_arg4] (by decide) (by decide)]; rfl

theorem tables_eq (c : Dev nD) :
    (Pipeline.ΦT (U := Pipeline.UD sig nD τ) pre0 a.1 c : sProp 𝕄) = tables a c := by
  unfold Pipeline.ΦT Pipeline.prefHeld
  rw [BI.bigSep_univ_eq_bigSepL [(0 : Fin 4), (1 : Fin 4), (2 : Fin 4), (3 : Fin 4)] (by decide) (by decide)]
  rfl

/-- Both slots idle are the scratch whole, the two cells at zero and the array whole. -/
theorem idle_both (c : Dev nD) (T : S18432.Idx → BitVec 32) (n t : ℕ) (h : ¬ (1 ≤ t ∧ t < n)) :
    iprop((∃ f : Buf (Elt F) ((c : Thread nD τ).loc cc0_scratch0), ((c : Thread nD τ).loc cc0_scratch0) ↦{fullShare} f)
        ∗ (semVal ((c : Thread nD τ), SemLoc.dma (cellS 0)) 0 ∗ semVal ((c : Thread nD τ), SemLoc.dma (cellS 1)) 0)
        ∗ (((c : Thread nD τ).loc main_arg4) ↦{fullShare} rows m c))
      ⊣⊢ (iprop(st c qs T (rows m c) n t 0 ∗ st c qs T (rows m c) n t 1) : sProp 𝕄) := by
  rw [st_idle c qs T (rows m c) n t 0 h, st_idle c qs T (rows m c) n t 1 h]
  unfold idle
  have hsh := pointsTo_share (Ix := Unit) (Name := ℕ) (U := Pipeline.UD sig nD τ) (Lvl := ℕ) (ℓ := (c : Thread nD τ).loc main_arg4) (I := Finset.univ) (f := rows m c) (PosShare.mem_left_op_right fullShare)
  constructor
  · iintro ⟨⟨%f, Hf⟩, ⟨S0, S1⟩, HH⟩
    rw [← sset_union]
    ihave Hf := (pointsTo_union sset_disj).1 $$ Hf
    icases Hf with ⟨F0, F1⟩
    ihave HH := hsh.1 $$ HH
    icases HH with ⟨A0, A1⟩
    isplitl [S0 F0 A0]
    · isplitl [S0]; · iexact S0
      isplitl [F0]; · iexists f; iexact F0
      iexact A0
    isplitl [S1]; · iexact S1
    isplitl [F1]; · iexists f; iexact F1
    iexact A1
  · iintro ⟨⟨S0, ⟨%f, F0⟩, A0⟩, ⟨S1, ⟨%g, F1⟩, A1⟩⟩
    isplitl [F0 F1]
    · iexists _
      rw [← sset_union]
      iapply (pointsTo_join sset_disj)
      isplitl [F0]; · iexact F0
      iexact F1
    isplitl [S0 S1]
    · isplitl [S0]; · iexact S0
      iexact S1
    iapply hsh.2
    isplitl [A0]; · iexact A0
    iexact A1

theorem keep_start (c : Dev nD) : iprop(Pipeline.ΦD osem0 spec0 H0 (V m) c ∗ Pipeline.ΦT pre0 a.1 c) ⊢ (keepAt m a c 0 : sProp 𝕄) := by
  rw [Pipeline.ΦD_eq, scopedRest0_eq, ownSems00_eq, rowsPt_eq, tables_eq]
  unfold keepAt
  iintro ⟨⟨HF, Hg, HS, HH⟩, HT⟩
  isplitl [HF HS HH]
  · iapply (idle_both m c (tSrc a) (tNt a (ix1 0)).toNat 0 (by omega)).1
    isplitl [HF]; · iexact HF
    isplitl [HS]; · iexact HS
    iexact HH
  isplitl [Hg]; · iexact Hg
  iexact HT

theorem keep_end (h : InRange a) (c : Dev nD) : (keepAt m a c 72 : sProp 𝕄) ⊢ Pipeline.ΦD osem0 spec0 H0 (V m) c := by
  rw [Pipeline.ΦD_eq, scopedRest0_eq, ownSems00_eq, rowsPt_eq]
  unfold keepAt
  have h72 := h.1.2
  iintro ⟨HS, Hg, -⟩
  ihave HS := (idle_both m c (tSrc a) (tNt a (ix1 0)).toNat 72 (by omega)).2 $$ HS
  icases HS with ⟨HF, HS, HH⟩
  isplitl [HF]; · iexact HF
  isplitl [Hg]; · iexact Hg
  isplitl [HS]; · iexact HS
  iexact HH

set_option backward.isDefEq.respectTransparency.types false in
/-- The launch: every run ends with the arrays as the proof data says and every counter at zero. -/
theorem run_main (h : InRange a) (ht : ∀ (c : Dev nD) k, V m c (pre0.ref k) = a.1 k) :
    θ_run defs (onTc (τ := τ) (main (F := F))) (s₀ m ρ) (fun r => Pipeline.FramePost (Pipeline.pin pcfgs fun _ => a) (dats m a) 0 (V m) r ∧ r.2.sem = fun _ => 0) :=
  Pipeline.θ_run_frameP_dma_shared (Q' := fun r => Pipeline.FramePost (Pipeline.pin pcfgs fun _ => a) (dats m a) 0 (V m) r ∧ r.2.sem = fun _ => 0)
    pcfgs (fun _ => a) (dats m a) (0 : Fin 1) launch₀0 osem0 defs₀ Variants.none ownSemFacts0 H0 H0_sub m ρ main
    (hbody := fun c => (body_obligation m a h c).loose) (hq := fun _ _ _ => rfl)
    (howed := fun _ _ => rfl) (V := V m) (hmain := Pipeline.hmainP_region pcfgs 0 defs₀ Variants.none m main fun c => (main_chain c).trans rfl)
    (hA := A_eq m a) (hpf := ht)
    (hin := fun c => keep_start m a c) (hout := fun c => keep_end m a h c) (hQ' := fun _ h => h)

end Cert.MoeIdeal.Hand

end
-- ==== Proof.MoeAdm.lean ====
/- The tables in range: the launch they admit, and what its run leaves of the arguments. -/
module

public import proofs.«01_k».proof.Proof.MoeFrame

@[expose] public section

set_option maxRecDepth 16384

noncomputable section

namespace Cert.MoeIdeal.Hand

open Cert.MoeIdeal Cert.MoeIdeal.Gen
open Idealize.ShloMosaic Idealize.ShloMosaic.TcCoe Idealize.SL.Sem

variable {F : FTy → Type} [FloatOps F]

/-- A block of an expert's matrix is inside the array and a whole number of words, whichever of the sixteen. -/
theorem up_ok : ∀ e : Fin 16, ∃ h : (∀ a, ((![e.val, 0, 0] : Fin 3 → ℕ) a + 1) * S1x2048x512.size a ≤ S16x2048x512.size a),
    EltTy.bits .bf16 = 32 ∨ (Rect.block (s := S16x2048x512) S1x2048x512.size (![e.val, 0, 0] : Fin 3 → ℕ) h).WholeWords (EltTy.packing .bf16) := by
  decide +kernel
theorem down_ok : ∀ e : Fin 16, ∃ h : (∀ a, ((![e.val, 0, 0] : Fin 3 → ℕ) a + 1) * S1x512x2048.size a ≤ S16x512x2048.size a),
    EltTy.bits .bf16 = 32 ∨ (Rect.block (s := S16x512x2048) S1x512x2048.size (![e.val, 0, 0] : Fin 3 → ℕ) h).WholeWords (EltTy.packing .bf16) := by
  decide +kernel

/-- Tables that name experts keep the launch's side conditions. -/
theorem ok_of (pf : pre0.Contents (Elt F)) (h0 : ∀ j, (pf 0 j : BitVec 32).toNat < 16) (h1 : ∀ j, (pf 1 j : BitVec 32).toNat < 16) : ok0 pf :=
  ⟨fun i => up_ok ⟨_, h0 _⟩, fun i => up_ok ⟨_, h0 _⟩, fun i => down_ok ⟨_, h0 _⟩,
    fun i => up_ok ⟨_, h1 _⟩, fun i => up_ok ⟨_, h1 _⟩, fun i => down_ok ⟨_, h1 _⟩⟩

variable (m : (ℓ : Loc nD τ sig) → Buf (Elt F) ℓ) (ρ : Dev nD → PrngReg)

/-- The range of the four tables, on the one device. -/
structure Tables : Prop where
  ea : ∀ j : S72.Idx, (V m 0 main_arg0 j : BitVec 32).toNat < 16
  eb : ∀ j : S72.Idx, (V m 0 main_arg1 j : BitVec 32).toNat < 16
  nt : 1 ≤ (V m 0 main_arg2 (ix1 0) : BitVec 32).toNat ∧ (V m 0 main_arg2 (ix1 0) : BitVec 32).toNat ≤ 72
  src : ∀ j : S18432.Idx, (V m 0 main_arg3 j : BitVec 32).toNat < 12288

variable {m}

/-- The launch's tables. -/
def adm (h : Tables m) : (pcfg0 (F := F)).Adm := ⟨fun k => V m 0 (pre0.ref k), ok_of _ h.ea h.eb⟩

theorem adm_range (h : Tables m) : InRange (adm h) := ⟨h.nt, fun j => h.src _⟩

theorem adm_eq (h : Tables m) (c : Dev nD) (k) : V m c (pre0.ref k) = (adm h).1 k := by
  rw [Subsingleton.elim c 0]; rfl

/-- The run at tables in range. -/
theorem run_at (h : Tables m) :
    θ_run defs (onTc (τ := τ) (main (F := F))) ⟨m, fun _ => 0, ρ⟩ (fun r => Pipeline.FramePost (Pipeline.pin pcfgs fun _ => adm h) (dats m (adm h)) 0 (V m) r ∧ r.2.sem = fun _ => 0) :=
  run_main m ρ (adm h) (adm_range h) (adm_eq h)

/-- What the arguments hold after a run. -/
abbrev Kept (m : (ℓ : Loc nD τ sig) → Buf (Elt F) ℓ) (c : Dev nD) (m' : (ℓ : Loc nD τ sig) → Buf (Elt F) ℓ) : Prop :=
  m' ((c.tc : Thread nD τ).loc main_arg0) = m ((c.tc : Thread nD τ).loc main_arg0)
    ∧ m' ((c.tc : Thread nD τ).loc main_arg1) = m ((c.tc : Thread nD τ).loc main_arg1)
    ∧ m' ((c.tc : Thread nD τ).loc main_arg2) = m ((c.tc : Thread nD τ).loc main_arg2)
    ∧ m' ((c.tc : Thread nD τ).loc main_arg3) = m ((c.tc : Thread nD τ).loc main_arg3)
    ∧ m' ((c.tc : Thread nD τ).loc main_arg4) = m ((c.tc : Thread nD τ).loc main_arg4)
    ∧ m' ((c.tc : Thread nD τ).loc main_arg5) = m ((c.tc : Thread nD τ).loc main_arg5)
    ∧ m' ((c.tc : Thread nD τ).loc main_arg6) = m ((c.tc : Thread nD τ).loc main_arg6)
    ∧ m' ((c.tc : Thread nD τ).loc main_arg7) = m ((c.tc : Thread nD τ).loc main_arg7)
    ∧ m' ((c.tc : Thread nD τ).loc main_arg8) = m ((c.tc : Thread nD τ).loc main_arg8)
    ∧ m' ((c.tc : Thread nD τ).loc main_arg9) = m ((c.tc : Thread nD τ).loc main_arg9)

theorem kept_of (h : Tables m) {r : _} (hr : Pipeline.FramePost (Pipeline.pin pcfgs fun _ => adm h) (dats m (adm h)) 0 (V m) r) (c : Dev nD) : Kept m c r.2.mem :=
  ⟨(hr c).2 main_arg0 (Pipeline.mem_restRefs_of main_arg0 (by decide) (show ∀ w : Fin 9, (spec0 w).arr.view.ref ≠ main_arg0 from by decide)),
    (hr c).2 main_arg1 (Pipeline.mem_restRefs_of main_arg1 (by decide) (show ∀ w : Fin 9, (spec0 w).arr.view.ref ≠ main_arg1 from by decide)),
    (hr c).2 main_arg2 (Pipeline.mem_restRefs_of main_arg2 (by decide) (show ∀ w : Fin 9, (spec0 w).arr.view.ref ≠ main_arg2 from by decide)),
    (hr c).2 main_arg3 (Pipeline.mem_restRefs_of main_arg3 (by decide) (show ∀ w : Fin 9, (spec0 w).arr.view.ref ≠ main_arg3 from by decide)),
    (hr c).2 main_arg4 (Pipeline.mem_restRefs_of main_arg4 (by decide) (show ∀ w : Fin 9, (spec0 w).arr.view.ref ≠ main_arg4 from by decide)),
    ((hr c).1 0).trans (((dats m (adm h) 0 c).arrAt_in 0 rfl _).trans (A_eq m (adm h) c 0)),
    ((hr c).1 1).trans (((dats m (adm h) 0 c).arrAt_in 1 rfl _).trans (A_eq m (adm h) c 1)),
    ((hr c).1 2).trans (((dats m (adm h) 0 c).arrAt_in 2 rfl _).trans (A_eq m (adm h) c 2)),
    ((hr c).1 6).trans (((dats m (adm h) 0 c).arrAt_in 6 rfl _).trans (A_eq m (adm h) c 6)),
    ((hr c).1 7).trans (((dats m (adm h) 0 c).arrAt_in 7 rfl _).trans (A_eq m (adm h) c 7))⟩

/-- The run keeps the argument arrays and leaves every counter at zero. -/
theorem frame (h : Tables m) : θ_run defs (onTc (τ := τ) (main (F := F))) ⟨m, fun _ => 0, ρ⟩ (fun r => (∀ c : Dev nD, Kept m c r.2.mem) ∧ r.2.sem = fun _ => 0) :=
  (θ_run defs _ _).mono (fun _ hr => ⟨fun c => kept_of h hr.1 c, hr.2⟩) (run_at ρ h)

end Cert.MoeIdeal.Hand

end
-- ==== Proof.MoeTable.lean ====
/- What the precondition says of the four tables. -/
module

public import proofs.«01_k».proof.Defs
public import proofs.«01_k».proof.Proof.MoeAdm
public import Idealize.ShloMosaic.Lib.WordCmp

@[expose] public section

set_option maxRecDepth 16384

noncomputable section

namespace Cert.MoeIdeal.Hand

open Cert.MoeIdeal Cert.MoeIdeal.Gen
open Idealize.ShloMosaic Idealize.ShloMosaic.TcCoe Idealize.ShloMosaic.WordCmp Idealize.SL.Sem

theorem and_one {p q : Prop} [Decidable p] [Decidable q] (h : IntOp.andi (BitVec.ofBool (decide p)) (BitVec.ofBool (decide q)) = 1#1) : p ∧ q := by
  by_cases hp : p <;> by_cases hq : q
  · exact ⟨hp, hq⟩
  all_goals simp [hp, hq, IntOp.andi] at h

/-- A word that is signed-between two small bounds is between them as a count. -/
theorem between_lt (w : BitVec 32) (a b : ℕ) (ha : a < 2 ^ 31) (hb : b < 2 ^ 31)
    (h : IntOp.andi (IntOp.cmpi .sge w (BitVec.ofNat 32 a)) (IntOp.cmpi .slt w (BitVec.ofNat 32 b)) = 1#1) : a ≤ w.toNat ∧ w.toNat < b := by
  rw [cmpi_sge_eq, cmpi_slt_eq] at h
  obtain ⟨h1, h2⟩ := and_one h
  have hw := w.isLt
  rw [BitVec.toInt_eq_toNat_cond, BitVec.toInt_eq_toNat_cond, BitVec.toNat_ofNat] at h1 h2
  split_ifs at h1 h2 <;> omega

theorem between_le (w : BitVec 32) (a b : ℕ) (ha : a < 2 ^ 31) (hb : b < 2 ^ 31)
    (h : IntOp.andi (IntOp.cmpi .sge w (BitVec.ofNat 32 a)) (IntOp.cmpi .sle w (BitVec.ofNat 32 b)) = 1#1) : a ≤ w.toNat ∧ w.toNat ≤ b := by
  rw [cmpi_sge_eq, cmpi_sle_eq] at h
  obtain ⟨h1, h2⟩ := and_one h
  have hw := w.isLt
  rw [BitVec.toInt_eq_toNat_cond, BitVec.toInt_eq_toNat_cond, BitVec.toNat_ofNat] at h1 h2
  split_ifs at h1 h2 <;> omega

/-- The precondition's four vectors, read at an entry. -/
theorem range_of {F : FTy → Type} [FloatOps F] [Cert.Pre_tables_in_range.Facts] (x0 x1 : IVec S72 32) (x2 : IVec S1 32) (x3 : IVec S18432 32) (x4 : FVec F S196608x128 .f32)
    (x5 x6 : FVec F S16x2048x512 .bf16) (x7 : FVec F S16x512x2048 .bf16) (x8 : FVec F S2048x128 .bf16) (x9 : FVec F S1x128 .f32)
    (h : (Cert.Pre_tables_in_range.fn (F := F) x0 x1 x2 x3 x4 x5 x6 x7 x8 x9).1 = (fun _ => 1#1)
      ∧ (Cert.Pre_tables_in_range.fn (F := F) x0 x1 x2 x3 x4 x5 x6 x7 x8 x9).2.1 = (fun _ => 1#1)
      ∧ (Cert.Pre_tables_in_range.fn (F := F) x0 x1 x2 x3 x4 x5 x6 x7 x8 x9).2.2.1 = (fun _ => 1#1)
      ∧ (Cert.Pre_tables_in_range.fn (F := F) x0 x1 x2 x3 x4 x5 x6 x7 x8 x9).2.2.2 = (fun _ => 1#1)) :
    (∀ j, (x0 j).toNat < 16) ∧ (∀ j, (x1 j).toNat < 16) ∧ (1 ≤ (x2 (ix1 0)).toNat ∧ (x2 (ix1 0)).toNat ≤ 72) ∧ (∀ j, (x3 j).toNat < 12288) :=
  ⟨fun j => (between_lt (x0 j) 0 16 (by decide) (by decide) (congrFun h.1 j)).2,
    fun j => (between_lt (x1 j) 0 16 (by decide) (by decide) (congrFun h.2.1 j)).2,
    between_le (x2 (ix1 0)) 1 72 (by decide) (by decide) (congrFun h.2.2.1 (ix1 0)),
    fun j => (between_lt (x3 j) 0 12288 (by decide) (by decide) (congrFun h.2.2.2 j)).2⟩

/-- The precondition of the idealized program puts its tables in range, -/
theorem tables_ideal [Cert.Pre_tables_in_range.Facts] (m : (ℓ : Loc nD τ sig) → Buf (Elt Ideal) ℓ) (h : Cert.Pre_MoeIdeal m) : Tables m :=
  have r := range_of (F := Ideal) _ _ _ _ _ _ _ _ _ _ (h 0)
  ⟨r.1, r.2.1, r.2.2.1, r.2.2.2⟩

/-- and so does that of the program as printed. -/
theorem tables_bits [Cert.Pre_tables_in_range.Facts] (m : (ℓ : Loc nD τ sig) → Buf (Elt Bits) ℓ) (h : Cert.Pre_Moe m) : Tables (F := Bits) m :=
  have r := range_of (F := Bits) _ _ _ _ _ _ _ _ _ _ (h 0)
  ⟨r.1, r.2.1, r.2.2.1, r.2.2.2⟩

end Cert.MoeIdeal.Hand

end
-- ==== Proof.MoeValue.lean ====
/- The tile product over the extended reals, entry by entry. -/
module

public import proofs.«01_k».proof.Proof.MoeTable
public import Idealize.ShloMosaic.Lib.Pipeline.ValueKit
public import Idealize.ShloMosaic.PureOps.Ideal.Laws

@[expose] public section

set_option maxRecDepth 16384

noncomputable section

open Idealize.ShloMosaic Idealize.ShloMosaic.TcCoe Idealize.SL.Sem
open Idealize.ShloMosaic.Pipeline (Dat)

namespace Cert.MoeIdeal.Hand
open Cert.MoeIdeal Cert.MoeIdeal.Gen

/-! ## What a row of a tile comes to -/

/-- The routing logits of a row. -/
def logit (X : Fin 2048 → EReal) (wr : S2048x128.Idx → EReal) (br : S1x128.Idx → EReal) (c : Fin 128) : EReal :=
  (∑ k : Fin 2048, X k * wr (ix2 k c)) + br (ix2 0 c)

/-- The lane of an expert's logit, and of a group's. -/
def lane (e : Fin 16) : Fin 128 := ⟨4 + e.val, by omega⟩
def glane (e : Fin 16) : Fin 128 := ⟨e.val / 4, by omega⟩

/-- The probability of the group that holds expert `a`. -/
def group (L : Fin 128 → EReal) (a : Fin 16) : EReal :=
  Ideal.div 1 (∑ c : Fin 4, Ideal.exp (L ⟨c.val, by omega⟩ - L (glane a)))

/-- The weight of the first of a group's two experts. -/
def weight (L : Fin 128 → EReal) (a e o : Fin 16) : EReal :=
  Ideal.div (group L a) (1 + Ideal.exp (L (lane o) - L (lane e)))

/-- What expert `e` makes of a row, at a column. -/
def expert (X : Fin 2048 → EReal) (wg wu : S16x2048x512.Idx → EReal) (wd : S16x512x2048.Idx → EReal) (e : Fin 16) (q : Fin 2048) : EReal :=
  ∑ f : Fin 512, ((∑ k : Fin 2048, X k * wg (ix3 e k f)) * Ideal.logistic (∑ k : Fin 2048, X k * wg (ix3 e k f))
    * ∑ k : Fin 2048, X k * wu (ix3 e k f)) * wd (ix3 e f q)

/-- A row of a tile, at a column: its two experts, weighted. -/
def rowOut (X : Fin 2048 → EReal) (a b : Fin 16) (wg wu : S16x2048x512.Idx → EReal) (wd : S16x512x2048.Idx → EReal)
    (wr : S2048x128.Idx → EReal) (br : S1x128.Idx → EReal) (q : Fin 2048) : EReal :=
  weight (logit X wr br) a a b * expert X wg wu wd a q + weight (logit X wr br) a b a * expert X wg wu wd b q

/-! ## The kernel's own terms -/

/-- A sum over lanes that picks one is its term. -/
theorem pick (n : ℕ) (hn : n < 2 ^ 32) (L : Fin n → EReal) (w : BitVec 32) (k : Fin n) (hw : w = BitVec.ofNat 32 k.val) :
    (∑ x : Fin n, Scalar.select (IntOp.cmpi CmpIPredicate.eq (BitVec.ofNat 32 x.val) w) (L x) 0) = L k := by
  subst hw
  rw [Finset.sum_eq_single k]
  · rw [WordCmp.select_of_eq_one]
    rw [WordCmp.cmpi_eq_eq]; simp
  · intro x _ hx
    rw [WordCmp.select_of_eq_zero]
    rw [WordCmp.cmpi_eq_eq]
    have h1 := x.isLt; have h2 := k.isLt
    have : BitVec.ofNat 32 x.val ≠ BitVec.ofNat 32 k.val := fun e => hx (Fin.ext (by
      have e := congrArg BitVec.toNat e
      rw [BitVec.toNat_ofNat, BitVec.toNat_ofNat, Nat.mod_eq_of_lt (by omega), Nat.mod_eq_of_lt (by omega)] at e
      exact e))
    simp [this]
  · exact fun h => absurd (Finset.mem_univ k) h

/-- A sum over the lanes below four is the sum of four. -/
theorem sum_four (f : Fin 128 → EReal) :
    (∑ x : Fin 128, Scalar.select (IntOp.cmpi CmpIPredicate.slt (BitVec.ofNat 32 x.val) 4#32) (f x) 0) = ∑ c : Fin 4, f ⟨c.val, by omega⟩ := by
  have h : ∀ x : Fin 128, IntOp.cmpi CmpIPredicate.slt (BitVec.ofNat 32 x.val) 4#32 = if x.val < 4 then 1#1 else 0#1 := by decide +kernel
  simp only [h]
  rw [show (∑ x : Fin 128, Scalar.select (if x.val < 4 then 1#1 else 0#1) (f x) 0)
    = ∑ x : Fin (4 + 124), Scalar.select (if x.val < 4 then 1#1 else 0#1) (f x) 0 from rfl, Fin.sum_univ_add]
  have e2 : (∑ i : Fin 124, Scalar.select (if (Fin.natAdd 4 i).val < 4 then 1#1 else 0#1) (f (Fin.natAdd 4 i)) 0) = 0 :=
    Finset.sum_eq_zero fun i _ => by
      rw [if_neg (by rw [Fin.val_natAdd]; omega)]
      rfl
  rw [e2, add_zero]
  refine Finset.sum_congr rfl fun c _ => ?_
  have := c.isLt
  rw [if_pos (by rw [Fin.val_castAdd]; omega)]
  rfl

/-- The group's lane, as the kernel counts it: the quotient by four, rounded down. -/
theorem group_word : ∀ e : Fin 16, Scalar.select
      (Scalar.andi
        (Scalar.cmpi CmpIPredicate.ne
          (Scalar.subi (Scalar.extui (Scalar.cmpi CmpIPredicate.sgt (BitVec.ofNat 32 e.val) 0#32))
            (Scalar.extui (Scalar.cmpi CmpIPredicate.slt (BitVec.ofNat 32 e.val) 0#32)))
          (Scalar.subi (Scalar.extui (Scalar.cmpi CmpIPredicate.sgt 4#32 0#32))
            (Scalar.extui (Scalar.cmpi CmpIPredicate.slt 4#32 0#32))))
        (Scalar.cmpi CmpIPredicate.ne (Scalar.remsi (BitVec.ofNat 32 e.val) 4#32) 0#32))
      (Scalar.subi (Scalar.divsi (BitVec.ofNat 32 e.val) 4#32) 1#32) (Scalar.divsi (BitVec.ofNat 32 e.val) 4#32) = BitVec.ofNat 32 (e.val / 4) := by
  decide +kernel

theorem lane_word : ∀ e : Fin 16, Scalar.addi (4#32) (BitVec.ofNat 32 e.val) = BitVec.ofNat 32 (4 + e.val) := by decide +kernel

variable (L : FVec Ideal S256x128 .f32) (a b : Fin 16) (r : Fin 256)

theorem pay17_apply : k0_pay17 L lanes (BitVec.ofNat 32 a.val) (ix2 r 0) = group (fun c => L (ix2 r c)) a := by
  unfold group
  pointwise [k0_pay17, lanes]
  rw [group_word, pick 128 (by decide) (fun x => L (ix2 r x)) (BitVec.ofNat 32 (a.val / 4)) (glane a) rfl, sum_four (fun x => Ideal.exp (L (ix2 r x) - L (ix2 r (glane a))))]

theorem pay18_apply : k0_pay18 L lanes (BitVec.ofNat 32 a.val) (ix1 r) = L (ix2 r (lane a)) := by
  pointwise [k0_pay18, lanes]
  exact pick 128 (by decide) (fun x => L (ix2 r x)) _ (lane a) (lane_word a)

theorem pay20_apply : k0_pay20 L lanes (BitVec.ofNat 32 a.val) (ix2 r 0) = L (ix2 r (lane a)) := by
  pointwise [k0_pay20, lanes]
  exact pick 128 (by decide) (fun x => L (ix2 r x)) _ (lane a) (lane_word a)

variable (v123 : FVec Ideal S256x1 .f32) (v129 : FVec Ideal S256 .f32)

theorem pay21_apply : k0_pay21 L lanes (BitVec.ofNat 32 b.val) v123 v129 (ix2 r 0)
    = Ideal.div (v123 (ix2 r 0)) (1 + Ideal.exp (v129 (ix1 r) - L (ix2 r (lane b)))) := by
  pointwise [k0_pay21, k0_pay20, k0_pay19, lanes]
  rw [pick 128 (by decide) (fun x => L (ix2 r x)) _ (lane b) (lane_word b)]

variable (X : FVec Ideal S256x2048 .bf16)

theorem pay23_apply (x9 : Vec Ideal S1x2048x512 .bf16) (f : Fin 512) : k0_pay23 X x9 (ix2 r f) = ∑ k : Fin 2048, X (ix2 r k) * x9 (ix3 0 k f) := by
  pointwise [k0_pay23]

theorem pay22_apply (x6 x7 : Vec Ideal S1x2048x512 .bf16) (x8 : Vec Ideal S1x512x2048 .bf16) (q : Fin 2048) :
    k0_pay22 X L lanes (BitVec.ofNat 32 b.val) v123 v129 x6 x7 x8 (ix2 r q)
      = Ideal.div (v123 (ix2 r 0)) (1 + Ideal.exp (L (ix2 r (lane b)) - v129 (ix1 r)))
        * ∑ f : Fin 512, ((∑ k : Fin 2048, X (ix2 r k) * x6 (ix3 0 k f)) * Ideal.logistic (∑ k : Fin 2048, X (ix2 r k) * x6 (ix3 0 k f))
            * ∑ k : Fin 2048, X (ix2 r k) * x7 (ix3 0 k f)) * x8 (ix3 0 f q) := by
  pointwise [k0_pay22, k0_pay20, k0_pay19, lanes]
  rw [pick 128 (by decide) (fun x => L (ix2 r x)) _ (lane b) (lane_word b)]

theorem pay24_apply (v147 : FVec Ideal S256x1 .f32) (v162 : FVec Ideal S256x2048 .f32) (v165 : FVec Ideal S256x512 .f32)
    (x10 : Vec Ideal S1x2048x512 .bf16) (x11 : Vec Ideal S1x512x2048 .bf16) (q : Fin 2048) :
    k0_pay24 X v147 v162 v165 x10 x11 (ix2 r q)
      = v162 (ix2 r q) + v147 (ix2 r 0)
        * ∑ f : Fin 512, (v165 (ix2 r f) * Ideal.logistic (v165 (ix2 r f)) * ∑ k : Fin 2048, X (ix2 r k) * x10 (ix3 0 k f)) * x11 (ix3 0 f q) := by
  pointwise [k0_pay24]

/-- Sixteen pieces of 128 columns side by side. -/
theorem cat_apply (f : Fin 16 → FVec Ideal S256x128 .f32) (h) (q : Fin 2048) :
    concatenate S256x2048 1 (List.ofFn fun n : Fin 16 => (⟨S256x128, f n⟩ : (s : Shape) × (s.Idx → EReal))) h (ix2 r q)
      = f ⟨q.val / 128, by omega⟩ (ix2 r ⟨q.val % 128, by omega⟩) :=
  concatenate_ofFn_apply 1 f h rfl 128 rfl (ix2 r q) ⟨q.val / 128, by omega⟩ rfl (ix2 r ⟨q.val % 128, by omega⟩) rfl
    (fun b hb => by
      match b with
      | ⟨0, _⟩ => rfl
      | ⟨1, _⟩ => exact absurd rfl hb)

variable (wd : Fin 256 → Fin 12288) (H : S196608x128.Idx → EReal)

/-- A row of the tile: the gathered row's columns, 128 to a stored row. -/
def rowX (w : Fin 12288) (k : Fin 2048) : EReal :=
  H (ix2 (⟨16 * w.val + k.val / 128, by omega⟩ : Fin 196608) (⟨k.val % 128, by omega⟩ : Fin 128))

theorem gath_apply (j : Fin 16) (l : Fin 128) : shapeCast S256x128 (gath (F := Ideal) wd H j) shapeCasts_S1x256x128_S256x128 (ix2 r l)
    = H (ix2 (⟨16 * (wd r).val + j.val, by omega⟩ : Fin 196608) l) := by
  pointwise [gath]

theorem tileX_apply (q : Fin 2048) : tileX (F := Ideal) wd H (ix2 r q) = rowX H (wd r) q := by
  refine Eq.trans ?_ (gath_apply r wd H ⟨q.val / 128, by omega⟩ ⟨q.val % 128, by omega⟩)
  exact cat_apply r (fun j => shapeCast S256x128 (gath (F := Ideal) wd H j) shapeCasts_S1x256x128_S256x128) concatenates_S256x128_S256x128_S256x128_S256x128_S256x128_S256x128_S256x128_S256x128_S256x128_S256x128_S256x128_S256x128_S256x128_S256x128_S256x128_S256x128_S256x2048_d1 q

theorem tileL_apply (x12 : Vec Ideal S2048x128 .bf16) (x13 : Vec Ideal S1x128 .f32) (l : Fin 128) :
    tileL (F := Ideal) wd H x12 x13 (ix2 r l) = logit (rowX H (wd r)) x12 x13 l := by
  have h : tileL (F := Ideal) wd H x12 x13 (ix2 r l) = (∑ k : Fin 2048, tileX (F := Ideal) wd H (ix2 r k) * x12 (ix2 k l)) + x13 (ix2 0 l) := by
    unfold tileL k0_pay16
    rw [show k0_pay15 (k0_pay9 (gath wd H 0)) (k0_pay10 (gath wd H 1)) (k0_pay11 (gath wd H 2)) (k0_pay12 (gath wd H 3)) (k0_pay13 (gath wd H 4)) (k0_pay14 (gath wd H 5)) (gath wd H 6) (gath wd H 7) (gath wd H 8) (gath wd H 9) (gath wd H 10) (gath wd H 11) (gath wd H 12) (gath wd H 13) (gath wd H 14) (gath wd H 15) = tileX (F := Ideal) wd H from rfl]
    generalize tileX (F := Ideal) wd H = Y
    pointwise
  rw [h]
  unfold logit
  simp only [tileX_apply]

/-- The tile's product at a row and a column. -/
theorem tileY_apply (x6 x7 : Vec Ideal S1x2048x512 .bf16) (x8 : Vec Ideal S1x512x2048 .bf16) (x9 x10 : Vec Ideal S1x2048x512 .bf16) (x11 : Vec Ideal S1x512x2048 .bf16)
    (x12 : Vec Ideal S2048x128 .bf16) (x13 : Vec Ideal S1x128 .f32) (wg wu : S16x2048x512.Idx → EReal) (wdn : S16x512x2048.Idx → EReal)
    (h6 : ∀ k f, x6 (ix3 0 k f) = wg (ix3 a k f)) (h7 : ∀ k f, x7 (ix3 0 k f) = wu (ix3 a k f)) (h8 : ∀ f k, x8 (ix3 0 f k) = wdn (ix3 a f k))
    (h9 : ∀ k f, x9 (ix3 0 k f) = wg (ix3 b k f)) (h10 : ∀ k f, x10 (ix3 0 k f) = wu (ix3 b k f)) (h11 : ∀ f k, x11 (ix3 0 f k) = wdn (ix3 b f k))
    (q : Fin 2048) :
    tileY (F := Ideal) wd H (BitVec.ofNat 32 a.val) (BitVec.ofNat 32 b.val) x6 x7 x8 x9 x10 x11 x12 x13 (ix2 r q)
      = rowOut (rowX H (wd r)) a b wg wu wdn x12 x13 q := by
  unfold tileY
  rw [pay24_apply, pay22_apply, pay21_apply, pay17_apply, pay18_apply]
  simp only [pay23_apply, tileX_apply, tileL_apply, h6, h7, h8, h9, h10, h11]
  rfl

end Cert.MoeIdeal.Hand
end
-- ==== Proof.MoeSoftmax.lean ====
/- The router's weights as softmaxes, where the logits are finite. -/
module

public import proofs.«01_k».proof.Proof.MoeValue

@[expose] public section

noncomputable section

open Idealize.ShloMosaic Idealize.ShloMosaic.TcCoe Idealize.SL.Sem

namespace Cert.MoeIdeal.Hand
open Cert.MoeIdeal

/-- An extended real that is a real. -/
def IsNum (x : EReal) : Prop := ∃ r : ℝ, x = (r : EReal)

/-- A sum of numbers is a number. -/
theorem IsNum.add {x y : EReal} (hx : IsNum x) (hy : IsNum y) : IsNum (x + y) := by
  obtain ⟨a, rfl⟩ := hx; obtain ⟨b, rfl⟩ := hy
  exact ⟨a + b, (EReal.coe_add a b).symm⟩

/-- A product of numbers is a number. -/
theorem IsNum.mul {x y : EReal} (hx : IsNum x) (hy : IsNum y) : IsNum (x * y) := by
  obtain ⟨a, rfl⟩ := hx; obtain ⟨b, rfl⟩ := hy
  exact ⟨a * b, (EReal.coe_mul a b).symm⟩

/-- The logits of a finite row, by finite weights, are finite. -/
theorem logit_fin (X : Fin 2048 → EReal) (wr : S2048x128.Idx → EReal) (br : S1x128.Idx → EReal) (hX : ∀ k, IsNum (X k)) (hw : ∀ j, IsNum (wr j)) (hb : ∀ j, IsNum (br j))
    (c : Fin 128) : IsNum (logit X wr br c) :=
  (Finset.sum_induction _ IsNum (fun _ _ => IsNum.add) ⟨0, rfl⟩ fun k _ => (hX k).mul (hw _)).add (hb _)

/-- The softmax over the four groups, at the group of an expert. -/
theorem group_softmax (L : Fin 128 → EReal) (a : Fin 16) (hL : ∀ c, IsNum (L c)) :
    Ideal.div (Ideal.exp (L (glane a))) (∑ c : Fin 4, Ideal.exp (L ⟨c.val, by omega⟩)) = group L a := by
  choose l hl using hL
  unfold group
  simp only [hl, Fin.sum_univ_four, ← EReal.coe_sub, Ideal.exp_coe, ← EReal.coe_add]
  have e (c : Fin 128) : Real.exp (l c) ≠ 0 := (Real.exp_pos _).ne'
  rw [Ideal.div_coe (by positivity), Ideal.div_coe (by positivity), ← EReal.coe_one, ← EReal.coe_mul, ← EReal.coe_mul]
  simp only [Real.exp_sub, ← add_div]
  congr 1
  field_simp

/-- The group's probability is a number. -/
theorem group_fin (L : Fin 128 → EReal) (a : Fin 16) (hL : ∀ c, IsNum (L c)) : IsNum (group L a) := by
  choose l hl using hL
  unfold group
  simp only [hl, Fin.sum_univ_four, ← EReal.coe_sub, Ideal.exp_coe, ← EReal.coe_add]
  rw [Ideal.div_coe (by positivity), ← EReal.coe_one, ← EReal.coe_mul]
  exact ⟨_, rfl⟩

/-- The softmax over two experts, at the first, times the group's probability. -/
theorem weight_softmax (L : Fin 128 → EReal) (a e o : Fin 16) (hL : ∀ c, IsNum (L c)) :
    Ideal.div (Ideal.exp (L (lane e))) (Ideal.exp (L (lane e)) + Ideal.exp (L (lane o))) * group L a = weight L a e o := by
  obtain ⟨p, hp⟩ := group_fin L a hL
  choose l hl using hL
  unfold weight
  rw [hp]
  simp only [hl, ← EReal.coe_sub, Ideal.exp_coe, ← EReal.coe_add, ← EReal.coe_one]
  rw [Ideal.div_coe (by positivity), Ideal.div_coe (by positivity), ← EReal.coe_mul, ← EReal.coe_mul, ← EReal.coe_mul]
  simp only [Real.exp_sub]
  congr 1
  have := Real.exp_pos (l (lane e))
  have := Real.exp_pos (l (lane o))
  field_simp

end Cert.MoeIdeal.Hand

end
-- ==== Proof.MoeFinite.lean ====
/- What the second precondition says of the tables and of what the router reads. -/
module

public import proofs.«01_k».proof.Defs
public import proofs.«01_k».proof.Proof.MoeTable
public import proofs.«01_k».proof.Proof.MoeSoftmax
public import Idealize.ShloMosaic.Lib.WordCmp

@[expose] public section

set_option maxRecDepth 16384

noncomputable section

namespace Cert.MoeIdeal.Hand

open Cert.MoeIdeal Cert.MoeIdeal.Gen
open Idealize.ShloMosaic Idealize.ShloMosaic.TcCoe Idealize.ShloMosaic.WordCmp Idealize.SL.Sem

/-- A value whose magnitude is below infinity is a number. -/
theorem num_of (x : EReal) (h : Ideal.cmp .olt (max x (-x)) (Ideal.ofBits .f32 0x7F800000#32) = 1#1) : IsNum x := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  have ht : x ≠ ⊤ := fun e => by subst e; simp at hlt
  have hb : x ≠ ⊥ := fun e => by subst e; simp at hlt
  exact ⟨x.toReal, (EReal.coe_toReal ht hb).symm⟩

/-- The precondition that also bounds what the router reads: the tables are in range, and the tokens, the router's weights and its bias are numbers. -/
theorem finite_ideal [Cert.Pre_router_finite.Facts] (m : (ℓ : Loc nD τ sig) → Buf (Elt Ideal) ℓ) (h : Cert.Pre_MoeIdeal_router_finite m) :
    Tables m ∧ (∀ j, IsNum (V m 0 main_arg4 j)) ∧ (∀ j, IsNum (V m 0 main_arg8 j)) ∧ (∀ j, IsNum (V m 0 main_arg9 j)) :=
  have r := h 0
  ⟨⟨fun j => (between_lt _ 0 16 (by decide) (by decide) (congrFun r.1 j)).2,
      fun j => (between_lt _ 0 16 (by decide) (by decide) (congrFun r.2.1 j)).2,
      between_le _ 1 72 (by decide) (by decide) (congrFun r.2.2.1 (ix1 0)),
      fun j => (between_lt _ 0 12288 (by decide) (by decide) (congrFun r.2.2.2.1 j)).2⟩,
    fun j => num_of _ (congrFun r.2.2.2.2.1 j), fun j => num_of _ (congrFun r.2.2.2.2.2.1 j), fun j => num_of _ (congrFun r.2.2.2.2.2.2 j)⟩

end Cert.MoeIdeal.Hand

end
-- ==== Proof.MoeFinal.lean ====
/- The array the tile product leaves. -/
module

public import proofs.«01_k».proof.Proof.MoeValue
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.MoeIdeal.Hand
open Cert.MoeIdeal Cert.MoeIdeal.Gen

/-- The expert a table's word names. -/
def ex (T : S72.Idx → BitVec 32) (t : Fin 72) : Fin 16 := ⟨(T (ix1 t)).toNat % 16, Nat.mod_lt _ (by decide)⟩
/-- The token a slot of the row table names. -/
def token (T : S18432.Idx → BitVec 32) (p : Fin 18432) : Fin 12288 := ⟨(T (ix1 p)).toNat % 12288, Nat.mod_lt _ (by decide)⟩

theorem ex_word (T : S72.Idx → BitVec 32) (hT : ∀ j, (T j).toNat < 16) (t : Fin 72) : T (ix1 t) = BitVec.ofNat 32 (ex T t).val := by
  apply BitVec.eq_of_toNat_eq
  have h := hT (ix1 t)
  simp only [ex, BitVec.toNat_ofNat]
  omega

/-- The tiles' rows at a slot and a column: the two experts' where the slot's tile is live, zero elsewhere. -/
def cell (ta tb : S72.Idx → BitVec 32) (tn : S1.Idx → BitVec 32) (ts : S18432.Idx → BitVec 32) (H : S196608x128.Idx → EReal)
    (wg wu : S16x2048x512.Idx → EReal) (wd : S16x512x2048.Idx → EReal) (wr : S2048x128.Idx → EReal) (br : S1x128.Idx → EReal)
    (t : Fin 72) (r : Fin 256) (q : Fin 2048) : EReal :=
  if t.val < (tn (ix1 0)).toNat then rowOut (rowX H (token ts ⟨256 * t.val + r.val, by omega⟩)) (ex ta t) (ex tb t) wg wu wd wr br q else 0

/-- The array: the tiles' rows, sixteen array rows each. -/
def outOf (ta tb : S72.Idx → BitVec 32) (tn : S1.Idx → BitVec 32) (ts : S18432.Idx → BitVec 32) (H : S196608x128.Idx → EReal)
    (wg wu : S16x2048x512.Idx → EReal) (wd : S16x512x2048.Idx → EReal) (wr : S2048x128.Idx → EReal) (br : S1x128.Idx → EReal) :
    FVec Ideal S294912x128 .f32 := fun z =>
  cell ta tb tn ts H wg wu wd wr br ⟨(z 0).val / 4096, by have h : (z 0).val < 294912 := (z 0).isLt; omega⟩
    ⟨(z 0).val % 4096 / 16, by omega⟩ ⟨128 * ((z 0).val % 16) + (z 1).val, by have h : (z 1).val < 128 := (z 1).isLt; omega⟩

section
variable (m : (ℓ : Loc nD τ sig) → Buf (Elt Ideal) ℓ) (a : (pcfg0 (F := Ideal)).Adm)

/-- The tile a point is. -/
def point (t : Fin grid0.N) : Fin 72 := ⟨t.val, lt_of_lt_of_eq t.isLt N_0⟩

theorem coord_tile (t : Fin grid0.N) : (grid0.coords t) 0 = point t := Fin.ext (coord_eq t)

theorem row_a (t : Fin grid0.N) : cc0_transform_1 k0_off1_inb numel1_S1 a.1 (grid0.coords t) = ![(tEa a (ix1 (point t))).toNat, 0, 0] := by
  have h : a.1.at 0 (Rect.unit (s := S72) (k0_off1 (grid0.coords t)) S1.size (k0_off1_inb (grid0.coords t))) numel1_S1 = tEa a (ix1 (point t)) := by
    show tEa a _ = _
    congr 1
    funext x
    apply Fin.ext
    fin_cases x
    have := coord_eq t
    have h2 : t.val < 72 := (point t).isLt
    show (BitVec.ofNat 32 ((grid0.coords t) 0).val).toNat + _ = t.val
    rw [this]
    simp
    omega
  unfold cc0_transform_1
  exact congrArg (fun w : BitVec 32 => ![w.toNat, 0, 0]) h

theorem row_b (t : Fin grid0.N) : cc0_transform_4 k0_off1_inb numel1_S1 a.1 (grid0.coords t) = ![(tEb a (ix1 (point t))).toNat, 0, 0] := by
  have h : a.1.at 1 (Rect.unit (s := S72) (k0_off1 (grid0.coords t)) S1.size (k0_off1_inb (grid0.coords t))) numel1_S1 = tEb a (ix1 (point t)) := by
    show tEb a _ = _
    congr 1
    funext x
    apply Fin.ext
    fin_cases x
    have := coord_eq t
    have h2 : t.val < 72 := (point t).isLt
    show (BitVec.ofNat 32 ((grid0.coords t) 0).val).toNat + _ = t.val
    rw [this]
    simp
    omega
  unfold cc0_transform_4
  exact congrArg (fun w : BitVec 32 => ![w.toNat, 0, 0]) h

/-- An entry of a block that is one expert's matrix, in the array of all sixteen. -/
theorem up_at (e : Fin 16) (k : Fin 2048) (f : Fin 512) (j : S16x2048x512.Idx) (n : Fin 3 → ℕ) (hn : n = ![e.val, 0, 0])
    (h : ∀ x, (j x : ℕ) = n x * S1x2048x512.size x + (ix3 (0 : Fin 1) k f x : ℕ)) : j = ix3 e k f := by
  funext x
  apply Fin.ext
  rw [h x, hn]
  fin_cases x
  · show e.val * 1 + 0 = e.val; omega
  · show 0 * 2048 + k.val = k.val; omega
  · show 0 * 512 + f.val = f.val; omega

theorem down_at (e : Fin 16) (f : Fin 512) (k : Fin 2048) (j : S16x512x2048.Idx) (n : Fin 3 → ℕ) (hn : n = ![e.val, 0, 0])
    (h : ∀ x, (j x : ℕ) = n x * S1x512x2048.size x + (ix3 (0 : Fin 1) f k x : ℕ)) : j = ix3 e f k := by
  funext x
  apply Fin.ext
  rw [h x, hn]
  fin_cases x
  · show e.val * 1 + 0 = e.val; omega
  · show 0 * 512 + f.val = f.val; omega
  · show 0 * 2048 + k.val = k.val; omega

variable (c : Dev nD) (t : Fin (cfg0 a).N) (e : Fin 16)

theorem blk_0 (he : (tEa a (ix1 (point t))).toNat = e.val) (k : Fin 2048) (f : Fin 512) : iblk m a c 0 t (ix3 0 k f) = V m c main_arg5 (ix3 e k f) :=
  congrArg (V m c main_arg5) (up_at e k f _ (((cfg0 a).win 0).index t) (by rw [← he]; exact row_a a t) (Pipeline.Window.rect_emb_val ((cfg0 a).win 0) t (ix3 0 k f)))

theorem blk_1 (he : (tEa a (ix1 (point t))).toNat = e.val) (k : Fin 2048) (f : Fin 512) : iblk m a c 1 t (ix3 0 k f) = V m c main_arg6 (ix3 e k f) :=
  congrArg (V m c main_arg6) (up_at e k f _ (((cfg0 a).win 1).index t) (by rw [← he]; exact row_a a t) (Pipeline.Window.rect_emb_val ((cfg0 a).win 1) t (ix3 0 k f)))

theorem blk_2 (he : (tEa a (ix1 (point t))).toNat = e.val) (f : Fin 512) (k : Fin 2048) : iblk m a c 2 t (ix3 0 f k) = V m c main_arg7 (ix3 e f k) :=
  congrArg (V m c main_arg7) (down_at e f k _ (((cfg0 a).win 2).index t) (by rw [← he]; exact row_a a t) (Pipeline.Window.rect_emb_val ((cfg0 a).win 2) t (ix3 0 f k)))

theorem blk_3 (he : (tEb a (ix1 (point t))).toNat = e.val) (k : Fin 2048) (f : Fin 512) : iblk m a c 3 t (ix3 0 k f) = V m c main_arg5 (ix3 e k f) :=
  congrArg (V m c main_arg5) (up_at e k f _ (((cfg0 a).win 3).index t) (by rw [← he]; exact row_b a t) (Pipeline.Window.rect_emb_val ((cfg0 a).win 3) t (ix3 0 k f)))

theorem blk_4 (he : (tEb a (ix1 (point t))).toNat = e.val) (k : Fin 2048) (f : Fin 512) : iblk m a c 4 t (ix3 0 k f) = V m c main_arg6 (ix3 e k f) :=
  congrArg (V m c main_arg6) (up_at e k f _ (((cfg0 a).win 4).index t) (by rw [← he]; exact row_b a t) (Pipeline.Window.rect_emb_val ((cfg0 a).win 4) t (ix3 0 k f)))

theorem blk_5 (he : (tEb a (ix1 (point t))).toNat = e.val) (f : Fin 512) (k : Fin 2048) : iblk m a c 5 t (ix3 0 f k) = V m c main_arg7 (ix3 e f k) :=
  congrArg (V m c main_arg7) (down_at e f k _ (((cfg0 a).win 5).index t) (by rw [← he]; exact row_b a t) (Pipeline.Window.rect_emb_val ((cfg0 a).win 5) t (ix3 0 f k)))

theorem blk_6 : iblk m a c 6 t = V m c main_arg8 := by
  funext y
  refine congrArg (V m c main_arg8) (funext fun x => Fin.ext ?_)
  exact Pipeline.Window.rect_emb_val_of_index_zero ((cfg0 a).win 6) t x (by fin_cases x <;> rfl) y

theorem blk_7 : iblk m a c 7 t = V m c main_arg9 := by
  funext y
  refine congrArg (V m c main_arg9) (funext fun x => Fin.ext ?_)
  exact Pipeline.Window.rect_emb_val_of_index_zero ((cfg0 a).win 7) t x (by fin_cases x <;> rfl) y

/-- The output's blocks are the array. -/
theorem covers_8 : ((cfg0 a).win 8).Covers := by
  refine Pipeline.Window.covers_of_index_surj _ rfl (show ∀ x : Fin 2, 0 < S4096x128.size x by decide) fun β => ?_
  have h0 : (β (0 : Fin 2)).val < 72 := lt_of_lt_of_eq (β (0 : Fin 2)).isLt (show (294912 + 4096 - 1) / 4096 = 72 from by norm_num)
  refine ⟨⟨(β (0 : Fin 2)).val, lt_of_lt_of_eq h0 N_0.symm⟩, fun x => ?_⟩
  fin_cases x
  · show (BitVec.ofNat 32 ((grid0.coords _) 0).val).toNat = (β (0 : Fin 2)).val
    rw [coord_eq]
    simp
    omega
  · have h1 : (β (1 : Fin 2)).val < 1 := lt_of_lt_of_eq (β (1 : Fin 2)).isLt (show (128 + 128 - 1) / 128 = 1 from by norm_num)
    show 0 = (β (1 : Fin 2)).val
    omega

/-- Where a point's block is in the array. -/
theorem place_8 (y : S4096x128.Idx) (j : S294912x128.Idx) (hj : j = (((cfg0 a).win 8).rect t).emb y) :
    (j 0).val = (point t).val * 4096 + (y 0).val ∧ (j 1).val = (y 1).val := by
  subst hj
  constructor
  · refine (Pipeline.Window.rect_emb_val ((cfg0 a).win 8) t y (0 : Fin 2)).trans ?_
    have ht : (point t).val < 72 := (point t).isLt
    have hi : ((cfg0 a).win 8).index t (0 : Fin 2) = (point t).val := by
      show (BitVec.ofNat 32 ((grid0.coords t) 0).val).toNat = (point t).val
      rw [coord_tile, BitVec.toNat_ofNat]
      omega
    rw [hi]
    rfl
  · exact Pipeline.Window.rect_emb_val_of_index_zero ((cfg0 a).win 8) t (1 : Fin 2) rfl y

/-- An entry of what a point leaves. -/
theorem outBlk_apply (ha : ∀ j, (tEa a j).toNat < 16) (hb : ∀ j, (tEb a j).toNat < 16) (y : S4096x128.Idx) :
    outBlk m a c t y = cell (tEa a) (tEb a) (tNt a) (tSrc a) (V m c main_arg4) (V m c main_arg5) (V m c main_arg6) (V m c main_arg7)
      (V m c main_arg8) (V m c main_arg9) (point t) ⟨(y 0).val / 16, by have h : (y 0).val < 4096 := (y 0).isLt; omega⟩
      ⟨128 * ((y 0).val % 16) + (y 1).val, by have h : (y 1).val < 128 := (y 1).isLt; omega⟩ := by
  unfold outBlk bodyOut cell
  rw [show ((grid0.coords t) 0).val = (point t).val from coord_eq t]
  split
  · have ea : tword (tEa a) (grid0.coords t) = BitVec.ofNat 32 (ex (tEa a) (point t)).val := by
      unfold tword; rw [coord_tile]; exact ex_word _ ha _
    have eb : tword (tEb a) (grid0.coords t) = BitVec.ofNat 32 (ex (tEb a) (point t)).val := by
      unfold tword; rw [coord_tile]; exact ex_word _ hb _
    have ka : (tEa a (ix1 (point t))).toNat = (ex (tEa a) (point t)).val := (Nat.mod_eq_of_lt (ha _)).symm
    have kb : (tEb a (ix1 (point t))).toNat = (ex (tEb a) (point t)).val := (Nat.mod_eq_of_lt (hb _)).symm
    rw [ea, eb]
    unfold spread
    rw [blk_6, blk_7]
    refine (tileY_apply _ _ _ _ _ _ _ _ _ _ _ _ _ (V m c main_arg5) (V m c main_arg6) (V m c main_arg7)
      (blk_0 m a c t _ ka) (blk_1 m a c t _ ka) (blk_2 m a c t _ ka) (blk_3 m a c t _ kb) (blk_4 m a c t _ kb) (blk_5 m a c t _ kb) _).trans ?_
    congr 2
    unfold wdOf token word
    apply Fin.ext
    have h : (y 0).val < 4096 := (y 0).isLt
    have ht : (point t).val < 72 := (point t).isLt
    have hm : (256 * (point t).val + (y 0).val / 16) % 18432 = 256 * (point t).val + (y 0).val / 16 := Nat.mod_eq_of_lt (by omega)
    simp only [hm]
  · pointwise [k0_pay1]

/-- The output after the launch. -/
theorem final (ha : ∀ j, (tEa a j).toNat < 16) (hb : ∀ j, (tEb a j).toNat < 16) : ((dats m a 0 c).arrAt 8 (cfg0 a).N : FVec Ideal S294912x128 .f32)
    = outOf (tEa a) (tEb a) (tNt a) (tSrc a) (V m c main_arg4) (V m c main_arg5) (V m c main_arg6) (V m c main_arg7) (V m c main_arg8) (V m c main_arg9) := by
  refine (dats m a 0 c).arrAt_eq_of_covers 8 _ (covers_8 a) fun t hf (y : S4096x128.Idx) => ?_
  obtain ⟨j, hj⟩ : ∃ j : S294912x128.Idx, j = (((cfg0 a).win 8).rect t).emb y := ⟨_, rfl⟩
  suffices hs : outBlk m a c t y = outOf (tEa a) (tEb a) (tNt a) (tSrc a) (V m c main_arg4) (V m c main_arg5) (V m c main_arg6) (V m c main_arg7) (V m c main_arg8) (V m c main_arg9) j from by
    subst hj; exact hs
  obtain ⟨e0, e1⟩ := place_8 a t y j hj
  have hy0 : (y 0).val < 4096 := (y 0).isLt
  have hy1 : (y 1).val < 128 := (y 1).isLt
  have ht : (point t).val < 72 := (point t).isLt
  rw [outBlk_apply m a c t ha hb]
  unfold outOf
  congr 1
  · exact Fin.ext (by show (point t).val = (j 0).val / 4096; rw [e0]; omega)
  · exact Fin.ext (by show (y 0).val / 16 = (j 0).val % 4096 / 16; rw [e0]; omega)
  · exact Fin.ext (by show 128 * ((y 0).val % 16) + (y 1).val = 128 * ((j 0).val % 16) + (j 1).val; rw [e0, e1]; omega)

end

/-- The run: the result at its entries, the arguments as launched. -/
theorem run (m : (ℓ : Loc nD τ sig) → Buf (Elt Ideal) ℓ) (h : Tables m) (g : Dev nD → PrngReg) :
    θ_run defs (onTc (τ := τ) (main (F := Ideal))) ⟨m, fun _ => 0, g⟩ (fun r => ∀ c : Dev nD,
      r.2.mem ((c.tc : Thread nD τ).loc main_v0) = outOf (V m c main_arg0) (V m c main_arg1) (V m c main_arg2) (V m c main_arg3) (V m c main_arg4)
        (V m c main_arg5) (V m c main_arg6) (V m c main_arg7) (V m c main_arg8) (V m c main_arg9)
      ∧ Kept m c r.2.mem) :=
  (θ_run defs _ _).mono (fun r hr c => ⟨by
    obtain rfl : c = 0 := Subsingleton.elim _ _
    exact ((hr.1 0).1 8).trans (final m (adm h) 0 h.ea h.eb), kept_of h hr.1 c⟩) (run_at g h)

end Cert.MoeIdeal.Hand
end
-- ==== Proof.MoeRef.lean ====
/- The tile product's reference, entry by entry. -/
module

public import proofs.«01_k».proof.Proof.MoeFinal
public import proofs.«01_k».proof.Proof.MoeSoftmax
public import proofs.«01_k».proof.Proof.Gen.MoeRefIdeal.Read
public import Idealize.ShloMosaic.Lib.Routing.Ops

@[expose] public section

set_option maxRecDepth 16384

noncomputable section

open Idealize.ShloMosaic Idealize.ShloMosaic.TcCoe Idealize.SL.Sem

namespace Cert.MoeIdeal.Hand
open Cert.MoeIdeal Cert.MoeRefIdeal.Gen Cert.MoeRefIdeal.Read

/-! ## The two kinds of gather -/

/-- A gather of whole planes of a stack, one per start index. -/
def planeDims (E A B n : ℕ) (wf : GatherDims.WF ⟨3, ![E, A, B]⟩ ⟨2, ![n, 1]⟩ ⟨3, ![n, A, B]⟩ [1, 2] [0] [] [0] [] 1 ![1, A, B]) :
    GatherDims ⟨3, ![E, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- An entry of gathered planes, where the start index is a plane's number. -/
theorem gather_plane {α : Type} {E A B n : ℕ} (wf) (x : (⟨3, ![E, A, B]⟩ : Shape).Idx → α) (idx : IVec ⟨2, ![n, 1]⟩ 32)
    (t : Fin n) (p : Fin A) (q : Fin B) (b : Fin E) (hE : E < 2 ^ 31) (hb : idx (ix2 t 0) = BitVec.ofNat 32 b.val) :
    Host.gather (planeDims E A B n wf) x idx (ix3 t p q) = x (ix3 b p q) := by
  unfold Host.gather
  refine congrArg x (funext fun a => Fin.ext ?_)
  show (planeDims E A B n wf).start (ix3 t p q) idx a + (planeDims E A B n wf).batchCoord (ix3 t p q) a + (planeDims E A B n wf).offCoord (ix3 t p q) a = _
  rw [GatherDims.batchCoord_eq_zero _ _ _ List.not_mem_nil, Nat.add_zero]
  have h12 : ∀ c : Fin 3, c ≠ 0 → c ∉ (planeDims E A B n wf).startIndexMap := fun c hc h => hc (List.mem_singleton.mp h)
  match a with
  | ⟨0, _⟩ =>
    rw [GatherDims.offCoord_eq_zero _ _ _ (fun h => ((GatherDims.mem_sKept _ _).mp h).1 (List.mem_singleton.mpr rfl)), Nat.add_zero]
    show (planeDims E A B n wf).start (ix3 t p q) idx (0 : Fin 3) = b.val
    unfold GatherDims.start
    rw [dif_pos (show (0 : Fin 3) ∈ (planeDims E A B n wf).startIndexMap from List.mem_singleton.mpr rfl)]
    have hsi : (planeDims E A B n wf).siIdx (ix3 t p q) ⟨List.idxOf (0 : Fin 3) (planeDims E A B n wf).startIndexMap,
        List.idxOf_lt_length_iff.2 (List.mem_singleton.mpr rfl)⟩ = ix2 t 0 := by
      funext c
      refine Fin.ext ?_
      match c with
      | ⟨0, _⟩ => rfl
      | ⟨1, _⟩ => rfl
    have hl := b.isLt
    rw [hsi, hb, StableHlo.Predicate.toInt_ofNat_small _ (by omega)]
    show min ((b.val : Int)).toNat (E - 1) = b.val
    rw [Int.toNat_natCast]
    omega
  | ⟨1, _⟩ =>
    show (planeDims E A B n wf).start (ix3 t p q) idx (1 : Fin 3) + _ = p.val
    unfold GatherDims.start
    rw [dif_neg (h12 1 (by decide)), Nat.zero_add]
    rfl
  | ⟨2, _⟩ =>
    show (planeDims E A B n wf).start (ix3 t p q) idx (2 : Fin 3) + _ = q.val
    unfold GatherDims.start
    rw [dif_neg (h12 2 (by decide)), Nat.zero_add]
    rfl

/-- A word that is not negative is its own wrapped index. -/
theorem wrap (w o : BitVec 32) (h : w.toNat < 2 ^ 31) : Scalar.select (IntOp.cmpi CmpIPredicate.slt w 0#32) o w = w := by
  rw [WordCmp.select_of_eq_zero]
  rw [WordCmp.cmpi_slt_zero, decide_eq_false (by omega)]
  rfl

section
variable (x0 x1 : S72.Idx → BitVec 32) (x2 : S1.Idx → BitVec 32) (x3 : S18432.Idx → BitVec 32) (x4 : S196608x128.Idx → EReal)
  (x5 x6 : S16x2048x512.Idx → EReal) (x7 : S16x512x2048.Idx → EReal) (x8 : S2048x128.Idx → EReal) (x9 : S1x128.Idx → EReal)
  (t : Fin 72) (r : Fin 256)

/-- The slot of a tile's row. -/
abbrev at_ : Fin 18432 := ⟨256 * t.val + r.val, by omega⟩

theorem ref_row (h3 : ∀ j, (x3 j).toNat < 12288) (k : Fin 2048) :
    val_main_v10 (F := Ideal) x3 x4 (ix3 t r k) = rowX x4 (token x3 (at_ t r)) k := by
  have hw : val_main_v6 (F := Ideal) x3 (ix2 (at_ t r) 0) = BitVec.ofNat 32 (token x3 (at_ t r)).val := by
    have hs : val_main_v6 (F := Ideal) x3 (ix2 (at_ t r) 0) = x3 (ix1 (at_ t r)) := by
      rw [val_main_v6_apply, val_main_v5_apply, val_main_v2_apply, val_main_v1_apply]
      have hx : idx_main_v6 (ix2 (at_ t r) 0) = ix1 (at_ t r) := by funext a; fin_cases a; rfl
      rw [hx]
      exact wrap _ _ (lt_trans (h3 _) (by decide))
    rw [hs]
    apply BitVec.eq_of_toNat_eq
    have h := h3 (ix1 (at_ t r))
    simp only [token, BitVec.toNat_ofNat]
    omega
  have hg : val_main_v7 (F := Ideal) x3 x4 (ix2 (at_ t r) k) = val_main_v0 (F := Ideal) x4 (ix2 (token x3 (at_ t r)) k) :=
    Routing.gather_row (nb := 12288) (B := 2048) (n := 18432) _ rfl rfl rfl rfl rfl _ _ (at_ t r) k _ hw (by decide)
  have hr : val_main_v0 (F := Ideal) x4 (ix2 (token x3 (at_ t r)) k) = rowX x4 (token x3 (at_ t r)) k := by
    generalize token x3 (at_ t r) = w
    unfold rowX
    simp only [Nat.mul_comm 16]
    pointwise [val_main_v0]
  rw [← hr, ← hg]
  unfold val_main_v10 val_main_v9 val_main_v8
  generalize val_main_v7 (F := Ideal) x3 x4 = Y
  pointwise
  refine congrArg (fun j => Y (ix2 j k)) (Fin.ext ?_)
  show t.val * 256 + r.val = 256 * t.val + r.val
  omega

theorem ref_logit (h3 : ∀ j, (x3 j).toNat < 12288) (l : Fin 128) :
    val_main_v16 (F := Ideal) x3 x4 x8 x9 (ix3 t r l) = logit (rowX x4 (token x3 (at_ t r))) x8 x9 l := by
  unfold logit
  simp only [← ref_row x3 x4 t r h3]
  unfold val_main_v16 val_main_v15 val_main_v14 val_main_v13 val_main_v12 val_main_v11
  generalize val_main_v10 (F := Ideal) x3 x4 = Y
  pointwise

/-- The logits of a tile's row. -/
abbrev lg : Fin 128 → EReal := logit (rowX x4 (token x3 (at_ t r))) x8 x9

theorem quarter : ∀ e : Fin 16, IntOp.divsi .host (BitVec.ofNat 32 e.val) 4#32 = BitVec.ofNat 32 (e.val / 4) := by decide +kernel

/-- The logits are numbers where what they are made of is. -/
theorem lg_num (h4 : ∀ j, IsNum (x4 j)) (h8 : ∀ j, IsNum (x8 j)) (h9 : ∀ j, IsNum (x9 j)) (l : Fin 128) : IsNum (lg x3 x4 x8 x9 t r l) :=
  logit_fin _ _ _ (fun _ => h4 _) h8 h9 l

/-- The softmax over the groups, at the group of the tile's first expert. -/
theorem ref_group (h0 : ∀ j, (x0 j).toNat < 16) (h3 : ∀ j, (x3 j).toNat < 12288)
    (h4 : ∀ j, IsNum (x4 j)) (h8 : ∀ j, IsNum (x8 j)) (h9 : ∀ j, IsNum (x9 j)) :
    val_main_v33 (F := Ideal) x0 x3 x4 x8 x9 (ix3 t r 0) = group (lg x3 x4 x8 x9 t r) (ex x0 t) := by
  have hw : val_main_v26 (F := Ideal) x0 (ix1 t) = BitVec.ofNat 32 ((ex x0 t).val / 4) := by
    rw [← quarter, ← ex_word x0 h0]
    unfold val_main_v26 val_main_v25 val_main_c_1
    pointwise
  have h : val_main_v33 (F := Ideal) x0 x3 x4 x8 x9 (ix3 t r 0)
      = ∑ c : Fin 4, Scalar.select (IntOp.cmpi CmpIPredicate.eq (BitVec.ofNat 32 c.val) (val_main_v26 (F := Ideal) x0 (ix1 t)))
          (val_main_v24 (F := Ideal) x3 x4 x8 x9 (ix3 t r c)) 0 := by
    unfold val_main_v33 val_main_v32 val_main_v31 val_main_v30 val_main_v29 val_main_v28 val_main_v27 val_main_call0_v1 val_main_call0_v0 val_main_cst_2 val_main_cst_3
    simp only [id_eq]
    generalize val_main_v26 (F := Ideal) x0 = W
    generalize val_main_v24 (F := Ideal) x3 x4 x8 x9 = Y
    pointwise
  have hs (c : Fin 4) : val_main_v24 (F := Ideal) x3 x4 x8 x9 (ix3 t r c)
      = Ideal.div (Ideal.exp (val_main_v16 (F := Ideal) x3 x4 x8 x9 (ix3 t r (⟨c.val, by omega⟩ : Fin 128))))
          (∑ k : Fin 4, Ideal.exp (val_main_v16 (F := Ideal) x3 x4 x8 x9 (ix3 t r (⟨k.val, by omega⟩ : Fin 128)))) := by
    unfold val_main_v24 val_main_v23 val_main_v22 val_main_v21 val_main_v20 val_main_v19 val_main_v17 val_main_cst
    generalize val_main_v16 (F := Ideal) x3 x4 x8 x9 = Y
    pointwise
  have hk : (ex x0 t).val / 4 < 4 := by have := (ex x0 t).isLt; omega
  rw [h, pick 4 (by decide) (fun c => val_main_v24 (F := Ideal) x3 x4 x8 x9 (ix3 t r c)) _ ⟨_, hk⟩ hw, hs]
  simp only [ref_logit x3 x4 x8 x9 t r h3]
  exact group_softmax _ _ (lg_num x3 x4 x8 x9 t r h4 h8 h9)

theorem ref_lane_a (h0 : ∀ j, (x0 j).toNat < 16) (h3 : ∀ j, (x3 j).toNat < 12288) :
    val_main_v40 (F := Ideal) x0 x3 x4 x8 x9 (ix3 t r 0) = lg x3 x4 x8 x9 t r (lane (ex x0 t)) := by
  have h : val_main_v40 (F := Ideal) x0 x3 x4 x8 x9 (ix3 t r 0)
      = ∑ c : Fin 16, Scalar.select (IntOp.cmpi CmpIPredicate.eq (BitVec.ofNat 32 c.val) (x0 (ix1 t)))
          (val_main_v16 (F := Ideal) x3 x4 x8 x9 (ix3 t r (lane c))) 0 := by
    unfold val_main_v40 val_main_v39 val_main_v38 val_main_v37 val_main_v36 val_main_v35 val_main_v34 val_main_v18 val_main_call1_v1 val_main_call1_v0 val_main_cst_4 val_main_cst_5 lane
    simp only [id_eq]
    generalize val_main_v16 (F := Ideal) x3 x4 x8 x9 = Y
    pointwise
  rw [h, pick 16 (by decide) (fun c => val_main_v16 (F := Ideal) x3 x4 x8 x9 (ix3 t r (lane c))) _ (ex x0 t) (ex_word x0 h0 t)]
  exact ref_logit x3 x4 x8 x9 t r h3 _

theorem ref_lane_b (h1 : ∀ j, (x1 j).toNat < 16) (h3 : ∀ j, (x3 j).toNat < 12288) :
    val_main_v47 (F := Ideal) x1 x3 x4 x8 x9 (ix3 t r 0) = lg x3 x4 x8 x9 t r (lane (ex x1 t)) :=
  ref_lane_a x1 x3 x4 x8 x9 t r h1 h3

/-- The two experts' logits side by side: the first, -/
theorem ref_pair_a (h0 : ∀ j, (x0 j).toNat < 16) (h3 : ∀ j, (x3 j).toNat < 12288) :
    val_main_v48 (F := Ideal) x0 x1 x3 x4 x8 x9 (ix3 t r 0) = lg x3 x4 x8 x9 t r (lane (ex x0 t)) := by
  rw [← ref_lane_a x0 x3 x4 x8 x9 t r h0 h3]
  unfold val_main_v48
  refine concatenate_pair_apply_left (t := Cert.MoeRefIdeal.S72x256x2) (s₁ := Cert.MoeRefIdeal.S72x256x1) (s₂ := Cert.MoeRefIdeal.S72x256x1) _ _ _ _ (ix3 t r 0) rfl (ix3 t r 0) fun b => ?_
  match b with
  | ⟨0, _⟩ => rfl
  | ⟨1, _⟩ => rfl
  | ⟨2, _⟩ => rfl

/-- and the second. -/
theorem ref_pair_b (h1 : ∀ j, (x1 j).toNat < 16) (h3 : ∀ j, (x3 j).toNat < 12288) :
    val_main_v48 (F := Ideal) x0 x1 x3 x4 x8 x9 (ix3 t r 1) = lg x3 x4 x8 x9 t r (lane (ex x1 t)) := by
  rw [← ref_lane_b x1 x3 x4 x8 x9 t r h1 h3]
  unfold val_main_v48
  refine concatenate_pair_apply_right (t := Cert.MoeRefIdeal.S72x256x2) (s₁ := Cert.MoeRefIdeal.S72x256x1) (s₂ := Cert.MoeRefIdeal.S72x256x1) 2 _ _ _ (ix3 t r 1) rfl rfl (ix3 t r 0) (fun b hb => ?_) rfl
  match b with
  | ⟨0, _⟩ => rfl
  | ⟨1, _⟩ => rfl
  | ⟨2, _⟩ => exact absurd rfl hb

/-- The softmax over the two, times the group's probability. -/
theorem ref_both (k : Fin 2) :
    val_main_v56 (F := Ideal) x0 x1 x3 x4 x8 x9 (ix3 t r k)
      = Ideal.div (Ideal.exp (val_main_v48 (F := Ideal) x0 x1 x3 x4 x8 x9 (ix3 t r k)))
          (Ideal.exp (val_main_v48 (F := Ideal) x0 x1 x3 x4 x8 x9 (ix3 t r 0)) + Ideal.exp (val_main_v48 (F := Ideal) x0 x1 x3 x4 x8 x9 (ix3 t r 1)))
        * val_main_v33 (F := Ideal) x0 x3 x4 x8 x9 (ix3 t r 0) := by
  rw [← Fin.sum_univ_two fun k : Fin 2 => Ideal.exp (val_main_v48 (F := Ideal) x0 x1 x3 x4 x8 x9 (ix3 t r k))]
  unfold val_main_v56 val_main_v55 val_main_v54 val_main_v53 val_main_v52 val_main_v51 val_main_v50 val_main_v49 val_main_cst_8
  generalize val_main_v48 (F := Ideal) x0 x1 x3 x4 x8 x9 = Y
  generalize val_main_v33 (F := Ideal) x0 x3 x4 x8 x9 = P
  pointwise

theorem ref_weight_a (h0 : ∀ j, (x0 j).toNat < 16) (h1 : ∀ j, (x1 j).toNat < 16) (h3 : ∀ j, (x3 j).toNat < 12288)
    (h4 : ∀ j, IsNum (x4 j)) (h8 : ∀ j, IsNum (x8 j)) (h9 : ∀ j, IsNum (x9 j)) :
    val_main_v57 (F := Ideal) x0 x1 x3 x4 x8 x9 (ix3 t r 0) = weight (lg x3 x4 x8 x9 t r) (ex x0 t) (ex x0 t) (ex x1 t) := by
  have h : val_main_v57 (F := Ideal) x0 x1 x3 x4 x8 x9 (ix3 t r 0) = val_main_v56 (F := Ideal) x0 x1 x3 x4 x8 x9 (ix3 t r 0) := by
    unfold val_main_v57
    generalize val_main_v56 (F := Ideal) x0 x1 x3 x4 x8 x9 = Y
    pointwise
  rw [h, ref_both, ref_pair_a x0 x1 x3 x4 x8 x9 t r h0 h3, ref_pair_b x0 x1 x3 x4 x8 x9 t r h1 h3, ref_group x0 x3 x4 x8 x9 t r h0 h3 h4 h8 h9]
  exact weight_softmax _ _ _ _ (lg_num x3 x4 x8 x9 t r h4 h8 h9)

theorem ref_weight_b (h0 : ∀ j, (x0 j).toNat < 16) (h1 : ∀ j, (x1 j).toNat < 16) (h3 : ∀ j, (x3 j).toNat < 12288)
    (h4 : ∀ j, IsNum (x4 j)) (h8 : ∀ j, IsNum (x8 j)) (h9 : ∀ j, IsNum (x9 j)) :
    val_main_v58 (F := Ideal) x0 x1 x3 x4 x8 x9 (ix3 t r 0) = weight (lg x3 x4 x8 x9 t r) (ex x0 t) (ex x1 t) (ex x0 t) := by
  have h : val_main_v58 (F := Ideal) x0 x1 x3 x4 x8 x9 (ix3 t r 0) = val_main_v56 (F := Ideal) x0 x1 x3 x4 x8 x9 (ix3 t r 1) := by
    unfold val_main_v58
    generalize val_main_v56 (F := Ideal) x0 x1 x3 x4 x8 x9 = Y
    pointwise
  rw [h, ref_both, ref_pair_a x0 x1 x3 x4 x8 x9 t r h0 h3, ref_pair_b x0 x1 x3 x4 x8 x9 t r h1 h3, ref_group x0 x3 x4 x8 x9 t r h0 h3 h4 h8 h9, add_comm]
  exact weight_softmax _ _ _ _ (lg_num x3 x4 x8 x9 t r h4 h8 h9)

/-! ## The gathered experts -/

theorem start_word (h0 : ∀ j, (x0 j).toNat < 16) : val_main_v64 (F := Ideal) x0 (ix2 t 0) = BitVec.ofNat 32 (ex x0 t).val := by
  rw [← ex_word x0 h0, val_main_v64_apply, val_main_v63_apply, val_main_v60_apply, val_main_v59_apply]
  have hx : idx_main_v64 (ix2 t 0) = ix1 t := by funext a; fin_cases a; rfl
  rw [hx]
  exact wrap _ _ (lt_trans (h0 _) (by decide))

theorem ref_up (h0 : ∀ j, (x0 j).toNat < 16) (k : Fin 2048) (f : Fin 512) :
    val_main_v65 (F := Ideal) x0 x5 (ix3 t k f) = x5 (ix3 (ex x0 t) k f) :=
  gather_plane Cert.MoeRefIdeal.Facts₀.gather_S16x2048x512_S72x1_S72x2048x512_12_0_n_n_0_1_12048512_wf x5 _ t k f (ex x0 t) (by decide) (start_word x0 t h0)

theorem ref_down (h0 : ∀ j, (x0 j).toNat < 16) (f : Fin 512) (k : Fin 2048) :
    val_main_v81 (F := Ideal) x0 x7 (ix3 t f k) = x7 (ix3 (ex x0 t) f k) :=
  gather_plane Cert.MoeRefIdeal.Facts₀.gather_S16x512x2048_S72x1_S72x512x2048_12_0_n_n_0_1_15122048_wf x7 _ t f k (ex x0 t) (by decide) (start_word x0 t h0)

theorem ref_expert_a (h0 : ∀ j, (x0 j).toNat < 16) (h3 : ∀ j, (x3 j).toNat < 12288) (q : Fin 2048) :
    val_main_v89 (F := Ideal) x0 x3 x4 x5 x6 x7 (ix3 t r q) = expert (rowX x4 (token x3 (at_ t r))) x5 x6 x7 (ex x0 t) q := by
  have hu : ∀ k f, val_main_v73 (F := Ideal) x0 x6 (ix3 t k f) = x6 (ix3 (ex x0 t) k f) := ref_up x0 x6 t h0
  unfold expert
  simp only [← ref_row x3 x4 t r h3, ← ref_up x0 x5 t h0, ← hu, ← ref_down x0 x7 t h0]
  unfold val_main_v89 val_main_v88 val_main_v87 val_main_v86 val_main_v85 val_main_v84 val_main_call3_v5 val_main_call3_v4 val_main_call3_v3 val_main_call3_v2 val_main_call3_v1 val_main_call3_v0 val_main_call3_cst val_main_call3_cst_0 val_main_v83 val_main_v82 val_main_v74 val_main_v66
  generalize val_main_v10 (F := Ideal) x3 x4 = X
  generalize val_main_v65 (F := Ideal) x0 x5 = G
  generalize val_main_v73 (F := Ideal) x0 x6 = U
  generalize val_main_v81 (F := Ideal) x0 x7 = D
  pointwise
  rfl

theorem ref_expert_b (h1 : ∀ j, (x1 j).toNat < 16) (h3 : ∀ j, (x3 j).toNat < 12288) (q : Fin 2048) :
    val_main_v122 (F := Ideal) x1 x3 x4 x5 x6 x7 (ix3 t r q) = expert (rowX x4 (token x3 (at_ t r))) x5 x6 x7 (ex x1 t) q :=
  ref_expert_a x1 x3 x4 x5 x6 x7 t r h1 h3 q

/-! ## The result -/

/-- A tile is live where its number is below the count. -/
theorem live_iff (h2 : (x2 (ix1 0)).toNat ≤ 72) :
    IntOp.cmpi CmpIPredicate.slt (BitVec.ofNat 32 t.val) (x2 (ix1 0)) = 1#1 ↔ t.val < (x2 (ix1 0)).toNat := by
  have h := WordCmp.cmpi_slt_ofNat_eq_one_iff (w := 32) (a := t.val) (b := (x2 (ix1 0)).toNat) (by omega) (by omega)
  rwa [BitVec.ofNat_toNat, BitVec.setWidth_eq] at h

theorem ref_cell (h0 : ∀ j, (x0 j).toNat < 16) (h1 : ∀ j, (x1 j).toNat < 16) (h2 : (x2 (ix1 0)).toNat ≤ 72) (h3 : ∀ j, (x3 j).toNat < 12288)
    (h4 : ∀ j, IsNum (x4 j)) (h8 : ∀ j, IsNum (x8 j)) (h9 : ∀ j, IsNum (x9 j)) (q : Fin 2048) :
    val_main_v131 (F := Ideal) x0 x1 x2 x3 x4 x5 x6 x7 x8 x9 (ix3 t r q) = cell x0 x1 x2 x3 x4 x5 x6 x7 x8 x9 t r q := by
  have h : val_main_v131 (F := Ideal) x0 x1 x2 x3 x4 x5 x6 x7 x8 x9 (ix3 t r q)
      = Scalar.select (IntOp.cmpi CmpIPredicate.slt (BitVec.ofNat 32 t.val) (x2 (ix1 0)))
          (val_main_v57 (F := Ideal) x0 x1 x3 x4 x8 x9 (ix3 t r 0) * val_main_v89 (F := Ideal) x0 x3 x4 x5 x6 x7 (ix3 t r q)
            + val_main_v58 (F := Ideal) x0 x1 x3 x4 x8 x9 (ix3 t r 0) * val_main_v122 (F := Ideal) x1 x3 x4 x5 x6 x7 (ix3 t r q)) 0 := by
    unfold val_main_v131 val_main_call5_v2 val_main_call5_v1 val_main_call5_v0 val_main_cst_21 val_main_v130 val_main_v129 val_main_v128 val_main_v127 val_main_v126
      val_main_v125 val_main_v124 val_main_v123 val_main_v91 val_main_v90
    simp only [id_eq]
    generalize val_main_v57 (F := Ideal) x0 x1 x3 x4 x8 x9 = A
    generalize val_main_v89 (F := Ideal) x0 x3 x4 x5 x6 x7 = A'
    generalize val_main_v58 (F := Ideal) x0 x1 x3 x4 x8 x9 = B
    generalize val_main_v122 (F := Ideal) x1 x3 x4 x5 x6 x7 = B'
    pointwise
  rw [h]
  unfold cell
  split
  · next hl =>
    rw [WordCmp.select_of_eq_one ((live_iff x2 t h2).mpr hl), ref_weight_a x0 x1 x3 x4 x8 x9 t r h0 h1 h3 h4 h8 h9, ref_weight_b x0 x1 x3 x4 x8 x9 t r h0 h1 h3 h4 h8 h9,
      ref_expert_a x0 x3 x4 x5 x6 x7 t r h0 h3, ref_expert_b x1 x3 x4 x5 x6 x7 t r h1 h3]
    rfl
  · next hl =>
    rw [WordCmp.select_of_eq_zero]
    exact (BitVec.eq_zero_or_eq_one _).resolve_right fun hc => hl ((live_iff x2 t h2).mp hc)

/-- The reference's result is the kernel's array. -/
theorem ref_out (h0 : ∀ j, (x0 j).toNat < 16) (h1 : ∀ j, (x1 j).toNat < 16) (h2 : (x2 (ix1 0)).toNat ≤ 72) (h3 : ∀ j, (x3 j).toNat < 12288)
    (h4 : ∀ j, IsNum (x4 j)) (h8 : ∀ j, IsNum (x8 j)) (h9 : ∀ j, IsNum (x9 j)) :
    val_main_v132 (F := Ideal) x0 x1 x2 x3 x4 x5 x6 x7 x8 x9 = outOf x0 x1 x2 x3 x4 x5 x6 x7 x8 x9 := by
  funext z
  rw [val_main_v132_apply]
  unfold outOf
  rw [← ref_cell x0 x1 x2 x3 x4 x5 x6 x7 x8 x9 _ _ h0 h1 h2 h3 h4 h8 h9]
  refine congrArg _ (funext fun a => Fin.ext ?_)
  have hz0 : (z 0).val < 294912 := (z 0).isLt
  have hz1 : (z 1).val < 128 := (z 1).isLt
  match a with
  | ⟨0, _⟩ => show ((z 0).val * 128 + (z 1).val) / 524288 = (z 0).val / 4096; omega
  | ⟨1, _⟩ => show ((z 0).val * 128 + (z 1).val) / 2048 % 256 = (z 0).val % 4096 / 16; omega
  | ⟨2, _⟩ => show ((z 0).val * 128 + (z 1).val) % 2048 = 128 * ((z 0).val % 16) + (z 1).val; omega

end
end Cert.MoeIdeal.Hand
end
-- ==== Proof.lean ====
/- The claims of this certificate, from the runs of the kernel and of the reference and from the equality of what they compute. -/
module

public import proofs.«01_k».proof.Defs
public import proofs.«01_k».proof.Proof.Gen.Lat.Frame
public import proofs.«01_k».proof.Proof.Gen.LatIdeal.Frame
public import proofs.«01_k».proof.Proof.Gen.LatRefIdeal.Run
public import proofs.«01_k».proof.Proof.Gen.LatRefIdeal.Read
public import proofs.«01_k».proof.Proof.ProjValue
public import proofs.«01_k».proof.Proof.Gen.Proj.Frame
public import proofs.«01_k».proof.Proof.Gen.ProjIdeal.Frame
public import proofs.«01_k».proof.Proof.Gen.ProjRefIdeal.Run
public import proofs.«01_k».proof.Proof.Gen.ProjRefIdeal.Read
public import proofs.«01_k».proof.Proof.Gen.Moe.Skeleton
public import proofs.«01_k».proof.Proof.Gen.Moe.Launch
public import proofs.«01_k».proof.Proof.Gen.Moe.Loops
public import proofs.«01_k».proof.Proof.Gen.MoeIdeal.Skeleton
public import proofs.«01_k».proof.Proof.Gen.MoeIdeal.Launch
public import proofs.«01_k».proof.Proof.Gen.MoeIdeal.Loops
public import proofs.«01_k».proof.Proof.Gen.MoeRefIdeal.Run
public import proofs.«01_k».proof.Proof.Gen.MoeRefIdeal.Read
public import proofs.«01_k».proof.Proof.Launch
public import proofs.«01_k».proof.Proof.Final
public import proofs.«01_k».proof.Proof.Tie
public import proofs.«01_k».proof.Proof.MoeTable
public import proofs.«01_k».proof.Proof.MoeFinite
public import proofs.«01_k».proof.Proof.MoeRef
public import Idealize.ShloMosaic.Lib.Claim

@[expose] public section

noncomputable section

namespace Cert.Proof

open Idealize.ShloMosaic Idealize.SL.Sem

/-- The reference runs, keeps its arguments and leaves every counter at zero. -/
theorem frame_lat_ref : Cert.quiescent_LatRefIdeal := by
  intro m g _
  refine (θ_run _ _ _).mono (fun r h => ⟨fun c => (h c).2, ?_⟩) (Cert.LatRefIdeal.Value.run m g)
  exact sem_eq_zero_of_no_sems (by decide) r.2

/-- What the kernel leaves in its result is the reference's term over the same arguments. -/
theorem lat_value (m : (ℓ : Loc Cert.LatIdeal.nD Cert.LatIdeal.τ Cert.LatIdeal.sig) → Buf (Elt Ideal) ℓ)
    (g : Dev Cert.LatIdeal.nD → PrngReg) (c : Dev Cert.LatIdeal.nD) :
    Cert.LatIdeal.Gen.W5 m g c (Proc.devRef .tc Cert.LatIdeal.main_v8)
      = Cert.LatRefIdeal.Read.val_main_v88 (F := Ideal) (m ((c.tc : Thread _ _).loc Cert.LatIdeal.main_arg0))
          (m ((c.tc : Thread _ _).loc Cert.LatIdeal.main_arg1)) (m ((c.tc : Thread _ _).loc Cert.LatIdeal.main_arg2))
          (m ((c.tc : Thread _ _).loc Cert.LatIdeal.main_arg3)) := by
  rw [Cert.Attn.final m g c, Cert.Attn.ctxK, Cert.Attn.ctxV, Cert.Attn.table]
  exact Cert.Attn.tie _ _ _ _ _ (Cert.Attn.padded m g c)

/-- The kernel and the reference end with equal results over the extended reals. -/
theorem algebraic_lat : Cert.algebraic_LatIdeal_LatRefIdeal := by
  intro m g m' g' _ hagree
  refine ⟨fun c => Cert.LatIdeal.Gen.W5 m g c (Proc.devRef .tc Cert.LatIdeal.main_v8), Cert.Attn.run m g, ?_⟩
  refine (θ_run _ _ _).mono (fun r h c => ⟨(h c).1.trans ?_, (h c).2⟩) (Cert.LatRefIdeal.Value.run m' g')
  rw [Cert.LatRefIdeal.Read.val_main_v88_eq, (hagree c).1, (hagree c).2.1, (hagree c).2.2.1, (hagree c).2.2.2]
  exact (lat_value m g c).symm

/-- The projection's reference runs, keeps its arguments and leaves every counter at zero. -/
theorem frame_proj_ref : Cert.quiescent_ProjRefIdeal := by
  intro m g _
  refine (θ_run _ _ _).mono (fun r h => ⟨fun c => (h c).2.2.2, ?_⟩) (Cert.ProjRefIdeal.Value.run m g)
  exact sem_eq_zero_of_no_sems (by decide) r.2

/-- The projection and its reference end with equal results over the extended reals. -/
theorem algebraic_proj : Cert.algebraic_ProjIdeal_ProjRefIdeal := by
  intro m g m' g' _ hagree
  refine ⟨_, _, _, Cert.ProjIdeal.Hand.run m g, ?_⟩
  refine (θ_run _ _ _).mono (fun r h c => ⟨(h c).1.trans ?_, (h c).2.1.trans ?_, (h c).2.2.1.trans ?_, (h c).2.2.2⟩) (Cert.ProjRefIdeal.Value.run m' g')
  · rw [Cert.ProjRefIdeal.Read.val_main_v7_eq, (hagree c).1, (hagree c).2.1, (hagree c).2.2]
    exact Cert.ProjIdeal.Hand.ref_proj _ _ _
  · rw [Cert.ProjRefIdeal.Read.val_main_v8_eq, (hagree c).1, (hagree c).2.1, (hagree c).2.2]
    exact Cert.ProjIdeal.Hand.ref_keys _ _ _
  · rw [Cert.ProjRefIdeal.Read.val_main_v9_eq, (hagree c).1, (hagree c).2.1, (hagree c).2.2]
    exact Cert.ProjIdeal.Hand.ref_values _ _ _

set_option maxRecDepth 65536 in
/-- The printed projection and its idealization have one body at every label. -/
theorem rows {F : FTy → Type} [FloatOps F] (l : Cert.Proj.Λ₀.1) (a : Cert.Proj.Λ₀.2 l) :
   Cert.Proj.defs₀ (F := F) .tc l a = Cert.ProjIdeal.defs₀ (F := F) .tc l a := by
  match l, a with
  | ⟨0, _⟩, (t, s) => rfl
  | ⟨_ + 1, h⟩, _ => exact absurd h (Nat.not_lt.2 (Nat.le_add_left _ _))

set_option maxRecDepth 65536 in
/-- So on every processor. -/
theorem bodies {F : FTy → Type} [FloatOps F] : Cert.Proj.defs₀ (F := F) = Cert.ProjIdeal.defs₀ (F := F) := by
  funext k l a
  match k with
  | .tc => exact rows l a
  | .scScalar _ => rfl
  | .scVector _ _ => rfl

/-- And the pipelined tables built on them are one. -/
theorem tables {F : FTy → Type} [FloatOps F] : Cert.Proj.defs (F := F) = Cert.ProjIdeal.defs (F := F) :=
  congrArg (Pipeline.defs (Cert.Proj.pcfgs (F := F))) bodies

set_option maxRecDepth 65536 in
/-- The projection as printed keeps its arguments, by the run of its idealization at another instance. -/
theorem frame_proj : Cert.quiescent_Proj := by
  intro m g _
  show θ_run (Cert.Proj.defs (F := Bits)) _ _ _
  rw [tables]
  exact Cert.ProjIdeal.Hand.frame (F := Bits) m g

/-- The shape conditions of the precondition's own text. -/
theorem pre_facts : Cert.Pre_tables_in_range.Facts := ⟨by decide, by decide, by decide⟩

/-- The expert layer's reference runs, keeps its arguments and leaves every counter at zero. -/
theorem frame_moe_ref : Cert.quiescent_MoeRefIdeal := by
  intro m g _
  refine (θ_run _ _ _).mono (fun r h => ⟨fun c => (h c).2, ?_⟩) (Cert.MoeRefIdeal.Value.run m g)
  exact sem_eq_zero_of_no_sems (by decide) r.2

/-- The shape conditions of the second precondition's own text. -/
theorem finite_facts : Cert.Pre_router_finite.Facts :=
  ⟨by decide, by decide, by decide, by decide, by decide, by decide, by decide⟩

/-- It does so in particular from memories that meet the second precondition. -/
theorem frame_moe_ref_pre : Cert.quiescent_MoeRefIdeal_pre_router_finite (hPre_router_finite := finite_facts) :=
  fun m g _ => frame_moe_ref m g trivial

set_option maxRecDepth 65536 in
/-- The printed expert layer and its idealization have one body at every label. -/
theorem moe_rows {F : FTy → Type} [FloatOps F] (l : Cert.Moe.Λ₀.1) (a : Cert.Moe.Λ₀.2 l) :
   Cert.Moe.defs₀ (F := F) .tc l a = Cert.MoeIdeal.defs₀ (F := F) .tc l a := by
  match l, a with
  | ⟨0, _⟩, (t, s) => rfl
  | ⟨_ + 1, h⟩, _ => exact absurd h (Nat.not_lt.2 (Nat.le_add_left _ _))

set_option maxRecDepth 65536 in
/-- So on every processor. -/
theorem moe_bodies {F : FTy → Type} [FloatOps F] : Cert.Moe.defs₀ (F := F) = Cert.MoeIdeal.defs₀ (F := F) := by
  funext k l a
  match k with
  | .tc => exact moe_rows l a
  | .scScalar _ => rfl
  | .scVector _ _ => rfl

/-- And the pipelined tables built on them are one. -/
theorem moe_tables {F : FTy → Type} [FloatOps F] : Cert.Moe.defs (F := F) = Cert.MoeIdeal.defs (F := F) :=
  congrArg (Pipeline.defs (Cert.Moe.pcfgs (F := F))) moe_bodies

set_option maxRecDepth 65536 in
/-- The expert layer as printed keeps its arguments where the tables are in range. -/
theorem frame_moe : Cert.quiescent_Moe (hPre_tables_in_range := pre_facts) := by
  intro m g h
  show θ_run (Cert.Moe.defs (F := Bits)) _ _ _
  rw [moe_tables]
  exact Cert.MoeIdeal.Hand.frame (F := Bits) g (@Cert.MoeIdeal.Hand.tables_bits pre_facts m h)

/-- So does its idealization. -/
theorem frame_moe_ideal : Cert.quiescent_MoeIdeal (hPre_tables_in_range := pre_facts) :=
  fun m g h => Cert.MoeIdeal.Hand.frame g (@Cert.MoeIdeal.Hand.tables_ideal pre_facts m h)

/-- And under the second precondition, which asks more. -/
theorem frame_moe_ideal_pre : Cert.quiescent_MoeIdeal_pre_router_finite (hPre_router_finite := finite_facts) :=
  fun m g h => Cert.MoeIdeal.Hand.frame g (@Cert.MoeIdeal.Hand.finite_ideal finite_facts m h).1

/-- The expert layer and its reference end with equal results over the extended reals. -/
theorem algebraic_moe : Cert.algebraic_MoeIdeal_MoeRefIdeal_pre_router_finite (hPre_router_finite := finite_facts) := by
  intro m g m' g' hp hagree
  obtain ⟨h, h4, h8, h9⟩ := @Cert.MoeIdeal.Hand.finite_ideal finite_facts m hp
  refine ⟨_, Cert.MoeIdeal.Hand.run m h g, ?_⟩
  refine (θ_run _ _ _).mono (fun r hr c => ⟨(hr c).1.trans ?_, (hr c).2⟩) (Cert.MoeRefIdeal.Value.run m' g')
  obtain ⟨e0, e1, e2, e3, e4, e5, e6, e7, e8, e9⟩ := hagree c
  replace e0 : StableHlo.launchContents m' c (Proc.devRef .tc Cert.MoeRefIdeal.main_arg0) = Cert.MoeIdeal.Hand.V m c Cert.MoeIdeal.main_arg0 := e0
  replace e1 : StableHlo.launchContents m' c (Proc.devRef .tc Cert.MoeRefIdeal.main_arg1) = Cert.MoeIdeal.Hand.V m c Cert.MoeIdeal.main_arg1 := e1
  replace e2 : StableHlo.launchContents m' c (Proc.devRef .tc Cert.MoeRefIdeal.main_arg2) = Cert.MoeIdeal.Hand.V m c Cert.MoeIdeal.main_arg2 := e2
  replace e3 : StableHlo.launchContents m' c (Proc.devRef .tc Cert.MoeRefIdeal.main_arg3) = Cert.MoeIdeal.Hand.V m c Cert.MoeIdeal.main_arg3 := e3
  replace e4 : StableHlo.launchContents m' c (Proc.devRef .tc Cert.MoeRefIdeal.main_arg4) = Cert.MoeIdeal.Hand.V m c Cert.MoeIdeal.main_arg4 := e4
  replace e5 : StableHlo.launchContents m' c (Proc.devRef .tc Cert.MoeRefIdeal.main_arg5) = Cert.MoeIdeal.Hand.V m c Cert.MoeIdeal.main_arg5 := e5
  replace e6 : StableHlo.launchContents m' c (Proc.devRef .tc Cert.MoeRefIdeal.main_arg6) = Cert.MoeIdeal.Hand.V m c Cert.MoeIdeal.main_arg6 := e6
  replace e7 : StableHlo.launchContents m' c (Proc.devRef .tc Cert.MoeRefIdeal.main_arg7) = Cert.MoeIdeal.Hand.V m c Cert.MoeIdeal.main_arg7 := e7
  replace e8 : StableHlo.launchContents m' c (Proc.devRef .tc Cert.MoeRefIdeal.main_arg8) = Cert.MoeIdeal.Hand.V m c Cert.MoeIdeal.main_arg8 := e8
  replace e9 : StableHlo.launchContents m' c (Proc.devRef .tc Cert.MoeRefIdeal.main_arg9) = Cert.MoeIdeal.Hand.V m c Cert.MoeIdeal.main_arg9 := e9
  rw [Cert.MoeRefIdeal.Read.val_main_v132_eq, e0, e1, e2, e3, e4, e5, e6, e7, e8, e9]
  obtain rfl : c = 0 := Subsingleton.elim _ _
  exact Cert.MoeIdeal.Hand.ref_out _ _ _ _ _ _ _ _ _ _ h.ea h.eb h.nt.2 h.src h4 h8 h9

theorem claim : Cert.Claim :=
  ⟨Cert.Lat.Gen.facts, Cert.LatIdeal.Gen.facts, Cert.LatRefIdeal.Gen.facts,
    Cert.Proj.Gen.facts, Cert.ProjIdeal.Gen.facts, Cert.ProjRefIdeal.Gen.facts,
    Cert.Moe.Gen.facts, Cert.MoeIdeal.Gen.facts, Cert.MoeRefIdeal.Gen.facts, pre_facts, finite_facts,
    fun m g _ => Cert.Lat.Gen.frame m g, fun m g _ => Cert.LatIdeal.Gen.frame m g, frame_lat_ref,
    frame_proj, fun m g _ => Cert.ProjIdeal.Hand.frame m g, frame_proj_ref,
    frame_moe, frame_moe_ideal, frame_moe_ideal_pre, frame_moe_ref, frame_moe_ref_pre,
    IdealRules.named_const.statement Cert.LatIdeal.κ "mask" .f32 0xF149F2CA#32 ⊥ rfl, algebraic_lat, trivial, algebraic_proj,
    trivial, algebraic_moe⟩

end Cert.Proof

end
